-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_inputs [hPre_fox_inputs : Cert.Pre_fox_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_fox_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_inputs [hPre_fox_inputs : Cert.Pre_fox_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_inputs [hPre_proj_inputs : Cert.Pre_proj_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_inputs [hPre_proj_inputs : Cert.Pre_proj_inputs.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7))).1 = (fun _ => 1#1)
    ∧ (Cert.Pre_proj_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7))).2.1 = (fun _ => 1#1)
    ∧ (Cert.Pre_proj_inputs.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fox_inputs [hKernelIdeal : Cert.KernelIdeal.Facts] [hPre_fox_inputs : Cert.Pre_fox_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fox_inputs [hReferenceIdeal : Cert.ReferenceIdeal.Facts] [hPre_fox_inputs : Cert.Pre_fox_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_proj_inputs [hProjIdeal : Cert.ProjIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_ProjReferenceIdeal_pre_proj_inputs [hProjReferenceIdeal : Cert.ProjReferenceIdeal.Facts] [hPre_proj_inputs : Cert.Pre_proj_inputs.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_inputs m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_fox_inputs [hKernelIdeal : Cert.KernelIdeal.Facts] [hReferenceIdeal : Cert.ReferenceIdeal.Facts] [hPre_fox_inputs : Cert.Pre_fox_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v24)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v68) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Proj_ProjIdeal : Prop :=
  True

def algebraic_ProjIdeal_ProjReferenceIdeal_pre_proj_inputs [hProjIdeal : Cert.ProjIdeal.Facts] [hProjReferenceIdeal : Cert.ProjReferenceIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_proj_inputs m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v113_0)) (v1 : (c : Dev Cert.ProjIdeal.nD) → Buf (Elt Ideal) ((c.tc : Thread Cert.ProjIdeal.nD Cert.ProjIdeal.τ).loc Cert.ProjIdeal.main_v113_1)) (v2 : (c : Dev Cert.ProjIdeal.nD) → Buf (Elt Ideal) ((c.tc : Thread Cert.ProjIdeal.nD Cert.ProjIdeal.τ).loc Cert.ProjIdeal.main_v113_2)) (v3 : (c : Dev Cert.ProjIdeal.nD) → Buf (Elt Ideal) ((c.tc : Thread Cert.ProjIdeal.nD Cert.ProjIdeal.τ).loc Cert.ProjIdeal.main_v113_3)) (v4 : (c : Dev Cert.ProjIdeal.nD) → Buf (Elt Ideal) ((c.tc : Thread Cert.ProjIdeal.nD Cert.ProjIdeal.τ).loc Cert.ProjIdeal.main_v113_4)) (v5 : (c : Dev Cert.ProjIdeal.nD) → Buf (Elt Ideal) ((c.tc : Thread Cert.ProjIdeal.nD Cert.ProjIdeal.τ).loc Cert.ProjIdeal.main_v113_5)) (v6 : (c : Dev Cert.ProjIdeal.nD) → Buf (Elt Ideal) ((c.tc : Thread Cert.ProjIdeal.nD Cert.ProjIdeal.τ).loc Cert.ProjIdeal.main_v113_6)) (v7 : (c : Dev Cert.ProjIdeal.nD) → Buf (Elt Ideal) ((c.tc : Thread Cert.ProjIdeal.nD Cert.ProjIdeal.τ).loc Cert.ProjIdeal.main_v113_7)) (v8 : (c : Dev Cert.ProjIdeal.nD) → Buf (Elt Ideal) ((c.tc : Thread Cert.ProjIdeal.nD Cert.ProjIdeal.τ).loc Cert.ProjIdeal.main_v113_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v113_0) = v0 c
          ∧ r.2.mem ((c.tc : Thread Cert.ProjIdeal.nD Cert.ProjIdeal.τ).loc Cert.ProjIdeal.main_v113_1) = v1 c
          ∧ r.2.mem ((c.tc : Thread Cert.ProjIdeal.nD Cert.ProjIdeal.τ).loc Cert.ProjIdeal.main_v113_2) = v2 c
          ∧ r.2.mem ((c.tc : Thread Cert.ProjIdeal.nD Cert.ProjIdeal.τ).loc Cert.ProjIdeal.main_v113_3) = v3 c
          ∧ r.2.mem ((c.tc : Thread Cert.ProjIdeal.nD Cert.ProjIdeal.τ).loc Cert.ProjIdeal.main_v113_4) = v4 c
          ∧ r.2.mem ((c.tc : Thread Cert.ProjIdeal.nD Cert.ProjIdeal.τ).loc Cert.ProjIdeal.main_v113_5) = v5 c
          ∧ r.2.mem ((c.tc : Thread Cert.ProjIdeal.nD Cert.ProjIdeal.τ).loc Cert.ProjIdeal.main_v113_6) = v6 c
          ∧ r.2.mem ((c.tc : Thread Cert.ProjIdeal.nD Cert.ProjIdeal.τ).loc Cert.ProjIdeal.main_v113_7) = v7 c
          ∧ r.2.mem ((c.tc : Thread Cert.ProjIdeal.nD Cert.ProjIdeal.τ).loc Cert.ProjIdeal.main_v113_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v135) = v0 c
          ∧ r.2.mem ((c.tc : Thread Cert.ProjReferenceIdeal.nD Cert.ProjReferenceIdeal.τ).loc Cert.ProjReferenceIdeal.main_v136) = v1 c
          ∧ r.2.mem ((c.tc : Thread Cert.ProjReferenceIdeal.nD Cert.ProjReferenceIdeal.τ).loc Cert.ProjReferenceIdeal.main_v137) = v2 c
          ∧ r.2.mem ((c.tc : Thread Cert.ProjReferenceIdeal.nD Cert.ProjReferenceIdeal.τ).loc Cert.ProjReferenceIdeal.main_v139) = v3 c
          ∧ r.2.mem ((c.tc : Thread Cert.ProjReferenceIdeal.nD Cert.ProjReferenceIdeal.τ).loc Cert.ProjReferenceIdeal.main_v140) = v4 c
          ∧ r.2.mem ((c.tc : Thread Cert.ProjReferenceIdeal.nD Cert.ProjReferenceIdeal.τ).loc Cert.ProjReferenceIdeal.main_v142) = v5 c
          ∧ r.2.mem ((c.tc : Thread Cert.ProjReferenceIdeal.nD Cert.ProjReferenceIdeal.τ).loc Cert.ProjReferenceIdeal.main_v15) = v6 c
          ∧ r.2.mem ((c.tc : Thread Cert.ProjReferenceIdeal.nD Cert.ProjReferenceIdeal.τ).loc Cert.ProjReferenceIdeal.main_v16) = v7 c
          ∧ r.2.mem ((c.tc : Thread Cert.ProjReferenceIdeal.nD Cert.ProjReferenceIdeal.τ).loc Cert.ProjReferenceIdeal.main_v121) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hPre_fox_inputs : Cert.Pre_fox_inputs.Facts) (hPre_proj_inputs : Cert.Pre_proj_inputs.Facts),
    quiescent_Kernel (hKernel := hKernel)
    ∧ quiescent_KernelIdeal (hKernelIdeal := hKernelIdeal)
    ∧ quiescent_KernelIdeal_pre_fox_inputs (hKernelIdeal := hKernelIdeal) (hPre_fox_inputs := hPre_fox_inputs)
    ∧ quiescent_ReferenceIdeal (hReferenceIdeal := hReferenceIdeal)
    ∧ quiescent_ReferenceIdeal_pre_fox_inputs (hReferenceIdeal := hReferenceIdeal) (hPre_fox_inputs := hPre_fox_inputs)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjIdeal_pre_proj_inputs (hProjIdeal := hProjIdeal) (hPre_proj_inputs := hPre_proj_inputs)
    ∧ quiescent_ProjReferenceIdeal (hProjReferenceIdeal := hProjReferenceIdeal)
    ∧ quiescent_ProjReferenceIdeal_pre_proj_inputs (hProjReferenceIdeal := hProjReferenceIdeal) (hPre_proj_inputs := hPre_proj_inputs)
    ∧ preserves_Kernel_KernelIdeal
    ∧ algebraic_KernelIdeal_ReferenceIdeal_pre_fox_inputs (hKernelIdeal := hKernelIdeal) (hReferenceIdeal := hReferenceIdeal) (hPre_fox_inputs := hPre_fox_inputs)
    ∧ preserves_Merge_MergeIdeal
    ∧ algebraic_MergeIdeal_MergeReferenceIdeal (hMergeIdeal := hMergeIdeal) (hMergeReferenceIdeal := hMergeReferenceIdeal)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal_pre_proj_inputs (hProjIdeal := hProjIdeal) (hProjReferenceIdeal := hProjReferenceIdeal) (hPre_proj_inputs := hPre_proj_inputs)
-- ==== Pre_fox_inputs.lean ====
abbrev S32768x1024 : Shape := ⟨2, ![32768, 1024]⟩
abbrev S32768x512 : Shape := ⟨2, ![32768, 512]⟩
abbrev S16x8x2048 : Shape := ⟨3, ![16, 8, 2048]⟩
abbrev S16x2048x4x2x2x64 : Shape := ⟨6, ![16, 2048, 4, 2, 2, 64]⟩
abbrev S16x2048x4x1x1x64 : Shape := ⟨6, ![16, 2048, 4, 1, 1, 64]⟩
abbrev S16x2048x4x64 : Shape := ⟨4, ![16, 2048, 4, 64]⟩
abbrev S16x2048x4x1x64 : Shape := ⟨5, ![16, 2048, 4, 1, 64]⟩
abbrev S16x2048x4x2x64 : Shape := ⟨5, ![16, 2048, 4, 2, 64]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩

class Facts : Prop where
  bitsLt_bf16_f32 : FTy.bits .bf16 < FTy.bits .f32
  shapeCasts_S32768x1024_S16x2048x4x2x2x64 : S32768x1024.ShapeCasts S16x2048x4x2x2x64
  slices_S16x2048x4x2x2x64_S16x2048x4x1x1x64_0_0_0_0_1_0 : S16x2048x4x2x2x64.Slices ![0, 0, 0, 0, 1, 0] S16x2048x4x1x1x64
  shapeCasts_S16x2048x4x1x1x64_S16x2048x4x64 : S16x2048x4x1x1x64.ShapeCasts S16x2048x4x64
  slices_S16x2048x4x2x2x64_S16x2048x4x1x1x64_0_0_0_1_0_0 : S16x2048x4x2x2x64.Slices ![0, 0, 0, 1, 0, 0] S16x2048x4x1x1x64
  bcast_S16x2048x4x64_S16x2048x4x1x64_0_1_2_4 : S16x2048x4x64.BroadcastsInDim S16x2048x4x1x64 (![0, 1, 2, 4] : Fin 4 → Fin S16x2048x4x1x64.rank)
  concatenates_S16x2048x4x1x64_S16x2048x4x1x64_S16x2048x4x2x64_d3 : Shape.Concatenates [S16x2048x4x1x64, S16x2048x4x1x64] S16x2048x4x2x64 3
  shapeCasts_S16x2048x4x2x64_S16x2048x8x64 : S16x2048x4x2x64.ShapeCasts S16x2048x8x64
  slices_S16x2048x4x2x2x64_S16x2048x4x1x1x64_0_0_0_0_0_0 : S16x2048x4x2x2x64.Slices ![0, 0, 0, 0, 0, 0] S16x2048x4x1x1x64
  slices_S16x2048x4x2x2x64_S16x2048x4x1x1x64_0_0_0_1_1_0 : S16x2048x4x2x2x64.Slices ![0, 0, 0, 1, 1, 0] S16x2048x4x1x1x64
  shapeCasts_S32768x512_S16x2048x8x64 : S32768x512.ShapeCasts S16x2048x8x64
  bcast_S_S16x2048x8x64 : S_.BroadcastsInDim S16x2048x8x64 (![] : Fin 0 → Fin S16x2048x8x64.rank)
  transposes_S16x8x2048_S16x2048x8_0_2_1 : S16x8x2048.Transposes [0, 2, 1] S16x2048x8
  bcast_S_S16x2048x8 : S_.BroadcastsInDim S16x2048x8 (![] : Fin 0 → Fin S16x2048x8.rank)
  bcast_S16x2048x8_S16x2048x8x1_0_1_2 : S16x2048x8.BroadcastsInDim S16x2048x8x1 (![0, 1, 2] : Fin 3 → Fin S16x2048x8x1.rank)
  bcast_S16x2048x8x1_S16x2048x8x64_0_1_2_3 : S16x2048x8x1.BroadcastsInDim S16x2048x8x64 (![0, 1, 2, 3] : Fin 4 → Fin S16x2048x8x64.rank)

variable [Facts]

def fn_part1 {F : FTy → Type} [FloatOps F] (main_arg3 : FVec F S16x8x2048 .f32) (main_v9 : FVec F S16x2048x8x64 .f32) (main_v19 : FVec F S16x2048x8x64 .f32) (main_v22 : IVec S16x2048x8x64 1) : IVec S16x2048x8x64 1 :=
  let main_v23 : FVec F S16x2048x8x64 .f32 := Host.absf main_v19
  let main_cst_0 : FVec F S_ .f32 := constant S_ .f32 0x7F800000#32
  let main_v24 : FVec F S16x2048x8x64 .f32 := broadcastInDim S16x2048x8x64 ![] bcast_S_S16x2048x8x64 main_cst_0
  let main_v25 : IVec S16x2048x8x64 1 := cmpf .olt main_v23 main_v24
  let main_v26 : IVec S16x2048x8x64 1 := andi main_v22 main_v25
  let main_v27 : FVec F S16x2048x8 .f32 := (transpose S16x2048x8 [0, 2, 1] · transposes_S16x8x2048_S16x2048x8_0_2_1) main_arg3
  let main_v28 : FVec F S16x2048x8 .f32 := Host.absf main_v27
  let main_cst_1 : FVec F S_ .f32 := constant S_ .f32 0x7F800000#32
  let main_v29 : FVec F S16x2048x8 .f32 := broadcastInDim S16x2048x8 ![] bcast_S_S16x2048x8 main_cst_1
  let main_v30 : IVec S16x2048x8 1 := cmpf .olt main_v28 main_v29
  let main_v31 : IVec S16x2048x8x1 1 := broadcastInDim S16x2048x8x1 ![0, 1, 2] bcast_S16x2048x8_S16x2048x8x1_0_1_2 main_v30
  let main_v32 : IVec S16x2048x8x64 1 := broadcastInDim S16x2048x8x64 ![0, 1, 2, 3] bcast_S16x2048x8x1_S16x2048x8x64_0_1_2_3 main_v31
  let main_v33 : IVec S16x2048x8x64 1 := andi main_v26 main_v32
  let main_cst_2 : FVec F S_ .f32 := constant S_ .f32 0x00000000#32
  let main_v34 : FVec F S16x2048x8x64 .f32 := broadcastInDim S16x2048x8x64 ![] bcast_S_S16x2048x8x64 main_cst_2
  let main_v35 : IVec S16x2048x8x64 1 := cmpf .oeq main_v9 main_v34
  let main_v36 : IVec S16x2048x8x64 1 := andi main_v35 main_v33
  main_v36

def fn {F : FTy → Type} [FloatOps F] (main_arg0 : FVec F S32768x1024 .bf16) (main_arg1 : FVec F S32768x512 .bf16) (main_arg2 : FVec F S32768x512 .bf16) (main_arg3 : FVec F S16x8x2048 .f32) : IVec S16x2048x8x64 1 :=
  let main_v0 : FVec F S32768x1024 .f32 := (extf .f32 · bitsLt_bf16_f32) main_arg0
  let main_v1 : FVec F S16x2048x4x2x2x64 .f32 := shapeCast S16x2048x4x2x2x64 main_v0 shapeCasts_S32768x1024_S16x2048x4x2x2x64
  let main_v2 : FVec F S16x2048x4x1x1x64 .f32 := (extractStridedSlice S16x2048x4x1x1x64 ![0, 0, 0, 0, 1, 0] · slices_S16x2048x4x2x2x64_S16x2048x4x1x1x64_0_0_0_0_1_0) main_v1
  let main_v3 : FVec F S16x2048x4x64 .f32 := shapeCast S16x2048x4x64 main_v2 shapeCasts_S16x2048x4x1x1x64_S16x2048x4x64
  let main_v4 : FVec F S16x2048x4x1x1x64 .f32 := (extractStridedSlice S16x2048x4x1x1x64 ![0, 0, 0, 1, 0, 0] · slices_S16x2048x4x2x2x64_S16x2048x4x1x1x64_0_0_0_1_0_0) main_v1
  let main_v5 : FVec F S16x2048x4x64 .f32 := shapeCast S16x2048x4x64 main_v4 shapeCasts_S16x2048x4x1x1x64_S16x2048x4x64
  let main_v6 : FVec F S16x2048x4x1x64 .f32 := broadcastInDim S16x2048x4x1x64 ![0, 1, 2, 4] bcast_S16x2048x4x64_S16x2048x4x1x64_0_1_2_4 main_v3
  let main_v7 : FVec F S16x2048x4x1x64 .f32 := broadcastInDim S16x2048x4x1x64 ![0, 1, 2, 4] bcast_S16x2048x4x64_S16x2048x4x1x64_0_1_2_4 main_v5
  let main_v8 : FVec F S16x2048x4x2x64 .f32 := (fun a b => concatenate S16x2048x4x2x64 3 [⟨S16x2048x4x1x64, a⟩, ⟨S16x2048x4x1x64, b⟩] concatenates_S16x2048x4x1x64_S16x2048x4x1x64_S16x2048x4x2x64_d3) main_v6 main_v7
  let main_v9 : FVec F S16x2048x8x64 .f32 := shapeCast S16x2048x8x64 main_v8 shapeCasts_S16x2048x4x2x64_S16x2048x8x64
  let main_v10 : FVec F S16x2048x4x1x1x64 .f32 := (extractStridedSlice S16x2048x4x1x1x64 ![0, 0, 0, 0, 0, 0] · slices_S16x2048x4x2x2x64_S16x2048x4x1x1x64_0_0_0_0_0_0) main_v1
  let main_v11 : FVec F S16x2048x4x64 .f32 := shapeCast S16x2048x4x64 main_v10 shapeCasts_S16x2048x4x1x1x64_S16x2048x4x64
  let main_v12 : FVec F S16x2048x4x1x1x64 .f32 := (extractStridedSlice S16x2048x4x1x1x64 ![0, 0, 0, 1, 1, 0] · slices_S16x2048x4x2x2x64_S16x2048x4x1x1x64_0_0_0_1_1_0) main_v1
  let main_v13 : FVec F S16x2048x4x64 .f32 := shapeCast S16x2048x4x64 main_v12 shapeCasts_S16x2048x4x1x1x64_S16x2048x4x64
  let main_v14 : FVec F S16x2048x4x1x64 .f32 := broadcastInDim S16x2048x4x1x64 ![0, 1, 2, 4] bcast_S16x2048x4x64_S16x2048x4x1x64_0_1_2_4 main_v11
  let main_v15 : FVec F S16x2048x4x1x64 .f32 := broadcastInDim S16x2048x4x1x64 ![0, 1, 2, 4] bcast_S16x2048x4x64_S16x2048x4x1x64_0_1_2_4 main_v13
  let main_v16 : FVec F S16x2048x4x2x64 .f32 := (fun a b => concatenate S16x2048x4x2x64 3 [⟨S16x2048x4x1x64, a⟩, ⟨S16x2048x4x1x64, b⟩] concatenates_S16x2048x4x1x64_S16x2048x4x1x64_S16x2048x4x2x64_d3) main_v14 main_v15
  let main_v17 : FVec F S16x2048x8x64 .f32 := shapeCast S16x2048x8x64 main_v16 shapeCasts_S16x2048x4x2x64_S16x2048x8x64
  let main_v18 : FVec F S32768x512 .f32 := (extf .f32 · bitsLt_bf16_f32) main_arg1
  let main_v19 : FVec F S16x2048x8x64 .f32 := shapeCast S16x2048x8x64 main_v18 shapeCasts_S32768x512_S16x2048x8x64
  let main_v20 : FVec F S16x2048x8x64 .f32 := Host.absf main_v17
  let main_cst : FVec F S_ .f32 := constant S_ .f32 0x7F800000#32
  let main_v21 : FVec F S16x2048x8x64 .f32 := broadcastInDim S16x2048x8x64 ![] bcast_S_S16x2048x8x64 main_cst
  let main_v22 : IVec S16x2048x8x64 1 := cmpf .olt main_v20 main_v21
  fn_part1 (F := F) main_arg3 main_v9 main_v19 main_v22
-- ==== Pre_proj_inputs.lean ====
abbrev S32768x1024 : Shape := ⟨2, ![32768, 1024]⟩
abbrev S1024 : Shape := ⟨1, ![1024]⟩
abbrev S1024x4896 : Shape := ⟨2, ![1024, 4896]⟩
abbrev S8 : Shape := ⟨1, ![8]⟩
abbrev S64 : Shape := ⟨1, ![64]⟩
abbrev S3x64 : Shape := ⟨2, ![3, 64]⟩
abbrev S_ : Shape := ⟨0, ![]⟩

class Facts : Prop where
  bcast_S_S32768x1024 : S_.BroadcastsInDim S32768x1024 (![] : Fin 0 → Fin S32768x1024.rank)
  bcast_S_S1024 : S_.BroadcastsInDim S1024 (![] : Fin 0 → Fin S1024.rank)
  bcast_S_S1024x4896 : S_.BroadcastsInDim S1024x4896 (![] : Fin 0 → Fin S1024x4896.rank)

variable [Facts]

def fn {F : FTy → Type} [FloatOps F] (main_arg0 : FVec F S32768x1024 .f32) (main_arg1 : FVec F S1024 .f32) (main_arg2 : FVec F S1024x4896 .f32) (main_arg3 : FVec F S8 .f32) (main_arg4 : FVec F S64 .f32) (main_arg5 : FVec F S3x64 .f32) (main_arg6 : FVec F S64 .f32) (main_arg7 : FVec F S64 .f32) : IVec S32768x1024 1 × IVec S1024 1 × IVec S1024x4896 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4896 .f32 := Host.absf main_arg2
  let main_cst_1 : FVec F S_ .f32 := constant S_ .f32 0x7F800000#32
  let main_v7 : FVec F S1024x4896 .f32 := broadcastInDim S1024x4896 ![] bcast_S_S1024x4896 main_cst_1
  let main_v8 : IVec S1024x4896 1 := cmpf .olt main_v6 main_v7
  (main_v2, main_v5, main_v8)
-- ==== Kernel.lean ====
abbrev S32768x1024 : Shape := ⟨2, ![32768, 1024]⟩
abbrev S32768x512 : Shape := ⟨2, ![32768, 512]⟩
abbrev S16x8x2048 : Shape := ⟨3, ![16, 8, 2048]⟩
abbrev S16x4x2x2048 : Shape := ⟨4, ![16, 4, 2, 2048]⟩
abbrev S256x256 : Shape := ⟨2, ![256, 256]⟩
abbrev S2048x128 : Shape := ⟨2, ![2048, 128]⟩
abbrev S1x1x2x2048 : Shape := ⟨4, ![1, 1, 2, 2048]⟩
abbrev S256x128 : Shape := ⟨2, ![256, 128]⟩
abbrev S512x128 : Shape := ⟨2, ![512, 128]⟩
abbrev S1x1x2x128 : Shape := ⟨4, ![1, 1, 2, 128]⟩
abbrev S2x128 : Shape := ⟨2, ![2, 128]⟩
abbrev S2x1 : Shape := ⟨2, ![2, 1]⟩
abbrev S512x256 : Shape := ⟨2, ![512, 256]⟩
abbrev S1x1x2x256 : Shape := ⟨4, ![1, 1, 2, 256]⟩
abbrev S2x256 : Shape := ⟨2, ![2, 256]⟩
abbrev S1x256 : Shape := ⟨2, ![1, 256]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S16x8x2048, .f32⟩
  | .hbm, ⟨4, _⟩ => ⟨S16x4x2x2048, .f32⟩
  | .hbm, ⟨5, _⟩ => ⟨S32768x512, .bf16⟩
  | .local _ .vmem, ⟨0, _⟩ => ⟨S256x256, .bf16⟩
  | .local _ .vmem, ⟨1, _⟩ => ⟨S256x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x2x2048, .f32⟩
  | .local _ .vmem, ⟨7, _⟩ => ⟨S1x1x2x2048, .f32⟩
  | .local _ .vmem, ⟨8, _⟩ => ⟨S256x128, .bf16⟩
  | .local _ .vmem, ⟨9, _⟩ => ⟨S256x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 4 → Nat :=
  let c0_2 : Index := 0#32
  let c0_3 : Index := 0#32
  let c0_4 : Index := 0#32
  let arg2 : BitVec 32 := BitVec.ofNat 32 (i 2).val
  let c256_i32 : BitVec 32 := 256#32
  let v3 : BitVec 32 := Scalar.muli arg2 c256_i32
  let v4 : BitVec 32 := v3
  let v5 : Index := Scalar.indexCast v4
  ![0, 0, 0, v5.toNat]
def k0_off2 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v14 : Index := Scalar.indexCast v4
  let c0_5 : Index := 0#32
  ![v14.toNat, 0]
def k0_off3 (i : grid0.Coords) : Fin 4 → Nat :=
  let c0_7 : Index := 0#32
  let c0_8 : Index := 0#32
  let c0_9 : Index := 0#32
  let arg2 : BitVec 32 := BitVec.ofNat 32 (i 2).val
  let c256_i32 : BitVec 32 := 256#32
  let v3 : BitVec 32 := Scalar.muli arg2 c256_i32
  let v4 : BitVec 32 := v3
  let v18 : Index := Scalar.indexCast v4
  ![0, 0, 0, v18.toNat]
@[reducible] def k0_t1_loop (i : grid0.Coords) : Scf.Loop 32 :=
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_17 : BitVec 32 := 1#32
  ⟨c0_i32, v58, c1_i32_17⟩
def k0_mult2 (i : grid0.Coords) (k0_t1 : Fin (k0_t1_loop i).trips) : BitVec 32 :=
  let c0_i32 : BitVec 32 := 0#32
  let c1_i32_17 : BitVec 32 := 1#32
  let arg8 : BitVec 32 := Scf.iv c0_i32 c1_i32_17 k0_t1
  let c256_i32_22 : BitVec 32 := 256#32
  let v73 : BitVec 32 := Scalar.muli arg8 c256_i32_22
  v73
def k0_off4 (i : grid0.Coords) (k0_t1 : Fin (k0_t1_loop i).trips) : Fin 2 → Nat :=
  let c0_i32 : BitVec 32 := 0#32
  let c1_i32_17 : BitVec 32 := 1#32
  let arg8 : BitVec 32 := Scf.iv c0_i32 c1_i32_17 k0_t1
  let c256_i32_22 : BitVec 32 := 256#32
  let v73 : BitVec 32 := Scalar.muli arg8 c256_i32_22
  let v74 : BitVec 32 := v73
  let v75 : Index := Scalar.indexCast v74
  let c0_23 : Index := 0#32
  ![v75.toNat, 0]
def k0_off5 (i : grid0.Coords) (k0_t1 : Fin (k0_t1_loop i).trips) : Fin 4 → Nat :=
  let c0_25 : Index := 0#32
  let c0_26 : Index := 0#32
  let c0_27 : Index := 0#32
  let c0_i32 : BitVec 32 := 0#32
  let c1_i32_17 : BitVec 32 := 1#32
  let arg8 : BitVec 32 := Scf.iv c0_i32 c1_i32_17 k0_t1
  let c256_i32_22 : BitVec 32 := 256#32
  let v73 : BitVec 32 := Scalar.muli arg8 c256_i32_22
  let v74 : BitVec 32 := v73
  let v79 : Index := Scalar.indexCast v74
  ![0, 0, 0, v79.toNat]
@[reducible] def k0_t2_loop (i : grid0.Coords) : Scf.Loop 32 :=
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let v55 : BitVec 32 := Scalar.addi c0_i32 v54
  let c1_i32_18 : BitVec 32 := 1#32
  ⟨v58, v55, c1_i32_18⟩
def k0_mult3 (i : grid0.Coords) (k0_t2 : Fin (k0_t2_loop i).trips) : BitVec 32 :=
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_18 : BitVec 32 := 1#32
  let arg8 : BitVec 32 := Scf.iv v58 c1_i32_18 k0_t2
  let c256_i32_22 : BitVec 32 := 256#32
  let v73 : BitVec 32 := Scalar.muli arg8 c256_i32_22
  v73
def k0_off6 (i : grid0.Coords) (k0_t2 : Fin (k0_t2_loop i).trips) : Fin 2 → Nat :=
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_18 : BitVec 32 := 1#32
  let arg8 : BitVec 32 := Scf.iv v58 c1_i32_18 k0_t2
  let c256_i32_22 : BitVec 32 := 256#32
  let v73 : BitVec 32 := Scalar.muli arg8 c256_i32_22
  let v74 : BitVec 32 := v73
  let v75 : Index := Scalar.indexCast v74
  let c0_23 : Index := 0#32
  ![v75.toNat, 0]
def k0_off7 (i : grid0.Coords) (k0_t2 : Fin (k0_t2_loop i).trips) : Fin 4 → Nat :=
  let c0_25 : Index := 0#32
  let c0_26 : Index := 0#32
  let c0_27 : Index := 0#32
  let c0_i32 : BitVec 32 := 0#32
  let arg2 : BitVec 32 := BitVec.ofNat 32 (i 2).val
  let v54 : BitVec 32 := Scalar.subi arg2 c0_i32
  let c1_i32 : BitVec 32 := 1#32
  let v56 : BitVec 32 := Scalar.divsi v54 c1_i32
  let v57 : BitVec 32 := Scalar.muli v56 c1_i32
  let v58 : BitVec 32 := Scalar.addi c0_i32 v57
  let c1_i32_18 : BitVec 32 := 1#32
  let arg8 : BitVec 32 := Scf.iv v58 c1_i32_18 k0_t2
  let c256_i32_22 : BitVec 32 := 256#32
  let v73 : BitVec 32 := Scalar.muli arg8 c256_i32_22
  let v74 : BitVec 32 := v73
  let v79 : Index := Scalar.indexCast v74
  ![0, 0, 0, v79.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S32768x512 : Shape := ⟨2, ![32768, 512]⟩
abbrev S16x8x2048 : Shape := ⟨3, ![16, 8, 2048]⟩
abbrev S16x2048x4x2x2x64 : Shape := ⟨6, ![16, 2048, 4, 2, 2, 64]⟩
abbrev S16x2048x4x1x1x64 : Shape := ⟨6, ![16, 2048, 4, 1, 1, 64]⟩
abbrev S16x2048x4x64 : Shape := ⟨4, ![16, 2048, 4, 64]⟩
abbrev S16x2048x4x1x64 : Shape := ⟨5, ![16, 2048, 4, 1, 64]⟩
abbrev S16x2048x4x2x64 : Shape := ⟨5, ![16, 2048, 4, 2, 64]⟩
abbrev S16x2048x8x64 : Shape := ⟨4, ![16, 2048, 8, 64]⟩
abbrev S16x8x2048x64 : Shape := ⟨4, ![16, 8, 2048, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048x2048 : Shape := ⟨4, ![16, 8, 2048, 2048]⟩
abbrev S16x8x2048x1 : Shape := ⟨4, ![16, 8, 2048, 1]⟩
abbrev S16x8x1x2048 : Shape := ⟨4, ![16, 8, 1, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S16x8x2048, .f32⟩
  | .hbm, ⟨4, _⟩ => ⟨S32768x1024, .f32⟩
  | .hbm, ⟨5, _⟩ => ⟨S16x2048x4x2x2x64, .f32⟩
  | .hbm, ⟨6, _⟩ => ⟨S16x2048x4x1x1x64, .f32⟩
  | .hbm, ⟨7, _⟩ => ⟨S16x2048x4x64, .f32⟩
  | .hbm, ⟨8, _⟩ => ⟨S16x2048x4x1x1x64, .f32⟩
  | .hbm, ⟨9, _⟩ => ⟨S16x2048x4x64, .f32⟩
  | .hbm, ⟨10, _⟩ => ⟨S16x2048x4x1x64, .f32⟩
  | .hbm, ⟨11, _⟩ => ⟨S16x2048x4x1x64, .f32⟩
  | .hbm, ⟨12, _⟩ => ⟨S16x2048x4x2x64, .f32⟩
  | .hbm, ⟨13, _⟩ => ⟨S16x2048x8x64, .f32⟩
  | .hbm, ⟨14, _⟩ => ⟨S16x8x2048x64, .f32⟩
  | .hbm, ⟨15, _⟩ => ⟨S32768x512, .f32⟩
  | .hbm, ⟨16, _⟩ => ⟨S16x2048x8x64, .f32⟩
  | .hbm, ⟨17, _⟩ => ⟨S16x8x2048x64, .f32⟩
  | .hbm, ⟨18, _⟩ => ⟨S32768x512, .f32⟩
  | .hbm, ⟨19, _⟩ => ⟨S16x2048x8x64, .f32⟩
  | .hbm, ⟨20, _⟩ => ⟨S16x8x2048x64, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S16x8x2048x2048, .f32⟩
  | .hbm, ⟨28, _⟩ => ⟨S16x8x2048x1, .f32⟩
  | .hbm, ⟨29, _⟩ => ⟨S16x8x2048x2048, .f32⟩
  | .hbm, ⟨30, _⟩ => ⟨S16x8x2048x2048, .f32⟩
  | .hbm, ⟨31, _⟩ => ⟨S16x8x1x2048, .f32⟩
  | .hbm, ⟨32, _⟩ => ⟨S16x8x2048x2048, .f32⟩
  | .hbm, ⟨33, _⟩ => ⟨S16x8x2048x2048, .f32⟩
  | .hbm, ⟨34, _⟩ => ⟨S_, .f32⟩
  | .hbm, ⟨35, _⟩ => ⟨S_, .f32⟩
  | .hbm, ⟨36, _⟩ => ⟨S16x8x2048x2048, .i1⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S16x8x2048, .f32⟩
  | .hbm, ⟨41, _⟩ => ⟨S_, .f32⟩
  | .hbm, ⟨42, _⟩ => ⟨S16x8x2048, .f32⟩
  | .hbm, ⟨43, _⟩ => ⟨S16x8x2048, .f32⟩
  | .hbm, ⟨44, _⟩ => ⟨S16x8x2048x1, .f32⟩
  | .hbm, ⟨45, _⟩ => ⟨S16x8x2048x2048, .f32⟩
  | .hbm, ⟨46, _⟩ => ⟨S16x8x2048x2048, .f32⟩
  | .hbm, ⟨47, _⟩ => ⟨S16x8x2048x2048, .f32⟩
  | .hbm, ⟨48, _⟩ => ⟨S_, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S_, .f32⟩
  | .hbm, ⟨54, _⟩ => ⟨S_, .f32⟩
  | .hbm, ⟨55, _⟩ => ⟨S16x8x2048x2048, .i1⟩
  | .hbm, ⟨56, _⟩ => ⟨S16x8x2048x2048, .f32⟩
  | .hbm, ⟨57, _⟩ => ⟨S16x8x2048x2048, .f32⟩
  | .hbm, ⟨58, _⟩ => ⟨S16x8x2048x64, .f32⟩
  | .hbm, ⟨59, _⟩ => ⟨S16x2048x8x64, .f32⟩
  | .hbm, ⟨60, _⟩ => ⟨S32768x512, .f32⟩
  | .hbm, ⟨61, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S1024 : Shape := ⟨1, ![1024]⟩
abbrev S1024x4896 : Shape := ⟨2, ![1024, 4896]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024x512 : Shape := ⟨2, ![1024, 512]⟩
abbrev S1024x128 : Shape := ⟨2, ![1024, 128]⟩
abbrev S1024x24 : Shape := ⟨2, ![1024, 24]⟩
abbrev S1024x8 : Shape := ⟨2, ![1024, 8]⟩
abbrev S1024x2048 : Shape := ⟨2, ![1024, 2048]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 36
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x4896, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024x512, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x24, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x8, .f32⟩
  | .hbm, ⟨23, _⟩ => ⟨S1024x2048, .f32⟩
  | .hbm, ⟨24, _⟩ => ⟨S1024x2048, .bf16⟩
  | .hbm, ⟨25, _⟩ => ⟨S2x4x64x1024, .f32⟩
  | .hbm, ⟨26, _⟩ => ⟨S4x2x64x1024, .f32⟩
  | .hbm, ⟨27, _⟩ => ⟨S512x1024, .f32⟩
  | .hbm, ⟨28, _⟩ => ⟨S1x1024, .f32⟩
  | .hbm, ⟨29, _⟩ => ⟨S512x1024, .bf16⟩
  | .hbm, ⟨30, _⟩ => ⟨S512x1024, .bf16⟩
  | .hbm, ⟨31, _⟩ => ⟨S1024x1024, .bf16⟩
  | .hbm, ⟨32, _⟩ => ⟨S1x1024, .f32⟩
  | .hbm, ⟨33, _⟩ => ⟨S1024x5632, .bf16⟩
  | .hbm, ⟨34, _⟩ => ⟨S2816x1024, .bf16⟩
  | .hbm, ⟨35, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S32768x1024 : Shape := ⟨2, ![32768, 1024]⟩
abbrev S32768x512 : Shape := ⟨2, ![32768, 512]⟩
abbrev S1024 : Shape := ⟨1, ![1024]⟩
abbrev S1024x4896 : Shape := ⟨2, ![1024, 4896]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S32768x4x2x64 : Shape := ⟨4, ![32768, 4, 2, 64]⟩
abbrev S32768x2x4x64 : Shape := ⟨4, ![32768, 2, 4, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4896 : Shape := ⟨2, ![32768, 4896]⟩
abbrev S32768x128 : Shape := ⟨2, ![32768, 128]⟩
abbrev S32768x24 : Shape := ⟨2, ![32768, 24]⟩
abbrev S32768x8 : Shape := ⟨2, ![32768, 8]⟩
abbrev S32768x2048 : Shape := ⟨2, ![32768, 2048]⟩
abbrev S32768x5632 : Shape := ⟨2, ![32768, 5632]⟩
abbrev S32768x2816 : Shape := ⟨2, ![32768, 2816]⟩

abbrev nBuf : Space → Nat
  | .hbm => 97
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024, .f32⟩
  | .hbm, ⟨4, _⟩ => ⟨S1024x4896, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S32768x512, .f32⟩
  | .hbm, ⟨12, _⟩ => ⟨S32768x4x2x64, .f32⟩
  | .hbm, ⟨13, _⟩ => ⟨S32768x2x4x64, .f32⟩
  | .hbm, ⟨14, _⟩ => ⟨S32768x512, .f32⟩
  | .hbm, ⟨15, _⟩ => ⟨S32768x512, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S32768x4896, .f32⟩
  | .hbm, ⟨33, _⟩ => ⟨S32768x512, .f32⟩
  | .hbm, ⟨34, _⟩ => ⟨S32768x128, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S32768x128, .f32⟩
  | .hbm, ⟨40, _⟩ => ⟨S32768x24, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x8, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S_, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768x2048, .f32⟩
  | .hbm, ⟨53, _⟩ => ⟨S32768x2048, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S1x1024, .f32⟩
  | .hbm, ⟨77, _⟩ => ⟨S32768x1024, .f32⟩
  | .hbm, ⟨78, _⟩ => ⟨S32768x1024, .f32⟩
  | .hbm, ⟨79, _⟩ => ⟨S32768x5632, .f32⟩
  | .hbm, ⟨80, _⟩ => ⟨S32768x2816, .f32⟩
  | .hbm, ⟨81, _⟩ => ⟨S32768x2816, .f32⟩
  | .hbm, ⟨82, _⟩ => ⟨S32768x2816, .f32⟩
  | .hbm, ⟨83, _⟩ => ⟨S32768x2816, .f32⟩
  | .hbm, ⟨84, _⟩ => ⟨S_, .f32⟩
  | .hbm, ⟨85, _⟩ => ⟨S32768x2816, .f32⟩
  | .hbm, ⟨86, _⟩ => ⟨S32768x2816, .f32⟩
  | .hbm, ⟨87, _⟩ => ⟨S_, .f32⟩
  | .hbm, ⟨88, _⟩ => ⟨S32768x2816, .f32⟩
  | .hbm, ⟨89, _⟩ => ⟨S32768x2816, .f32⟩
  | .hbm, ⟨90, _⟩ => ⟨S32768x2816, .f32⟩
  | .hbm, ⟨91, _⟩ => ⟨S32768x2816, .f32⟩
  | .hbm, ⟨92, _⟩ => ⟨S32768x1024, .f32⟩
  | .hbm, ⟨93, _⟩ => ⟨S_, .f32⟩
  | .hbm, ⟨94, _⟩ => ⟨S32768x1024, .f32⟩
  | .hbm, ⟨95, _⟩ => ⟨S32768x1024, .f32⟩
  | .hbm, ⟨96, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_7 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Ffn.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 9
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x5632, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S_, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x4896 : Shape := ⟨2, ![1024, 4896]⟩
abbrev S8 : Shape := ⟨1, ![8]⟩
abbrev S64 : Shape := ⟨1, ![64]⟩
abbrev S3x64 : Shape := ⟨2, ![3, 64]⟩
abbrev S1024x512 : Shape := ⟨2, ![1024, 512]⟩
abbrev S1024x128 : Shape := ⟨2, ![1024, 128]⟩
abbrev S1024x24 : Shape := ⟨2, ![1024, 24]⟩
abbrev S1024x8 : Shape := ⟨2, ![1024, 8]⟩
abbrev S1024x2048 : Shape := ⟨2, ![1024, 2048]⟩
abbrev S_ : Shape := ⟨0, ![]⟩
abbrev S1024x64 : Shape := ⟨2, ![1024, 64]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1024x96 : Shape := ⟨2, ![1024, 96]⟩
abbrev S1024x1024 : Shape := ⟨2, ![1024, 1024]⟩
abbrev S1024x1920 : Shape := ⟨2, ![1024, 1920]⟩
abbrev S1024x3968 : Shape := ⟨2, ![1024, 3968]⟩
abbrev S768 : Shape := ⟨1, ![768]⟩
abbrev S2816 : Shape := ⟨1, ![2816]⟩
abbrev S1x2816 : Shape := ⟨2, ![1, 2816]⟩
abbrev S24 : Shape := ⟨1, ![24]⟩
abbrev S96 : Shape := ⟨1, ![96]⟩
abbrev S1x128 : Shape := ⟨2, ![1, 128]⟩
abbrev S1x1024 : Shape := ⟨2, ![1, 1024]⟩
abbrev S256x256 : Shape := ⟨2, ![256, 256]⟩
abbrev S32768x512 : Shape := ⟨2, ![32768, 512]⟩
abbrev S32768x256 : Shape := ⟨2, ![32768, 256]⟩
abbrev S32768x128 : Shape := ⟨2, ![32768, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x1 : Shape := ⟨2, ![512, 1]⟩
abbrev S1024x256 : Shape := ⟨2, ![1024, 256]⟩
abbrev S1x256 : Shape := ⟨2, ![1, 256]⟩

abbrev nBuf : Space → Nat
  | .hbm => 163
  | .vmem => 26
  | .smem => 0
  | _ => 0

abbrev hbmTy0_0 (i : Nat) : BufTy := match i % 128 with
  | 0 => ⟨S32768x1024, .f32⟩
  | 1 => ⟨S1024, .f32⟩
  | 2 => ⟨S1024x4896, .f32⟩
  | 3 => ⟨S8, .f32⟩
  | 4 => ⟨S64, .f32⟩
  | 5 => ⟨S3x64, .f32⟩
  | 6 => ⟨S64, .f32⟩
  | 7 => ⟨S64, .f32⟩
  | 8 => ⟨S1024x512, .f32⟩
  | 9 => ⟨S1024x128, .f32⟩
  | 10 => ⟨S1024x128, .f32⟩
  | 11 => ⟨S1024x128, .f32⟩
  | 12 => ⟨S1024x128, .f32⟩
  | 13 => ⟨S1024x128, .f32⟩
  | 14 => ⟨S1024x128, .f32⟩
  | 15 => ⟨S1024x24, .f32⟩
  | 16 => ⟨S1024x512, .f32⟩
  | 17 => ⟨S1024x512, .f32⟩
  | 18 => ⟨S1024x512, .f32⟩
  | 19 => ⟨S1024x8, .f32⟩
  | 20 => ⟨S1024x2048, .f32⟩
  | 21 => ⟨S_, .f32⟩
  | 22 => ⟨S1024x64, .f32⟩
  | 23 => ⟨S_, .f32⟩
  | 24 => ⟨S64, .f32⟩
  | 25 => ⟨S1024x64, .f32⟩
  | 26 => ⟨S_, .f32⟩
  | 27 => ⟨S64, .f32⟩
  | 28 => ⟨S64, .f32⟩
  | 29 => ⟨S1024x64, .f32⟩
  | 30 => ⟨S_, .f32⟩
  | 31 => ⟨S64, .f32⟩
  | 32 => ⟨S64, .f32⟩
  | 33 => ⟨S1024x64, .f32⟩
  | 34 => ⟨S_, .f32⟩
  | 35 => ⟨S64, .f32⟩
  | 36 => ⟨S64, .f32⟩
  | 37 => ⟨S1024x64, .f32⟩
  | 38 => ⟨S_, .f32⟩
  | 39 => ⟨S64, .f32⟩
  | 40 => ⟨S64, .f32⟩
  | 41 => ⟨S1024x64, .f32⟩
  | 42 => ⟨S_, .f32⟩
  | 43 => ⟨S64, .f32⟩
  | 44 => ⟨S64, .f32⟩
  | 45 => ⟨S1024x64, .f32⟩
  | 46 => ⟨S_, .f32⟩
  | 47 => ⟨S64, .f32⟩
  | 48 => ⟨S64, .f32⟩
  | 49 => ⟨S1024x64, .f32⟩
  | 50 => ⟨S_, .f32⟩
  | 51 => ⟨S64, .f32⟩
  | 52 => ⟨S64, .f32⟩
  | 53 => ⟨S1024x64, .f32⟩
  | 54 => ⟨S_, .f32⟩
  | 55 => ⟨S64, .f32⟩
  | 56 => ⟨S64, .f32⟩
  | 57 => ⟨S1024x64, .f32⟩
  | 58 => ⟨S_, .f32⟩
  | 59 => ⟨S64, .f32⟩
  | 60 => ⟨S64, .f32⟩
  | 61 => ⟨S1024x64, .f32⟩
  | 62 => ⟨S_, .f32⟩
  | 63 => ⟨S64, .f32⟩
  | 64 => ⟨S64, .f32⟩
  | 65 => ⟨S1024x64, .f32⟩
  | 66 => ⟨S_, .f32⟩
  | 67 => ⟨S64, .f32⟩
  | 68 => ⟨S64, .f32⟩
  | 69 => ⟨S1024x64, .f32⟩
  | 70 => ⟨S_, .f32⟩
  | 71 => ⟨S64, .f32⟩
  | 72 => ⟨S64, .f32⟩
  | 73 => ⟨S1024x64, .f32⟩
  | 74 => ⟨S_, .f32⟩
  | 75 => ⟨S64, .f32⟩
  | 76 => ⟨S64, .f32⟩
  | 77 => ⟨S1024x64, .f32⟩
  | 78 => ⟨S_, .f32⟩
  | 79 => ⟨S64, .f32⟩
  | 80 => ⟨S64, .f32⟩
  | 81 => ⟨S1024x64, .f32⟩
  | 82 => ⟨S_, .f32⟩
  | 83 => ⟨S64, .f32⟩
  | 84 => ⟨S64, .f32⟩
  | 85 => ⟨S1024x64, .f32⟩
  | 86 => ⟨S_, .f32⟩
  | 87 => ⟨S64, .f32⟩
  | 88 => ⟨S64, .f32⟩
  | 89 => ⟨S1x64, .f32⟩
  | 90 => ⟨S8x64, .f32⟩
  | 91 => ⟨S512, .f32⟩
  | 92 => ⟨S1x64, .f32⟩
  | 93 => ⟨S64, .f32⟩
  | 94 => ⟨S1x64, .f32⟩
  | 95 => ⟨S2x64, .f32⟩
  | 96 => ⟨S128, .f32⟩
  | 97 => ⟨S1x64, .f32⟩
  | 98 => ⟨S64, .f32⟩
  | 99 => ⟨S1x64, .f32⟩
  | 100 => ⟨S2x64, .f32⟩
  | 101 => ⟨S128, .f32⟩
  | 102 => ⟨S_, .f32⟩
  | 103 => ⟨S1024x96, .f32⟩
  | 104 => ⟨S1024x1024, .f32⟩
  | 105 => ⟨S1024x1024, .f32⟩
  | 106 => ⟨S1024x1920, .f32⟩
  | 107 => ⟨S1024x3968, .f32⟩
  | 108 => ⟨S1024x3968, .bf16⟩
  | 109 => ⟨S1024, .f32⟩
  | 110 => ⟨S1024, .f32⟩
  | 111 => ⟨S768, .f32⟩
  | 112 => ⟨S2816, .f32⟩
  | 113 => ⟨S1x2816, .f32⟩
  | 114 => ⟨S_, .f32⟩
  | 115 => ⟨S24, .f32⟩
  | 116 => ⟨S_, .f32⟩
  | 117 => ⟨S96, .f32⟩
  | 118 => ⟨S128, .f32⟩
  | 119 => ⟨S1x128, .f32⟩
  | 120 => ⟨S1024x2048, .bf16⟩
  | 121 => ⟨S1x1024, .f32⟩
  | 122 => ⟨S256x256, .i32⟩
  | 123 => ⟨S_, .i32⟩
  | 124 => ⟨S256x256, .i32⟩
  | 125 => ⟨S256x256, .i32⟩
  | 126 => ⟨S256x256, .i32⟩
  | 127 => ⟨S_, .i32⟩
  | _ => ⟨S32768x1024, .f32⟩

abbrev hbmTy0_1 (i : Nat) : BufTy := match i % 128 with
  | 0 => ⟨S256x256, .i32⟩
  | 1 => ⟨S256x256, .i32⟩
  | 2 => ⟨S256x256, .i1⟩
  | 3 => ⟨S_, .f32⟩
  | 4 => ⟨S_, .f32⟩
  | 5 => ⟨S256x256, .f32⟩
  | 6 => ⟨S256x256, .f32⟩
  | 7 => ⟨S256x256, .f32⟩
  | 8 => ⟨S256x256, .f32⟩
  | 9 => ⟨S256x256, .bf16⟩
  | 10 => ⟨S256x256, .i32⟩
  | 11 => ⟨S_, .i32⟩
  | 12 => ⟨S256x256, .i32⟩
  | 13 => ⟨S256x256, .i32⟩
  | 14 => ⟨S256x256, .i32⟩
  | 15 => ⟨S_, .i32⟩
  | 16 => ⟨S256x256, .i32⟩
  | 17 => ⟨S256x256, .i32⟩
  | 18 => ⟨S256x256, .i1⟩
  | 19 => ⟨S_, .f32⟩
  | 20 => ⟨S_, .f32⟩
  | 21 => ⟨S256x256, .f32⟩
  | 22 => ⟨S256x256, .f32⟩
  | 23 => ⟨S256x256, .f32⟩
  | 24 => ⟨S256x256, .f32⟩
  | 25 => ⟨S256x256, .bf16⟩
  | 26 => ⟨S32768x1024, .bf16⟩
  | 27 => ⟨S32768x1024, .bf16⟩
  | 28 => ⟨S32768x512, .bf16⟩
  | 29 => ⟨S32768x256, .bf16⟩
  | 30 => ⟨S32768x512, .bf16⟩
  | 31 => ⟨S32768x256, .bf16⟩
  | 32 => ⟨S32768x128, .f32⟩
  | 33 => ⟨S32768x128, .f32⟩
  | 34 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3968, .bf16⟩
  | .local _ .vmem, ⟨4, _⟩ => ⟨S1x2816, .f32⟩
  | .local _ .vmem, ⟨5, _⟩ => ⟨S1x128, .f32⟩
  | .local _ .vmem, ⟨6, _⟩ => ⟨S256x256, .bf16⟩
  | .local _ .vmem, ⟨7, _⟩ => ⟨S256x256, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S512x512, .bf16⟩
  | .local _ .vmem, ⟨17, _⟩ => ⟨S512x512, .bf16⟩
  | .local _ .vmem, ⟨18, _⟩ => ⟨S512x256, .bf16⟩
  | .local _ .vmem, ⟨19, _⟩ => ⟨S512x256, .bf16⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_cst_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_20 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_21 : Ref sig .tc := ⟨.hbm, 131, rfl⟩
abbrev main_cst_22 : Ref sig .tc := ⟨.hbm, 132, rfl⟩
abbrev main_call0_v0 : Ref sig .tc := ⟨.hbm, 133, rfl⟩
abbrev main_call0_v1 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_23 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_24 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_cst_26 : Ref sig .tc := ⟨.hbm, 148, rfl⟩
abbrev main_call1_v0 : Ref sig .tc := ⟨.hbm, 149, rfl⟩
abbrev main_call1_v1 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113_0 : Ref sig .tc := ⟨.hbm, 154, rfl⟩
abbrev main_v113_1 : Ref sig .tc := ⟨.hbm, 155, rfl⟩
abbrev main_v113_2 : Ref sig .tc := ⟨.hbm, 156, rfl⟩
abbrev main_v113_3 : Ref sig .tc := ⟨.hbm, 157, rfl⟩
abbrev main_v113_4 : Ref sig .tc := ⟨.hbm, 158, rfl⟩
abbrev main_v113_5 : Ref sig .tc := ⟨.hbm, 159, rfl⟩
abbrev main_v113_6 : Ref sig .tc := ⟨.hbm, 160, rfl⟩
abbrev main_v113_7 : Ref sig .tc := ⟨.hbm, 161, rfl⟩
abbrev main_v113_8 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjReferenceIdeal.lean ====
abbrev S32768x1024 : Shape := ⟨2, ![32768, 1024]⟩
abbrev S1024 : Shape := ⟨1, ![1024]⟩
abbrev S1024x4896 : Shape := ⟨2, ![1024, 4896]⟩
abbrev S8 : Shape := ⟨1, ![8]⟩
abbrev S64 : Shape := ⟨1, ![64]⟩
abbrev S3x64 : Shape := ⟨2, ![3, 64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4896 : Shape := ⟨2, ![32768, 4896]⟩
abbrev S32768x512 : Shape := ⟨2, ![32768, 512]⟩
abbrev S32768x128 : Shape := ⟨2, ![32768, 128]⟩
abbrev S32768x24 : Shape := ⟨2, ![32768, 24]⟩
abbrev S32768x8 : Shape := ⟨2, ![32768, 8]⟩
abbrev S32768x2048 : Shape := ⟨2, ![32768, 2048]⟩
abbrev S32768x8x64 : Shape := ⟨3, ![32768, 8, 64]⟩
abbrev S32768x8x1 : Shape := ⟨3, ![32768, 8, 1]⟩
abbrev S1x1x64 : Shape := ⟨3, ![1, 1, 64]⟩
abbrev S32768x2x64 : Shape := ⟨3, ![32768, 2, 64]⟩
abbrev S1x64 : Shape := ⟨2, ![1, 64]⟩
abbrev S32768x2 : Shape := ⟨2, ![32768, 2]⟩
abbrev S32768x2x1 : Shape := ⟨3, ![32768, 2, 1]⟩
abbrev S32768x4x2x64 : Shape := ⟨4, ![32768, 4, 2, 64]⟩
abbrev S1x8 : Shape := ⟨2, ![1, 8]⟩
abbrev S32768x96 : Shape := ⟨2, ![32768, 96]⟩
abbrev S32768x104 : Shape := ⟨2, ![32768, 104]⟩
abbrev S32768x4x64 : Shape := ⟨3, ![32768, 4, 64]⟩
abbrev S32768x16x64 : Shape := ⟨3, ![32768, 16, 64]⟩
abbrev S32768x2x2x4x64 : Shape := ⟨5, ![32768, 2, 2, 4, 64]⟩
abbrev S32768x2x4x2x64 : Shape := ⟨5, ![32768, 2, 4, 2, 64]⟩
abbrev S32768x4x1x64 : Shape := ⟨4, ![32768, 4, 1, 64]⟩
abbrev S32768x4x256 : Shape := ⟨3, ![32768, 4, 256]⟩
abbrev S32768x256 : Shape := ⟨2, ![32768, 256]⟩

abbrev nBuf : Space → Nat
  | .hbm => 190
  | .vmem => 0
  | .smem => 0
  | _ => 0

abbrev hbmTy0_0 (i : Nat) : BufTy := match i % 128 with
  | 0 => ⟨S32768x1024, .f32⟩
  | 1 => ⟨S1024, .f32⟩
  | 2 => ⟨S1024x4896, .f32⟩
  | 3 => ⟨S8, .f32⟩
  | 4 => ⟨S64, .f32⟩
  | 5 => ⟨S3x64, .f32⟩
  | 6 => ⟨S64, .f32⟩
  | 7 => ⟨S64, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x4896, .f32⟩
  | 25 => ⟨S32768x512, .f32⟩
  | 26 => ⟨S32768x128, .f32⟩
  | 27 => ⟨S32768x128, .f32⟩
  | 28 => ⟨S32768x128, .f32⟩
  | 29 => ⟨S32768x128, .f32⟩
  | 30 => ⟨S32768x128, .f32⟩
  | 31 => ⟨S32768x128, .f32⟩
  | 32 => ⟨S32768x24, .f32⟩
  | 33 => ⟨S32768x512, .f32⟩
  | 34 => ⟨S32768x512, .f32⟩
  | 35 => ⟨S32768x512, .f32⟩
  | 36 => ⟨S32768x8, .f32⟩
  | 37 => ⟨S32768x2048, .f32⟩
  | 38 => ⟨S32768x8x64, .f32⟩
  | 39 => ⟨S32768x8x64, .f32⟩
  | 40 => ⟨S_, .f32⟩
  | 41 => ⟨S32768x8, .f32⟩
  | 42 => ⟨S32768x8x1, .f32⟩
  | 43 => ⟨S_, .f32⟩
  | 44 => ⟨S32768x8x1, .f32⟩
  | 45 => ⟨S32768x8x1, .f32⟩
  | 46 => ⟨S_, .f32⟩
  | 47 => ⟨S32768x8x1, .f32⟩
  | 48 => ⟨S32768x8x1, .f32⟩
  | 49 => ⟨S32768x8x1, .f32⟩
  | 50 => ⟨S32768x8x64, .f32⟩
  | 51 => ⟨S32768x8x64, .f32⟩
  | 52 => ⟨S1x1x64, .f32⟩
  | 53 => ⟨S32768x8x64, .f32⟩
  | 54 => ⟨S32768x8x64, .f32⟩
  | 55 => ⟨S_, .f32⟩
  | 56 => ⟨S32768x8x64, .f32⟩
  | 57 => ⟨S32768x8x64, .f32⟩
  | 58 => ⟨S32768x2x64, .f32⟩
  | 59 => ⟨S1x64, .f32⟩
  | 60 => ⟨S64, .f32⟩
  | 61 => ⟨S32768x2x64, .f32⟩
  | 62 => ⟨S_, .f32⟩
  | 63 => ⟨S32768x2, .f32⟩
  | 64 => ⟨S32768x2x1, .f32⟩
  | 65 => ⟨S_, .f32⟩
  | 66 => ⟨S32768x2x1, .f32⟩
  | 67 => ⟨S32768x2x1, .f32⟩
  | 68 => ⟨S_, .f32⟩
  | 69 => ⟨S32768x2x1, .f32⟩
  | 70 => ⟨S32768x2x1, .f32⟩
  | 71 => ⟨S32768x2x1, .f32⟩
  | 72 => ⟨S32768x2x64, .f32⟩
  | 73 => ⟨S32768x2x64, .f32⟩
  | 74 => ⟨S1x1x64, .f32⟩
  | 75 => ⟨S32768x2x64, .f32⟩
  | 76 => ⟨S32768x2x64, .f32⟩
  | 77 => ⟨S32768x128, .f32⟩
  | 78 => ⟨S32768x2x64, .f32⟩
  | 79 => ⟨S1x64, .f32⟩
  | 80 => ⟨S64, .f32⟩
  | 81 => ⟨S32768x2x64, .f32⟩
  | 82 => ⟨S_, .f32⟩
  | 83 => ⟨S32768x2, .f32⟩
  | 84 => ⟨S32768x2x1, .f32⟩
  | 85 => ⟨S_, .f32⟩
  | 86 => ⟨S32768x2x1, .f32⟩
  | 87 => ⟨S32768x2x1, .f32⟩
  | 88 => ⟨S_, .f32⟩
  | 89 => ⟨S32768x2x1, .f32⟩
  | 90 => ⟨S32768x2x1, .f32⟩
  | 91 => ⟨S32768x2x1, .f32⟩
  | 92 => ⟨S32768x2x64, .f32⟩
  | 93 => ⟨S32768x2x64, .f32⟩
  | 94 => ⟨S1x1x64, .f32⟩
  | 95 => ⟨S32768x2x64, .f32⟩
  | 96 => ⟨S32768x2x64, .f32⟩
  | 97 => ⟨S32768x128, .f32⟩
  | 98 => ⟨S32768x8x64, .f32⟩
  | 99 => ⟨S32768x8x64, .f32⟩
  | 100 => ⟨S_, .f32⟩
  | 101 => ⟨S32768x8, .f32⟩
  | 102 => ⟨S32768x8x1, .f32⟩
  | 103 => ⟨S_, .f32⟩
  | 104 => ⟨S32768x8x1, .f32⟩
  | 105 => ⟨S32768x8x1, .f32⟩
  | 106 => ⟨S_, .f32⟩
  | 107 => ⟨S32768x8x1, .f32⟩
  | 108 => ⟨S32768x8x1, .f32⟩
  | 109 => ⟨S32768x8x1, .f32⟩
  | 110 => ⟨S32768x8x64, .f32⟩
  | 111 => ⟨S32768x8x64, .f32⟩
  | 112 => ⟨S1x1x64, .f32⟩
  | 113 => ⟨S32768x8x64, .f32⟩
  | 114 => ⟨S32768x8x64, .f32⟩
  | 115 => ⟨S_, .f32⟩
  | 116 => ⟨S32768x8x64, .f32⟩
  | 117 => ⟨S32768x8x64, .f32⟩
  | 118 => ⟨S32768x4x2x64, .f32⟩
  | 119 => ⟨S32768x8x64, .f32⟩
  | 120 => ⟨S32768x8x64, .f32⟩
  | 121 => ⟨S_, .f32⟩
  | 122 => ⟨S32768x8, .f32⟩
  | 123 => ⟨S32768x8x1, .f32⟩
  | 124 => ⟨S_, .f32⟩
  | 125 => ⟨S32768x8x1, .f32⟩
  | 126 => ⟨S32768x8x1, .f32⟩
  | 127 => ⟨S_, .f32⟩
  | _ => ⟨S32768x1024, .f32⟩

abbrev hbmTy0_1 (i : Nat) : BufTy := match i % 128 with
  | 0 => ⟨S32768x8x1, .f32⟩
  | 1 => ⟨S32768x8x1, .f32⟩
  | 2 => ⟨S32768x8x1, .f32⟩
  | 3 => ⟨S32768x8x64, .f32⟩
  | 4 => ⟨S32768x8x64, .f32⟩
  | 5 => ⟨S1x1x64, .f32⟩
  | 6 => ⟨S32768x8x64, .f32⟩
  | 7 => ⟨S32768x8x64, .f32⟩
  | 8 => ⟨S32768x512, .f32⟩
  | 9 => ⟨S1x8, .f32⟩
  | 10 => ⟨S32768x8, .f32⟩
  | 11 => ⟨S32768x8, .f32⟩
  | 12 => ⟨S_, .f32⟩
  | 13 => ⟨S32768x96, .f32⟩
  | 14 => ⟨S32768x104, .f32⟩
  | 15 => ⟨S32768x104, .f32⟩
  | 16 => ⟨S_, .f32⟩
  | 17 => ⟨S32768x104, .f32⟩
  | 18 => ⟨S32768x104, .f32⟩
  | 19 => ⟨S32768x104, .f32⟩
  | 20 => ⟨S32768x104, .f32⟩
  | 21 => ⟨S32768x104, .i1⟩
  | 22 => ⟨S32768x104, .f32⟩
  | 23 => ⟨S32768x104, .f32⟩
  | 24 => ⟨S32768x104, .f32⟩
  | 25 => ⟨S32768x104, .f32⟩
  | 26 => ⟨S32768x104, .f32⟩
  | 27 => ⟨S32768x104, .f32⟩
  | 28 => ⟨S32768x104, .f32⟩
  | 29 => ⟨S32768x104, .f32⟩
  | 30 => ⟨S32768x104, .f32⟩
  | 31 => ⟨S32768x24, .f32⟩
  | 32 => ⟨S32768x24, .f32⟩
  | 33 => ⟨S_, .f32⟩
  | 34 => ⟨S32768x24, .f32⟩
  | 35 => ⟨S32768x24, .f32⟩
  | 36 => ⟨S_, .f32⟩
  | 37 => ⟨S32768x24, .f32⟩
  | 38 => ⟨S32768x24, .f32⟩
  | 39 => ⟨S32768x128, .f32⟩
  | 40 => ⟨S_, .f32⟩
  | 41 => ⟨S32768x4x64, .f32⟩
  | 42 => ⟨S32768x4x64, .f32⟩
  | 43 => ⟨S32768x4x64, .f32⟩
  | 44 => ⟨S32768x16x64, .f32⟩
  | 45 => ⟨S32768x2x2x4x64, .f32⟩
  | 46 => ⟨S32768x2x4x2x64, .f32⟩
  | 47 => ⟨S32768x1024, .f32⟩
  | 48 => ⟨S32768x4x1x64, .f32⟩
  | 49 => ⟨S32768x4x64, .f32⟩
  | 50 => ⟨S32768x4x1x64, .f32⟩
  | 51 => ⟨S32768x4x64, .f32⟩
  | 52 => ⟨S32768x4x256, .f32⟩
  | 53 => ⟨S32768x1024, .f32⟩
  | 54 => ⟨S32768x1024, .bf16⟩
  | 55 => ⟨S32768x1024, .bf16⟩
  | 56 => ⟨S32768x512, .bf16⟩
  | 57 => ⟨S32768x256, .f32⟩
  | 58 => ⟨S32768x256, .bf16⟩
  | 59 => ⟨S32768x512, .bf16⟩
  | 60 => ⟨S32768x256, .f32⟩
  | 61 => ⟨S32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_cst_14 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_16 : Ref sig .tc := ⟨.hbm, 121, rfl⟩
abbrev main_v96 : Ref sig .tc := ⟨.hbm, 122, rfl⟩
abbrev main_v97 : Ref sig .tc := ⟨.hbm, 123, rfl⟩
abbrev main_cst_17 : Ref sig .tc := ⟨.hbm, 124, rfl⟩
abbrev main_v98 : Ref sig .tc := ⟨.hbm, 125, rfl⟩
abbrev main_v99 : Ref sig .tc := ⟨.hbm, 126, rfl⟩
abbrev main_cst_18 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_19 : Ref sig .tc := ⟨.hbm, 140, rfl⟩
abbrev main_v112 : Ref sig .tc := ⟨.hbm, 141, rfl⟩
abbrev main_v113 : Ref sig .tc := ⟨.hbm, 142, rfl⟩
abbrev main_call0_v0 : Ref sig .tc := ⟨.hbm, 143, rfl⟩
abbrev main_call0_call0_cst : Ref sig .tc := ⟨.hbm, 144, rfl⟩
abbrev main_call0_call0_v0 : Ref sig .tc := ⟨.hbm, 145, rfl⟩
abbrev main_call0_call0_v1 : Ref sig .tc := ⟨.hbm, 146, rfl⟩
abbrev main_call0_call0_v2 : Ref sig .tc := ⟨.hbm, 147, rfl⟩
abbrev main_call0_call0_v3 : Ref sig .tc := ⟨.hbm, 148, rfl⟩
abbrev main_call0_call0_v4 : Ref sig .tc := ⟨.hbm, 149, rfl⟩
abbrev main_call0_call0_v5 : Ref sig .tc := ⟨.hbm, 150, rfl⟩
abbrev main_call0_call0_v6 : Ref sig .tc := ⟨.hbm, 151, rfl⟩
abbrev main_call0_call0_v7 : Ref sig .tc := ⟨.hbm, 152, rfl⟩
abbrev main_call0_call0_v8 : Ref sig .tc := ⟨.hbm, 153, rfl⟩
abbrev main_call0_call0_v9 : Ref sig .tc := ⟨.hbm, 154, rfl⟩
abbrev main_call0_call0_v10 : Ref sig .tc := ⟨.hbm, 155, rfl⟩
abbrev main_call0_call0_v11 : Ref sig .tc := ⟨.hbm, 156, rfl⟩
abbrev main_call0_v1 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_20 : Ref sig .tc := ⟨.hbm, 161, rfl⟩
abbrev main_v117 : Ref sig .tc := ⟨.hbm, 162, rfl⟩
abbrev main_v118 : Ref sig .tc := ⟨.hbm, 163, rfl⟩
abbrev main_cst_21 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_22 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩

abbrev nD : Nat := 1
abbrev τ : Topo := Topo.v7x

variable {F : FTy → Type} [FloatOps F]
-- ==== Proof.FoxFrames.lean ====
/- The frames of the forgetting attention, and its one named constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_fox_inputs
public import Idealize.ShloMosaic.Lib.Claim

@[expose] public section

noncomputable section

namespace Cert.Proof

open Idealize.ShloMosaic Idealize.ShloMosaic.TcCoe Idealize.SL.Sem

theorem frame_Kernel : Cert.quiescent_Kernel := fun m ρ _ => Cert.Kernel.Gen.frame m ρ

theorem frame_KernelIdeal : Cert.quiescent_KernelIdeal := fun m ρ _ => Cert.KernelIdeal.Gen.frame m ρ

theorem frame_KernelIdeal_pre : Cert.quiescent_KernelIdeal_pre_fox_inputs := fun m ρ _ => Cert.KernelIdeal.Gen.frame m ρ

theorem frame_ReferenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_ReferenceIdeal_pre : Cert.quiescent_ReferenceIdeal_pre_fox_inputs := fun m ρ _ =>
  (θ_run Cert.ReferenceIdeal.defs _ _).mono (fun r h => ⟨fun c => (h c).2, sem_eq_zero_of_no_sems (by decide) r.2⟩) (Cert.ReferenceIdeal.Value.run m ρ)

theorem preserves_mask : Cert.preserves_Kernel_KernelIdeal :=
  IdealRules.named_const.statement Cert.KernelIdeal.κ "mask" .f32 0xF149F2CA#32 ⊥ rfl

end Cert.Proof

end
-- ==== Proof.MergeFrames.lean ====
/- The frames of the merge: the kernel as printed, its idealization, and the reference. -/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import Idealize.ShloMosaic.Lib.Claim

@[expose] public section

noncomputable section

namespace Cert.Proof

open Idealize.ShloMosaic Idealize.ShloMosaic.TcCoe Idealize.SL.Sem

theorem frame_Merge : Cert.quiescent_Merge := fun m ρ _ => Cert.Merge.Gen.frame m ρ

theorem frame_MergeIdeal : Cert.quiescent_MergeIdeal := fun m ρ _ => Cert.MergeIdeal.Gen.frame m ρ

theorem frame_MergeReferenceIdeal : Cert.quiescent_MergeReferenceIdeal := fun m ρ _ =>
  (θ_run Cert.MergeReferenceIdeal.defs _ _).mono (fun r h => ⟨fun c => (h c).2, sem_eq_zero_of_no_sems (by decide) r.2⟩) (Cert.MergeReferenceIdeal.Value.run m ρ)

end Cert.Proof

end
-- ==== Proof.FfnFrames.lean ====
/- The frames of the first feed-forward: the kernel as printed, its idealization, and the reference. -/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import Idealize.ShloMosaic.Lib.Claim

@[expose] public section

noncomputable section

namespace Cert.Proof

open Idealize.ShloMosaic Idealize.ShloMosaic.TcCoe Idealize.SL.Sem

theorem frame_Ffn : Cert.quiescent_Ffn := fun m ρ _ => Cert.Ffn.Gen.frame m ρ

theorem frame_FfnIdeal : Cert.quiescent_FfnIdeal := fun m ρ _ => Cert.FfnIdeal.Gen.frame m ρ

theorem frame_FfnReferenceIdeal : Cert.quiescent_FfnReferenceIdeal := fun m ρ _ =>
  (θ_run Cert.FfnReferenceIdeal.defs _ _).mono (fun r h => ⟨fun c => (h c).2, sem_eq_zero_of_no_sems (by decide) r.2⟩) (Cert.FfnReferenceIdeal.Value.run m ρ)

end Cert.Proof

end
-- ==== Proof.ProjFrames.lean ====
/- The frames of the input projection: the kernel as printed, its idealization, and the reference. -/
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.Pre_proj_inputs
public import Idealize.ShloMosaic.Lib.Claim

@[expose] public section

noncomputable section

namespace Cert.Proof

open Idealize.ShloMosaic Idealize.ShloMosaic.TcCoe Idealize.SL.Sem

theorem frame_Proj : Cert.quiescent_Proj := fun m ρ _ => Cert.Proj.Gen.frame m ρ

theorem frame_ProjIdeal : Cert.quiescent_ProjIdeal := fun m ρ _ => Cert.ProjIdeal.Gen.frame m ρ

theorem frame_ProjIdeal_pre : Cert.quiescent_ProjIdeal_pre_proj_inputs := fun m ρ _ => Cert.ProjIdeal.Gen.frame m ρ

theorem frame_ProjReferenceIdeal : Cert.quiescent_ProjReferenceIdeal := fun m ρ _ =>
  (θ_run Cert.ProjReferenceIdeal.defs _ _).mono (fun r h => ⟨fun c => (h c).2.2.2.2.2.2.2.2.2, sem_eq_zero_of_no_sems (by decide) r.2⟩) (Cert.ProjReferenceIdeal.Value.run m ρ)

theorem frame_ProjReferenceIdeal_pre : Cert.quiescent_ProjReferenceIdeal_pre_proj_inputs := fun m ρ _ =>
  (θ_run Cert.ProjReferenceIdeal.defs _ _).mono (fun r h => ⟨fun c => (h c).2.2.2.2.2.2.2.2.2, sem_eq_zero_of_no_sems (by decide) r.2⟩) (Cert.ProjReferenceIdeal.Value.run m ρ)

end Cert.Proof

end
-- ==== Proof.Rows.lean ====
/- The arithmetic of one row of the layer's gated feed-forward block, over the extended reals: the normalization of a
   row by its root mean square, the gate `x · σ(x)`, and the residual block built from them. Both the kernels' blocks
   and the references are read down to these. -/
module

public import Idealize.ShloMosaic.Lib.Pointwise

@[expose] public section

noncomputable section

namespace Cert.Rows

open Idealize.ShloMosaic

/-- The normalized row: each element times the reciprocal root of the mean square (plus a small constant), times its
    gain. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- `a · σ(a) · b`: the gated product. -/
def gate (a b : EReal) : EReal := a * Ideal.logistic a * b

/-- Hidden unit `f` of a row `n`: columns `f` and `2816 + f` of the up projection, gated. -/
def hidden (n : Fin 1024 → EReal) (w : Fin 1024 → Fin 5632 → EReal) (f : Fin 2816) : EReal :=
  gate (∑ k, n k * w k ⟨f.val, by omega⟩) (∑ k, n k * w k ⟨2816 + f.val, by omega⟩)

/-- A row through the residual block: itself plus half of the gated feed-forward of its normalization. -/
def ffn (x g : Fin 1024 → EReal) (w : Fin 1024 → Fin 5632 → EReal) (v : Fin 2816 → Fin 1024 → EReal) (j : Fin 1024) : EReal :=
  x j + Ideal.ofBits .f32 0x3F000000#32 * ∑ f, hidden (rms x g) w f * v f j

/-- The sum over the hidden units taken in two halves. -/
theorem ffn_halves (x g : Fin 1024 → EReal) (w : Fin 1024 → Fin 5632 → EReal) (v : Fin 2816 → Fin 1024 → EReal) (j : Fin 1024) :
    ffn x g w v j = x j + Ideal.ofBits .f32 0x3F000000#32 *
      ((∑ f : Fin 1408, hidden (rms x g) w ⟨f.val, by omega⟩ * v ⟨f.val, by omega⟩ j)
        + ∑ f : Fin 1408, hidden (rms x g) w ⟨1408 + f.val, by omega⟩ * v ⟨1408 + f.val, by omega⟩ j) := by
  unfold ffn
  congr 2
  rw [Fin.sum_univ_add (a := 1408) (b := 1408) (f := fun f : Fin (1408 + 1408) => hidden (rms x g) w f * v f j)]
  rfl

end Cert.Rows

end
-- ==== Proof.Softmax.lean ====
/- Softmax sums over a growing set of keys. With the greatest logit `M`, the sum of the weights `L` and the weighted sum of
   values `A` of the keys seen so far, a further tile of keys rescales `L` and `A` and adds its own part; at the end `A / L` is
   the softmax of all keys. Everything is over the extended reals, where a masked key has the logit `⊥` and the weight 0. -/
module

public import proofs.«01_k».proof.Proof.Rows

@[expose] public section

noncomputable section

namespace Cert.Soft

open Idealize.ShloMosaic

/-- The weight of a key with logit `x` relative to `m`. -/
def wt (x m : EReal) : EReal := Ideal.exp (x - m)

theorem wt_bot (m : EReal) : wt ⊥ m = 0 := by
  rw [wt, EReal.bot_sub, Ideal.exp_bot]

theorem wt_top (x : EReal) : wt x ⊤ = 0 := by
  rw [wt, EReal.sub_top, Ideal.exp_bot]

theorem wt_coe (x m : ℝ) : wt x m = ((Real.exp (x - m) : ℝ) : EReal) := by
  rw [wt, ← EReal.coe_sub, Ideal.exp_coe]

/-- Below its reference a weight is a real between 0 and 1. -/
theorem wt_real {x m : EReal} (h : x ≤ m) : ∃ r : ℝ, 0 ≤ r ∧ r ≤ 1 ∧ wt x m = r := by
  induction m with
  | top => exact ⟨0, le_rfl, zero_le_one, wt_top x⟩
  | bot => rw [le_bot_iff.1 h]; exact ⟨0, le_rfl, zero_le_one, wt_bot _⟩
  | coe m =>
    induction x with
    | top => exact absurd (top_le_iff.1 h) (EReal.coe_ne_top m)
    | bot => exact ⟨0, le_rfl, zero_le_one, wt_bot _⟩
    | coe x => exact ⟨_, (Real.exp_pos _).le, Real.exp_le_one_iff.2 (sub_nonpos.2 (EReal.coe_le_coe_iff.1 h)), wt_coe x m⟩

theorem wt_nonneg {x m : EReal} (h : x ≤ m) : 0 ≤ wt x m := by
  obtain ⟨r, h0, -, e⟩ := wt_real h
  rw [e]
  exact EReal.coe_nonneg.2 h0

theorem wt_ne_top {x m : EReal} (h : x ≤ m) : wt x m ≠ ⊤ := by
  obtain ⟨r, -, -, e⟩ := wt_real h
  rw [e]
  exact EReal.coe_ne_top r

/-- Weights change reference by a factor. -/
theorem wt_trans {x m n : EReal} (h : x ≤ m) (h' : m ≤ n) : wt m n * wt x m = wt x n := by
  induction n with
  | top => rw [wt_top, wt_top, zero_mul]
  | bot =>
    have hm := le_bot_iff.1 h'
    subst hm
    rw [le_bot_iff.1 h, wt_bot, mul_zero]
  | coe n =>
    induction m with
    | top => exact absurd (top_le_iff.1 h') (EReal.coe_ne_top n)
    | bot => rw [le_bot_iff.1 h, wt_bot, wt_bot, mul_zero]
    | coe m =>
      induction x with
      | top => exact absurd (top_le_iff.1 h) (EReal.coe_ne_top m)
      | bot => rw [wt_bot, wt_bot, mul_zero]
      | coe x =>
        rw [wt_coe, wt_coe, wt_coe, ← EReal.coe_mul, ← Real.exp_add]
        congr 2
        ring

/-- A real added to both leaves a weight. -/
theorem wt_shift (x m : EReal) (c : ℝ) : wt (x + c) (m + c) = wt x m := by
  induction m with
  | top => rw [EReal.top_add_coe, wt_top, wt_top]
  | bot =>
    induction x with
    | top => rw [EReal.top_add_coe, EReal.bot_add]
    | bot => rw [EReal.bot_add]
    | coe x => rw [EReal.bot_add, ← EReal.coe_add, wt, wt, EReal.sub_bot (EReal.coe_ne_bot _), EReal.sub_bot (EReal.coe_ne_bot _)]
  | coe m =>
    induction x with
    | top => rw [EReal.top_add_coe, ← EReal.coe_add, wt, wt, EReal.top_sub_coe, EReal.top_sub_coe]
    | bot => rw [EReal.bot_add, wt_bot, wt_bot]
    | coe x =>
      rw [← EReal.coe_add, ← EReal.coe_add, wt_coe, wt_coe]
      congr 2
      ring

/-- A nonnegative real distributes over a sum. -/
theorem mul_sum {ι : Type*} (S : Finset ι) (f : ι → EReal) {a : EReal} (h0 : 0 ≤ a) (ht : a ≠ ⊤) : a * ∑ s ∈ S, f s = ∑ s ∈ S, a * f s := by
  classical
  induction S using Finset.induction_on with
  | empty => simp
  | insert s S hs ih => rw [Finset.sum_insert hs, Finset.sum_insert hs, EReal.left_distrib_of_nonneg_of_ne_top h0 ht, ih]

theorem coe_sum {ι : Type*} (S : Finset ι) (f : ι → ℝ) : ((∑ s ∈ S, f s : ℝ) : EReal) = ∑ s ∈ S, (f s : EReal) := by
  classical
  induction S using Finset.induction_on with
  | empty => simp
  | insert s S hs ih => rw [Finset.sum_insert hs, Finset.sum_insert hs, EReal.coe_add, ih]

section

variable {ι : Type*} (x v : ι → EReal)

/-- The greatest logit of the keys in `S`. -/
def M (S : Finset ι) : EReal := S.sup x

/-- The sum of their weights. -/
def L (S : Finset ι) : EReal := ∑ s ∈ S, wt (x s) (M x S)

/-- The weighted sum of their values. -/
def A (S : Finset ι) : EReal := ∑ s ∈ S, wt (x s) (M x S) * v s

theorem le_M {S : Finset ι} {s : ι} (h : s ∈ S) : x s ≤ M x S := Finset.le_sup h

variable [DecidableEq ι] {n : ℕ} (S : Finset ι) (e : Fin n ↪ ι)

theorem M_step : M x (S ∪ Finset.univ.map e) = max (M x S) (Finset.univ.sup fun j => x (e j)) := by
  rw [M, Finset.sup_union, Finset.sup_map]
  rfl

theorem M_le_step : M x S ≤ M x (S ∪ Finset.univ.map e) := (M_step x S e).symm ▸ le_max_left _ _

theorem L_step (hd : Disjoint S (Finset.univ.map e)) :
    L x (S ∪ Finset.univ.map e)
      = wt (M x S) (M x (S ∪ Finset.univ.map e)) * L x S + ∑ j, wt (x (e j)) (M x (S ∪ Finset.univ.map e)) := by
  have h := M_le_step x S e
  rw [L, L, Finset.sum_union hd, Finset.sum_map, mul_sum _ _ (wt_nonneg h) (wt_ne_top h)]
  exact congrArg (· + _) (Finset.sum_congr rfl fun s hs => (wt_trans (le_M x hs) h).symm)

theorem A_step (hd : Disjoint S (Finset.univ.map e)) :
    A x v (S ∪ Finset.univ.map e)
      = wt (M x S) (M x (S ∪ Finset.univ.map e)) * A x v S + ∑ j, wt (x (e j)) (M x (S ∪ Finset.univ.map e)) * v (e j) := by
  have h := M_le_step x S e
  rw [A, A, Finset.sum_union hd, Finset.sum_map, mul_sum _ _ (wt_nonneg h) (wt_ne_top h)]
  refine congrArg (· + _) (Finset.sum_congr rfl fun s hs => ?_)
  rw [← mul_assoc, wt_trans (le_M x hs) h]

end

/-- Masked keys change none of the three. -/
theorem M_univ {ι : Type*} [Fintype ι] (x : ι → EReal) (S : Finset ι) (h : ∀ s, s ∉ S → x s = ⊥) : M x S = M x Finset.univ := by
  refine le_antisymm (Finset.sup_mono (Finset.subset_univ S)) (Finset.sup_le fun s _ => ?_)
  by_cases hs : s ∈ S
  · exact le_M x hs
  · rw [h s hs]
    exact bot_le

theorem L_univ {ι : Type*} [Fintype ι] (x : ι → EReal) (S : Finset ι) (h : ∀ s, s ∉ S → x s = ⊥) : L x S = L x Finset.univ := by
  rw [L, L, M_univ x S h]
  refine Finset.sum_subset (Finset.subset_univ S) fun s _ hs => ?_
  rw [h s hs, wt_bot]

theorem A_univ {ι : Type*} [Fintype ι] (x v : ι → EReal) (S : Finset ι) (h : ∀ s, s ∉ S → x s = ⊥) : A x v S = A x v Finset.univ := by
  rw [A, A, M_univ x S h]
  refine Finset.sum_subset (Finset.subset_univ S) fun s _ hs => ?_
  rw [h s hs, wt_bot, zero_mul]

/-- A softmax of logits that are real where `q` holds (somewhere it does) and masked elsewhere, times the values: the
    weighted sum over the sum of the weights, and the logits may all be moved by one real. -/
theorem softmax_eq {ι : Type*} [Fintype ι] (q : ι → Prop) [DecidablePred q] (x v : ι → EReal) (hb : ∀ s, ¬ q s → x s = ⊥)
    (ht : ∀ s, x s ≠ ⊤) (s₀ : ι) (h₀ : x s₀ ≠ ⊥) (c : ℝ) :
    A x v Finset.univ * Ideal.div 1 (L x Finset.univ)
      = ∑ s, (if q s then Ideal.div (wt (x s + c) (Finset.univ.sup fun s => x s + c)) (∑ s, wt (x s + c) (Finset.univ.sup fun s => x s + c)) else 0) * v s := by
  have hsup : (Finset.univ.sup fun s => x s + (c : EReal)) = M x Finset.univ + c := by
    have hm : Monotone fun y : EReal => y + (c : EReal) := fun a b h => add_le_add_left h _
    exact (Finset.comp_sup_eq_sup_comp (fun y : EReal => y + (c : EReal)) (fun a b => hm.map_sup a b) (EReal.bot_add _)).symm
  simp only [hsup, wt_shift]
  change _ = ∑ s, (if q s then Ideal.div _ (L x Finset.univ) else 0) * v s
  obtain ⟨s₁, -, h₁⟩ := Finset.exists_mem_eq_sup (Finset.univ : Finset ι) ⟨s₀, Finset.mem_univ _⟩ x
  have hle : ∀ s, x s ≤ M x Finset.univ := fun s => le_M x (Finset.mem_univ s)
  have h1 : wt (x s₁) (M x Finset.univ) = 1 := by
    have hM : M x Finset.univ = x s₁ := h₁
    have hn : x s₁ ≠ ⊥ := fun h => h₀ (le_bot_iff.1 (h ▸ hM ▸ hle s₀))
    rw [hM]
    lift x s₁ to ℝ using ⟨ht s₁, hn⟩ with r
    rw [wt_coe, sub_self, Real.exp_zero, EReal.coe_one]
  choose w hw0 hw1 hw using fun s => wt_real (hle s)
  have hL : L x Finset.univ = ((∑ s, w s : ℝ) : EReal) := by
    rw [L, coe_sum]
    exact Finset.sum_congr rfl fun s _ => hw s
  have hpos : 0 < ∑ s, w s := by
    have hw1' : w s₁ = 1 := EReal.coe_injective ((hw s₁).symm.trans h1)
    exact lt_of_lt_of_le (hw1' ▸ zero_lt_one) (Finset.single_le_sum (fun s _ => hw0 s) (Finset.mem_univ s₁))
  have hne : L x Finset.univ ≠ 0 := by
    rw [hL]
    exact_mod_cast hpos.ne'
  have hinv : (L x Finset.univ)⁻¹ = (((∑ s, w s)⁻¹ : ℝ) : EReal) := by rw [hL, EReal.coe_inv]
  have hdiv : ∀ y, Ideal.div y (L x Finset.univ) = y * (L x Finset.univ)⁻¹ := fun y => by rw [Ideal.div, if_neg hne]
  have hi0 : 0 ≤ (L x Finset.univ)⁻¹ := by rw [hinv]; exact_mod_cast (inv_pos.2 hpos).le
  have hit : (L x Finset.univ)⁻¹ ≠ ⊤ := by rw [hinv]; exact EReal.coe_ne_top _
  rw [hdiv, one_mul, mul_comm, A, mul_sum _ _ hi0 hit]
  refine Finset.sum_congr rfl fun s _ => ?_
  by_cases hs : q s
  · rw [if_pos hs, hdiv, ← mul_assoc, mul_comm (L x Finset.univ)⁻¹]
  · rw [if_neg hs, hb s hs, wt_bot, zero_mul, mul_zero]

end Cert.Soft

end
-- ==== Proof.ProjRows.lean ====
/- The arithmetic of the input projection's results, over the extended reals: the normalization of a head of 64 elements, the
   same taken over chunks of 256 columns with the sums of squares formed by a matrix of blocks of ones, and the logarithm of the
   sigmoid. -/
module

public import proofs.«01_k».proof.Proof.Softmax

@[expose] public section

noncomputable section

namespace Cert.ProjRows

open Idealize.ShloMosaic

/-- A chunk of 256 columns `y`, each times the reciprocal root of the mean square its column of `b` sums, times its gain. -/
def normed (y : Fin 256 → EReal) (b : Fin 256 → Fin 256 → EReal) (g : Fin 256 → EReal) (l : Fin 256) : EReal :=
  y l * Ideal.rsqrt (((∑ i, y i * y i * b i l) + ∑ i, (y i * y i - y i * y i) * b i l) * Ideal.ofBits .f32 0x3C800000#32
    + Ideal.ofBits .f32 0x358637BD#32) * g l

/-- Chunk `c` of the packed columns. -/
def chunk (y : Fin 3968 → EReal) (b : Fin 256 → Fin 256 → EReal) (g : Fin 2816 → EReal) (c : Fin 11) (l : Fin 256) : EReal :=
  normed (fun i => y ⟨256 * c.val + i.val, by omega⟩) b (fun i => g ⟨256 * c.val + i.val, by omega⟩) l

/-- A head of 64 elements, normalized by its root mean square, times its gain. -/
def head (y g : Fin 64 → EReal) (d : Fin 64) : EReal :=
  y d * Ideal.rsqrt (Ideal.div (∑ e, y e * y e) (Ideal.ofBits .f32 0x42800000#32) + Ideal.ofBits .f32 0x358637BD#32) * g d

/-- The logarithm of the sigmoid in the form that does not overflow. -/
def logSig (z : EReal) : EReal := min z 0 - Ideal.log1p (Ideal.exp (0 - max z (-z)))

/-- The sum of squares by a column of a matrix of blocks of ones: the chunk's columns `e d` are those of the block, of the others
    either the square or the matrix is zero. -/
theorem normed_eq (y : Fin 256 → EReal) (b : Fin 256 → Fin 256 → EReal) (g : Fin 256 → EReal) (e : Fin 64 → Fin 256) (d : Fin 64)
    (he : Function.Injective e) (hy : ∀ i, ∃ r : ℝ, y i = r) (hb : ∀ i, b i (e d) = 0 ∨ b i (e d) = 1)
    (h1 : ∀ f, b (e f) (e d) = 1) (h0 : ∀ i, i ∉ Set.range e → y i = 0 ∨ b i (e d) = 0) :
    normed y b g (e d) = head (fun f => y (e f)) (fun f => g (e f)) d := by
  have hs : ∑ i, y i * y i * b i (e d) = ∑ f, y (e f) * y (e f) := by
    refine (Fintype.sum_of_injective e he (fun f => y (e f) * y (e f)) (fun i => y i * y i * b i (e d)) (fun i hi => ?_) fun f => ?_).symm
    · rcases h0 i hi with h | h
      · rw [h, zero_mul, zero_mul]
      · rw [h, mul_zero]
    · rw [h1, mul_one]
  have hl : ∑ i, (y i * y i - y i * y i) * b i (e d) = 0 := by
    refine Finset.sum_eq_zero fun i _ => ?_
    obtain ⟨r, hr⟩ := hy i
    rw [hr, ← EReal.coe_mul, ← EReal.coe_sub, sub_self, EReal.coe_zero, zero_mul]
  have hc : (Ideal.ofBits .f32 0x3C800000#32 : EReal) = ((1 / 64 : ℝ) : EReal) := by
    simp [Ideal.ofBits, Ideal.ieee, -EReal.coe_mul]; norm_num
  have hd : (Ideal.ofBits .f32 0x42800000#32 : EReal) = ((64 : ℝ) : EReal) := by
    simp [Ideal.ofBits, Ideal.ieee, -EReal.coe_mul]; norm_num
  unfold normed head
  rw [hs, hl, add_zero, hc, hd, Ideal.div, if_neg (by exact_mod_cast (by norm_num : (64 : ℝ) ≠ 0))]
  congr 4
  rw [← EReal.coe_inv]
  norm_num

/-- A column that is zero stays zero where the gain is zero. -/
theorem normed_zero (y : Fin 256 → EReal) (b : Fin 256 → Fin 256 → EReal) (g : Fin 256 → EReal) (l : Fin 256) (h : g l = 0) :
    normed y b g l = 0 := by
  rw [normed, h, mul_zero]

/-- Whether the sixty-four lanes `n` of the sparse queries hold a head: the even ones of the first eight, the odd ones of the
last eight. -/
def realA (n : ℕ) : Prop := (n < 8 ∧ n % 2 = 0) ∨ (8 ≤ n ∧ n % 2 = 1)

/-- Whether the sixty-four lanes `n` of the forgetting queries hold a head: the first and last of every four. -/
def realB (n : ℕ) : Prop := n % 4 = 0 ∨ n % 4 = 3

instance (n : ℕ) : Decidable (realA n) := inferInstanceAs (Decidable ((n < 8 ∧ n % 2 = 0) ∨ (8 ≤ n ∧ n % 2 = 1)))
instance (n : ℕ) : Decidable (realB n) := inferInstanceAs (Decidable (n % 4 = 0 ∨ n % 4 = 3))

end Cert.ProjRows

end
-- ==== Proof.ProjPack.lean ====
module

public import proofs.«01_k».proof.Proof.Gen.ProjIdeal.Value
public import proofs.«01_k».proof.Proof.ProjRows
public import Idealize.ShloMosaic.Lib.Pointwise

@[expose] public section

/-!
# The packed columns and gains of the query heads

The call multiplies by one matrix of 3968 columns. Its first 2048 columns hold the sixteen query heads at 128 columns
each: 64 columns of the head and 64 of zeros. The sparse heads 0 to 3 lie in the first half of their lanes and 4 to 7 in
the last half; the forgetting heads alternate. The gains are laid out the same way.
-/

set_option maxRecDepth 16384

noncomputable section

namespace Cert.ProjIdeal.RefValue

open Cert.ProjIdeal Cert.ProjIdeal.Gen Idealize.ShloMosaic Idealize.ShloMosaic.TcCoe Idealize.SL.Sem

/-- The 512 columns of `w` with the queries of the sparse attention. -/
def qaCols (w : Vec Ideal S1024x4896 .f32) : Vec Ideal S1024x512 .f32 :=
  extractStridedSlice S1024x512 ![0, 0] w slices_S1024x4896_S1024x512_0_0

/-- The 512 columns of `w` with the queries of the forgetting attention. -/
def qbCols (w : Vec Ideal S1024x4896 .f32) : Vec Ideal S1024x512 .f32 :=
  extractStridedSlice S1024x512 ![0, 1304] w slices_S1024x4896_S1024x512_0_1304

/-- Sixty-four columns of zeros. -/
def zc : Vec Ideal S1024x64 .f32 := broadcastInDim S1024x64 ![] bcast_S_S1024x64 (constant (F := Ideal) S_ .f32 0x00000000#32)

/-- Sixty-four zeros. -/
def z64 : Vec Ideal S64 .f32 := broadcastInDim S64 ![] bcast_S_S64 (constant (F := Ideal) S_ .f32 0x00000000#32)

/-- A gain times the scale of the logits. -/
def scaled (g : Vec Ideal S64 .f32) : Vec Ideal S64 .f32 :=
  mulf g (broadcastInDim S64 ![] bcast_S_S64 (constant (F := Ideal) S_ .f32 0x3E000000#32))

/-- The sixteen pieces of the sparse queries' columns. -/
def pieceA (w : Vec Ideal S1024x4896 .f32) : Fin 16 → Vec Ideal S1024x64 .f32 :=
  ![extractStridedSlice S1024x64 ![0, 0] (qaCols w) slices_S1024x512_S1024x64_0_0,
    zc,
    extractStridedSlice S1024x64 ![0, 64] (qaCols w) slices_S1024x512_S1024x64_0_64,
    zc,
    extractStridedSlice S1024x64 ![0, 128] (qaCols w) slices_S1024x512_S1024x64_0_128,
    zc,
    extractStridedSlice S1024x64 ![0, 192] (qaCols w) slices_S1024x512_S1024x64_0_192,
    zc,
    zc,
    extractStridedSlice S1024x64 ![0, 256] (qaCols w) slices_S1024x512_S1024x64_0_256,
    zc,
    extractStridedSlice S1024x64 ![0, 320] (qaCols w) slices_S1024x512_S1024x64_0_320,
    zc,
    extractStridedSlice S1024x64 ![0, 384] (qaCols w) slices_S1024x512_S1024x64_0_384,
    zc,
    extractStridedSlice S1024x64 ![0, 448] (qaCols w) slices_S1024x512_S1024x64_0_448]

/-- The sixteen pieces of the forgetting queries' columns. -/
def pieceB (w : Vec Ideal S1024x4896 .f32) : Fin 16 → Vec Ideal S1024x64 .f32 :=
  ![extractStridedSlice S1024x64 ![0, 0] (qbCols w) slices_S1024x512_S1024x64_0_0,
    zc,
    zc,
    extractStridedSlice S1024x64 ![0, 64] (qbCols w) slices_S1024x512_S1024x64_0_64,
    extractStridedSlice S1024x64 ![0, 128] (qbCols w) slices_S1024x512_S1024x64_0_128,
    zc,
    zc,
    extractStridedSlice S1024x64 ![0, 192] (qbCols w) slices_S1024x512_S1024x64_0_192,
    extractStridedSlice S1024x64 ![0, 256] (qbCols w) slices_S1024x512_S1024x64_0_256,
    zc,
    zc,
    extractStridedSlice S1024x64 ![0, 320] (qbCols w) slices_S1024x512_S1024x64_0_320,
    extractStridedSlice S1024x64 ![0, 384] (qbCols w) slices_S1024x512_S1024x64_0_384,
    zc,
    zc,
    extractStridedSlice S1024x64 ![0, 448] (qbCols w) slices_S1024x512_S1024x64_0_448]

/-- The columns of the sparse queries, laid out by lanes. -/
def packA (w : Vec Ideal S1024x4896 .f32) : Vec Ideal S1024x1024 .f32 :=
  concatenate S1024x1024 1 [⟨S1024x64, pieceA w 0⟩,
    ⟨S1024x64, pieceA w 1⟩,
    ⟨S1024x64, pieceA w 2⟩,
    ⟨S1024x64, pieceA w 3⟩,
    ⟨S1024x64, pieceA w 4⟩,
    ⟨S1024x64, pieceA w 5⟩,
    ⟨S1024x64, pieceA w 6⟩,
    ⟨S1024x64, pieceA w 7⟩,
    ⟨S1024x64, pieceA w 8⟩,
    ⟨S1024x64, pieceA w 9⟩,
    ⟨S1024x64, pieceA w 10⟩,
    ⟨S1024x64, pieceA w 11⟩,
    ⟨S1024x64, pieceA w 12⟩,
    ⟨S1024x64, pieceA w 13⟩,
    ⟨S1024x64, pieceA w 14⟩,
    ⟨S1024x64, pieceA w 15⟩]
    concatenates_S1024x64_S1024x64_S1024x64_S1024x64_S1024x64_S1024x64_S1024x64_S1024x64_S1024x64_S1024x64_S1024x64_S1024x64_S1024x64_S1024x64_S1024x64_S1024x64_S1024x1024_d1

/-- The columns of the forgetting queries, laid out by lanes. -/
def packB (w : Vec Ideal S1024x4896 .f32) : Vec Ideal S1024x1024 .f32 :=
  concatenate S1024x1024 1 [⟨S1024x64, pieceB w 0⟩,
    ⟨S1024x64, pieceB w 1⟩,
    ⟨S1024x64, pieceB w 2⟩,
    ⟨S1024x64, pieceB w 3⟩,
    ⟨S1024x64, pieceB w 4⟩,
    ⟨S1024x64, pieceB w 5⟩,
    ⟨S1024x64, pieceB w 6⟩,
    ⟨S1024x64, pieceB w 7⟩,
    ⟨S1024x64, pieceB w 8⟩,
    ⟨S1024x64, pieceB w 9⟩,
    ⟨S1024x64, pieceB w 10⟩,
    ⟨S1024x64, pieceB w 11⟩,
    ⟨S1024x64, pieceB w 12⟩,
    ⟨S1024x64, pieceB w 13⟩,
    ⟨S1024x64, pieceB w 14⟩,
    ⟨S1024x64, pieceB w 15⟩]
    concatenates_S1024x64_S1024x64_S1024x64_S1024x64_S1024x64_S1024x64_S1024x64_S1024x64_S1024x64_S1024x64_S1024x64_S1024x64_S1024x64_S1024x64_S1024x64_S1024x64_S1024x1024_d1

/-- The sixteen pieces of the sparse queries' gain. -/
def gpieceA (g : Vec Ideal S64 .f32) : Fin 16 → Vec Ideal S64 .f32 :=
  ![scaled g, z64, scaled g, z64, scaled g, z64, scaled g, z64, z64, scaled g, z64, scaled g, z64, scaled g, z64, scaled g]

/-- The sixteen pieces of the forgetting queries' gain. -/
def gpieceB (g : Vec Ideal S64 .f32) : Fin 16 → Vec Ideal S64 .f32 :=
  ![scaled g, z64, z64, scaled g, scaled g, z64, z64, scaled g, scaled g, z64, z64, scaled g, scaled g, z64, z64, scaled g]

/-- The gain of the sparse queries, laid out by lanes. -/
def gpackA (g : Vec Ideal S64 .f32) : Vec Ideal S1024 .f32 :=
  concatenate S1024 0 [⟨S64, gpieceA g 0⟩,
    ⟨S64, gpieceA g 1⟩,
    ⟨S64, gpieceA g 2⟩,
    ⟨S64, gpieceA g 3⟩,
    ⟨S64, gpieceA g 4⟩,
    ⟨S64, gpieceA g 5⟩,
    ⟨S64, gpieceA g 6⟩,
    ⟨S64, gpieceA g 7⟩,
    ⟨S64, gpieceA g 8⟩,
    ⟨S64, gpieceA g 9⟩,
    ⟨S64, gpieceA g 10⟩,
    ⟨S64, gpieceA g 11⟩,
    ⟨S64, gpieceA g 12⟩,
    ⟨S64, gpieceA g 13⟩,
    ⟨S64, gpieceA g 14⟩,
    ⟨S64, gpieceA g 15⟩]
    concatenates_S64_S64_S64_S64_S64_S64_S64_S64_S64_S64_S64_S64_S64_S64_S64_S64_S1024_d0

/-- The gain of the forgetting queries, laid out by lanes. -/
def gpackB (g : Vec Ideal S64 .f32) : Vec Ideal S1024 .f32 :=
  concatenate S1024 0 [⟨S64, gpieceB g 0⟩,
    ⟨S64, gpieceB g 1⟩,
    ⟨S64, gpieceB g 2⟩,
    ⟨S64, gpieceB g 3⟩,
    ⟨S64, gpieceB g 4⟩,
    ⟨S64, gpieceB g 5⟩,
    ⟨S64, gpieceB g 6⟩,
    ⟨S64, gpieceB g 7⟩,
    ⟨S64, gpieceB g 8⟩,
    ⟨S64, gpieceB g 9⟩,
    ⟨S64, gpieceB g 10⟩,
    ⟨S64, gpieceB g 11⟩,
    ⟨S64, gpieceB g 12⟩,
    ⟨S64, gpieceB g 13⟩,
    ⟨S64, gpieceB g 14⟩,
    ⟨S64, gpieceB g 15⟩]
    concatenates_S64_S64_S64_S64_S64_S64_S64_S64_S64_S64_S64_S64_S64_S64_S64_S64_S1024_d0

lemma zc_apply (k : Fin 1024) (d : Fin 64) : zc (ix2 k d) = 0 := by
  simp [zc, broadcastInDim, constant, Ideal.ofBits, Ideal.ieee]

lemma z64_apply (d : Fin 64) : z64 (ix1 d) = 0 := by
  simp [z64, broadcastInDim, constant, Ideal.ofBits, Ideal.ieee]

lemma scaled_apply (g : Vec Ideal S64 .f32) (d : Fin 64) : scaled g (ix1 d) = g (ix1 d) * Ideal.ofBits .f32 0x3E000000#32 := rfl

lemma qaCols_apply (w : Vec Ideal S1024x4896 .f32) (k : Fin 1024) (j : Fin 512) :
    qaCols w (ix2 k j) = w (ix2 k (⟨j.val, by omega⟩ : Fin 4896)) := by
  unfold qaCols; pointwise

lemma qbCols_apply (w : Vec Ideal S1024x4896 .f32) (k : Fin 1024) (j : Fin 512) :
    qbCols w (ix2 k j) = w (ix2 k (⟨1304 + j.val, by omega⟩ : Fin 4896)) := by
  unfold qbCols; pointwise

/-- Sixty-four columns from column `o` on. -/
lemma slice_apply (x : Vec Ideal S1024x512 .f32) (o : ℕ) (ho : o + 64 ≤ 512) (h : S1024x512.Slices ![0, o] S1024x64) (k : Fin 1024) (d : Fin 64) :
    extractStridedSlice S1024x64 ![0, o] x h (ix2 k d) = x (ix2 k (⟨o + d.val, by omega⟩ : Fin 512)) := by
  pointwise

/-- Column `d` of piece `n` of the sparse queries' columns. -/
lemma pieceA_apply (w : Vec Ideal S1024x4896 .f32) (n : Fin 16) (k : Fin 1024) (d : Fin 64) :
    pieceA w n (ix2 k d) = if ProjRows.realA n.val then w (ix2 k (⟨64 * (n.val / 2) + d.val, by omega⟩ : Fin 4896)) else 0 := by
  fin_cases n
  · exact (slice_apply (qaCols w) 0 (by omega) slices_S1024x512_S1024x64_0_0 k d).trans (qaCols_apply w k _)
  · exact zc_apply k d
  · exact (slice_apply (qaCols w) 64 (by omega) slices_S1024x512_S1024x64_0_64 k d).trans (qaCols_apply w k _)
  · exact zc_apply k d
  · exact (slice_apply (qaCols w) 128 (by omega) slices_S1024x512_S1024x64_0_128 k d).trans (qaCols_apply w k _)
  · exact zc_apply k d
  · exact (slice_apply (qaCols w) 192 (by omega) slices_S1024x512_S1024x64_0_192 k d).trans (qaCols_apply w k _)
  · exact zc_apply k d
  · exact zc_apply k d
  · exact (slice_apply (qaCols w) 256 (by omega) slices_S1024x512_S1024x64_0_256 k d).trans (qaCols_apply w k _)
  · exact zc_apply k d
  · exact (slice_apply (qaCols w) 320 (by omega) slices_S1024x512_S1024x64_0_320 k d).trans (qaCols_apply w k _)
  · exact zc_apply k d
  · exact (slice_apply (qaCols w) 384 (by omega) slices_S1024x512_S1024x64_0_384 k d).trans (qaCols_apply w k _)
  · exact zc_apply k d
  · exact (slice_apply (qaCols w) 448 (by omega) slices_S1024x512_S1024x64_0_448 k d).trans (qaCols_apply w k _)

/-- Column `d` of piece `n` of the forgetting queries' columns. -/
lemma pieceB_apply (w : Vec Ideal S1024x4896 .f32) (n : Fin 16) (k : Fin 1024) (d : Fin 64) :
    pieceB w n (ix2 k d) = if ProjRows.realB n.val then w (ix2 k (⟨1304 + (64 * (n.val / 2) + d.val), by omega⟩ : Fin 4896)) else 0 := by
  fin_cases n
  · exact (slice_apply (qbCols w) 0 (by omega) slices_S1024x512_S1024x64_0_0 k d).trans (qbCols_apply w k _)
  · exact zc_apply k d
  · exact zc_apply k d
  · exact (slice_apply (qbCols w) 64 (by omega) slices_S1024x512_S1024x64_0_64 k d).trans (qbCols_apply w k _)
  · exact (slice_apply (qbCols w) 128 (by omega) slices_S1024x512_S1024x64_0_128 k d).trans (qbCols_apply w k _)
  · exact zc_apply k d
  · exact zc_apply k d
  · exact (slice_apply (qbCols w) 192 (by omega) slices_S1024x512_S1024x64_0_192 k d).trans (qbCols_apply w k _)
  · exact (slice_apply (qbCols w) 256 (by omega) slices_S1024x512_S1024x64_0_256 k d).trans (qbCols_apply w k _)
  · exact zc_apply k d
  · exact zc_apply k d
  · exact (slice_apply (qbCols w) 320 (by omega) slices_S1024x512_S1024x64_0_320 k d).trans (qbCols_apply w k _)
  · exact (slice_apply (qbCols w) 384 (by omega) slices_S1024x512_S1024x64_0_384 k d).trans (qbCols_apply w k _)
  · exact zc_apply k d
  · exact zc_apply k d
  · exact (slice_apply (qbCols w) 448 (by omega) slices_S1024x512_S1024x64_0_448 k d).trans (qbCols_apply w k _)

/-- Lane `64 n + d` of the sparse queries' columns. -/
lemma packA_apply (w : Vec Ideal S1024x4896 .f32) (k : Fin 1024) (j : Fin 1024) :
    packA w (ix2 k j) = pieceA w ⟨j.val / 64, by omega⟩ (ix2 k (⟨j.val % 64, by omega⟩ : Fin 64)) :=
  concatenate_ofFn_apply (t := S1024x1024) (s₁ := S1024x64) 1 (pieceA w) _ rfl 64 rfl (ix2 k j) ⟨j.val / 64, by omega⟩ rfl
    (ix2 k (⟨j.val % 64, by omega⟩ : Fin 64)) rfl (by intro b hb; fin_cases b <;> first | rfl | exact absurd rfl hb)

/-- Lane `64 n + d` of the forgetting queries' columns. -/
lemma packB_apply (w : Vec Ideal S1024x4896 .f32) (k : Fin 1024) (j : Fin 1024) :
    packB w (ix2 k j) = pieceB w ⟨j.val / 64, by omega⟩ (ix2 k (⟨j.val % 64, by omega⟩ : Fin 64)) :=
  concatenate_ofFn_apply (t := S1024x1024) (s₁ := S1024x64) 1 (pieceB w) _ rfl 64 rfl (ix2 k j) ⟨j.val / 64, by omega⟩ rfl
    (ix2 k (⟨j.val % 64, by omega⟩ : Fin 64)) rfl (by intro b hb; fin_cases b <;> first | rfl | exact absurd rfl hb)

/-- Lane `d` of piece `n` of the sparse queries' gain. -/
lemma gpieceA_apply (g : Vec Ideal S64 .f32) (n : Fin 16) (d : Fin 64) :
    gpieceA g n (ix1 d) = if ProjRows.realA n.val then g (ix1 d) * Ideal.ofBits .f32 0x3E000000#32 else 0 := by
  fin_cases n <;> first | exact z64_apply d | exact scaled_apply g d

/-- Lane `d` of piece `n` of the forgetting queries' gain. -/
lemma gpieceB_apply (g : Vec Ideal S64 .f32) (n : Fin 16) (d : Fin 64) :
    gpieceB g n (ix1 d) = if ProjRows.realB n.val then g (ix1 d) * Ideal.ofBits .f32 0x3E000000#32 else 0 := by
  fin_cases n <;> first | exact z64_apply d | exact scaled_apply g d

/-- Lane `64 n + d` of the sparse queries' gain. -/
lemma gpackA_apply (g : Vec Ideal S64 .f32) (j : Fin 1024) :
    gpackA g (ix1 j) = gpieceA g ⟨j.val / 64, by omega⟩ (ix1 (⟨j.val % 64, by omega⟩ : Fin 64)) :=
  concatenate_ofFn_apply (t := S1024) (s₁ := S64) 0 (gpieceA g) _ rfl 64 rfl (ix1 j) ⟨j.val / 64, by omega⟩ rfl
    (ix1 (⟨j.val % 64, by omega⟩ : Fin 64)) rfl (by intro b hb; fin_cases b; exact absurd rfl hb)

/-- Lane `64 n + d` of the forgetting queries' gain. -/
lemma gpackB_apply (g : Vec Ideal S64 .f32) (j : Fin 1024) :
    gpackB g (ix1 j) = gpieceB g ⟨j.val / 64, by omega⟩ (ix1 (⟨j.val % 64, by omega⟩ : Fin 64)) :=
  concatenate_ofFn_apply (t := S1024) (s₁ := S64) 0 (gpieceB g) _ rfl 64 rfl (ix1 j) ⟨j.val / 64, by omega⟩ rfl
    (ix1 (⟨j.val % 64, by omega⟩ : Fin 64)) rfl (by intro b hb; fin_cases b; exact absurd rfl hb)

end Cert.ProjIdeal.RefValue
-- ==== Proof.ProjHost.lean ====
module

public import proofs.«01_k».proof.Proof.ProjPack

@[expose] public section

/-!
# The packed columns of keys, values and gates, and the other operands of the call

After the query heads come the keys of the forgetting attention and of the selected and windowed sparse attention, the
values, the keys and values to be compressed, the gates and a padding of zeros.
-/

set_option maxRecDepth 16384

noncomputable section

namespace Cert.ProjIdeal.RefValue

open Cert.ProjIdeal Cert.ProjIdeal.Gen Idealize.ShloMosaic Idealize.ShloMosaic.TcCoe Idealize.SL.Sem

lemma ix2_eq {a b : ℕ} {α : Type} (q : (⟨2, ![a, b]⟩ : Shape).Idx → α) (k : Fin a) {h h' : Fin b} (hh : h.val = h'.val) :
    q (ix2 k h) = q (ix2 k h') := by
  rw [Fin.ext hh]

lemma ix1_eq {a : ℕ} {α : Type} (q : (⟨1, ![a]⟩ : Shape).Idx → α) {h h' : Fin a} (hh : h.val = h'.val) : q (ix1 h) = q (ix1 h') := by
  rw [Fin.ext hh]

/-- The columns after the query heads. -/
def packC (w : Vec Ideal S1024x4896 .f32) : Vec Ideal S1024x1920 .f32 :=
  concatenate S1024x1920 1 [
    ⟨S1024x512, extractStridedSlice S1024x512 ![0, 1816] w slices_S1024x4896_S1024x512_0_1816⟩,
    ⟨S1024x128, extractStridedSlice S1024x128 ![0, 768] w slices_S1024x4896_S1024x128_0_768⟩,
    ⟨S1024x128, extractStridedSlice S1024x128 ![0, 1024] w slices_S1024x4896_S1024x128_0_1024⟩,
    ⟨S1024x512, extractStridedSlice S1024x512 ![0, 2328] w slices_S1024x4896_S1024x512_0_2328⟩,
    ⟨S1024x128, extractStridedSlice S1024x128 ![0, 896] w slices_S1024x4896_S1024x128_0_896⟩,
    ⟨S1024x128, extractStridedSlice S1024x128 ![0, 1152] w slices_S1024x4896_S1024x128_0_1152⟩,
    ⟨S1024x128, extractStridedSlice S1024x128 ![0, 512] w slices_S1024x4896_S1024x128_0_512⟩,
    ⟨S1024x128, extractStridedSlice S1024x128 ![0, 640] w slices_S1024x4896_S1024x128_0_640⟩,
    ⟨S1024x24, extractStridedSlice S1024x24 ![0, 1280] w slices_S1024x4896_S1024x24_0_1280⟩,
    ⟨S1024x8, extractStridedSlice S1024x8 ![0, 2840] w slices_S1024x4896_S1024x8_0_2840⟩,
    ⟨S1024x96, broadcastInDim S1024x96 ![] bcast_S_S1024x96 (constant (F := Ideal) S_ .f32 0x00000000#32)⟩]
    concatenates_S1024x512_S1024x128_S1024x128_S1024x512_S1024x128_S1024x128_S1024x128_S1024x128_S1024x24_S1024x8_S1024x96_S1024x1920_d1

lemma packC_kb (w : Vec Ideal S1024x4896 .f32) (k : Fin 1024) (j : Fin 512) :
    packC w (ix2 k (⟨0 + j.val, by omega⟩ : Fin 1920)) = w (ix2 k (⟨1816 + j.val, by omega⟩ : Fin 4896)) := by
  have hj := j.isLt
  unfold packC
  pointwise

lemma packC_ks (w : Vec Ideal S1024x4896 .f32) (k : Fin 1024) (j : Fin 128) :
    packC w (ix2 k (⟨512 + j.val, by omega⟩ : Fin 1920)) = w (ix2 k (⟨768 + j.val, by omega⟩ : Fin 4896)) := by
  have hj := j.isLt
  unfold packC
  pointwise

lemma packC_kw (w : Vec Ideal S1024x4896 .f32) (k : Fin 1024) (j : Fin 128) :
    packC w (ix2 k (⟨640 + j.val, by omega⟩ : Fin 1920)) = w (ix2 k (⟨1024 + j.val, by omega⟩ : Fin 4896)) := by
  have hj := j.isLt
  unfold packC
  pointwise
  refine (dif_neg (by omega)).trans ?_
  refine (dif_neg (by omega)).trans ?_
  refine (dif_pos (by omega)).trans ?_
  exact ix2_eq w k (by simp only []; omega)

lemma packC_vb (w : Vec Ideal S1024x4896 .f32) (k : Fin 1024) (j : Fin 512) :
    packC w (ix2 k (⟨768 + j.val, by omega⟩ : Fin 1920)) = w (ix2 k (⟨2328 + j.val, by omega⟩ : Fin 4896)) := by
  have hj := j.isLt
  unfold packC
  pointwise
  refine (dif_neg (by omega)).trans ?_
  refine (dif_neg (by omega)).trans ?_
  refine (dif_neg (by omega)).trans ?_
  refine (dif_pos (by omega)).trans ?_
  exact ix2_eq w k (by simp only []; omega)

lemma packC_vs (w : Vec Ideal S1024x4896 .f32) (k : Fin 1024) (j : Fin 128) :
    packC w (ix2 k (⟨1280 + j.val, by omega⟩ : Fin 1920)) = w (ix2 k (⟨896 + j.val, by omega⟩ : Fin 4896)) := by
  have hj := j.isLt
  unfold packC
  pointwise
  refine (dif_neg (by omega)).trans ?_
  refine (dif_neg (by omega)).trans ?_
  refine (dif_neg (by omega)).trans ?_
  refine (dif_neg (by omega)).trans ?_
  refine (dif_pos (by omega)).trans ?_
  exact ix2_eq w k (by simp only []; omega)

lemma packC_vw (w : Vec Ideal S1024x4896 .f32) (k : Fin 1024) (j : Fin 128) :
    packC w (ix2 k (⟨1408 + j.val, by omega⟩ : Fin 1920)) = w (ix2 k (⟨1152 + j.val, by omega⟩ : Fin 4896)) := by
  have hj := j.isLt
  unfold packC
  pointwise
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact ix2_eq w k (by simp only []; omega)

lemma packC_kc (w : Vec Ideal S1024x4896 .f32) (k : Fin 1024) (j : Fin 128) :
    packC w (ix2 k (⟨1536 + j.val, by omega⟩ : Fin 1920)) = w (ix2 k (⟨512 + j.val, by omega⟩ : Fin 4896)) := by
  have hj := j.isLt
  unfold packC
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact ix2_eq w k (by simp only []; omega)

lemma packC_vc (w : Vec Ideal S1024x4896 .f32) (k : Fin 1024) (j : Fin 128) :
    packC w (ix2 k (⟨1664 + j.val, by omega⟩ : Fin 1920)) = w (ix2 k (⟨640 + j.val, by omega⟩ : Fin 4896)) := by
  have hj := j.isLt
  unfold packC
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact ix2_eq w k (by simp only []; omega)

lemma packC_ga (w : Vec Ideal S1024x4896 .f32) (k : Fin 1024) (j : Fin 24) :
    packC w (ix2 k (⟨1792 + j.val, by omega⟩ : Fin 1920)) = w (ix2 k (⟨1280 + j.val, by omega⟩ : Fin 4896)) := by
  have hj := j.isLt
  unfold packC
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact ix2_eq w k (by simp only []; omega)

lemma packC_fb (w : Vec Ideal S1024x4896 .f32) (k : Fin 1024) (j : Fin 8) :
    packC w (ix2 k (⟨1816 + j.val, by omega⟩ : Fin 1920)) = w (ix2 k (⟨2840 + j.val, by omega⟩ : Fin 4896)) := by
  have hj := j.isLt
  unfold packC
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact ix2_eq w k (by simp only []; omega)

lemma packC_pad (w : Vec Ideal S1024x4896 .f32) (k : Fin 1024) (j : Fin 96) :
    packC w (ix2 k (⟨1824 + j.val, by omega⟩ : Fin 1920)) = 0 := by
  have hj := j.isLt
  unfold packC
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  rfl

/-- The packed matrix. -/
def pack (w : Vec Ideal S1024x4896 .f32) : Vec Ideal S1024x3968 .f32 :=
  concatenate S1024x3968 1 [⟨S1024x1024, packA w⟩, ⟨S1024x1024, packB w⟩, ⟨S1024x1920, packC w⟩] concatenates_S1024x1024_S1024x1024_S1024x1920_S1024x3968_d1

lemma three_apply (a b : Vec Ideal S1024x1024 .f32) (c : Vec Ideal S1024x1920 .f32) (k : Fin 1024) (j : Fin 3968) :
    concatenate S1024x3968 1 [⟨S1024x1024, a⟩, ⟨S1024x1024, b⟩, ⟨S1024x1920, c⟩] concatenates_S1024x1024_S1024x1024_S1024x1920_S1024x3968_d1 (ix2 k j)
      = if h : j.val < 1024 then a (ix2 k (⟨j.val, h⟩ : Fin 1024)) else if h : j.val - 1024 < 1024 then b (ix2 k (⟨j.val - 1024, h⟩ : Fin 1024))
        else c (ix2 k (⟨j.val - 1024 - 1024, by omega⟩ : Fin 1920)) := by
  pointwise

/-- The columns of the sparse queries. -/
lemma pack_a (w : Vec Ideal S1024x4896 .f32) (k : Fin 1024) (j : Fin 1024) :
    pack w (ix2 k (⟨j.val, by omega⟩ : Fin 3968)) = if ProjRows.realA (j.val / 64) then w (ix2 k (⟨64 * (j.val / 64 / 2) + j.val % 64, by omega⟩ : Fin 4896)) else 0 :=
  (three_apply _ _ _ k _).trans ((dif_pos j.isLt).trans ((packA_apply w k j).trans (pieceA_apply w _ k _)))

/-- The columns of the forgetting queries. -/
lemma pack_b (w : Vec Ideal S1024x4896 .f32) (k : Fin 1024) (j : Fin 1024) :
    pack w (ix2 k (⟨1024 + j.val, by omega⟩ : Fin 3968)) = if ProjRows.realB (j.val / 64) then w (ix2 k (⟨1304 + (64 * (j.val / 64 / 2) + j.val % 64), by omega⟩ : Fin 4896)) else 0 := by
  refine (three_apply _ _ _ k _).trans ((dif_neg (by simp)).trans ((dif_pos (by simp)).trans ?_))
  exact (ix2_eq (packB w) k (by simp)).trans ((packB_apply w k j).trans (pieceB_apply w _ k _))

/-- The other columns. -/
lemma pack_c (w : Vec Ideal S1024x4896 .f32) (k : Fin 1024) (j : Fin 1920) :
    pack w (ix2 k (⟨2048 + j.val, by omega⟩ : Fin 3968)) = packC w (ix2 k j) := by
  refine (three_apply _ _ _ k _).trans ((dif_neg (by simp only []; omega)).trans ((dif_neg (by simp only []; omega)).trans ?_))
  exact ix2_eq (packC w) k (by simp only []; omega)

/-- The gain of the keys: eight forgetting heads, two selected, two windowed. -/
def gpackC (k : Vec Ideal S3x64 .f32) (f : Vec Ideal S64 .f32) : Vec Ideal S768 .f32 :=
  concatenate S768 0 [
    ⟨S512, shapeCast S512 (broadcastInDim S8x64 ![0, 1] bcast_S1x64_S8x64_0_1 (shapeCast S1x64 f shapeCasts_S64_S1x64)) shapeCasts_S8x64_S512⟩,
    ⟨S128, shapeCast S128 (broadcastInDim S2x64 ![0, 1] bcast_S1x64_S2x64_0_1 (shapeCast S1x64 (shapeCast S64 (extractStridedSlice S1x64 ![1, 0] k slices_S3x64_S1x64_1_0) shapeCasts_S1x64_S64) shapeCasts_S64_S1x64)) shapeCasts_S2x64_S128⟩,
    ⟨S128, shapeCast S128 (broadcastInDim S2x64 ![0, 1] bcast_S1x64_S2x64_0_1 (shapeCast S1x64 (shapeCast S64 (extractStridedSlice S1x64 ![2, 0] k slices_S3x64_S1x64_2_0) shapeCasts_S1x64_S64) shapeCasts_S64_S1x64)) shapeCasts_S2x64_S128⟩]
    concatenates_S512_S128_S128_S768_d0

lemma gpackC_apply (k : Vec Ideal S3x64 .f32) (f : Vec Ideal S64 .f32) (j : Fin 768) :
    gpackC k f (ix1 j) = if j.val < 512 then f (ix1 (⟨j.val % 64, by omega⟩ : Fin 64)) else if j.val < 640 then k (ix2 1 (⟨j.val % 64, by omega⟩ : Fin 64))
      else k (ix2 2 (⟨j.val % 64, by omega⟩ : Fin 64)) := by
  have hj := j.isLt
  unfold gpackC
  pointwise
  by_cases h1 : j.val < 512
  · exact (dif_pos h1).trans (if_pos h1).symm
  refine (dif_neg h1).trans (Eq.trans ?_ (if_neg h1).symm)
  by_cases h2 : j.val < 640
  · refine (dif_pos (by omega)).trans (Eq.trans ?_ (if_pos h2).symm)
    exact ix2_eq k _ (by simp only []; omega)
  · refine (dif_neg (by omega)).trans (Eq.trans ?_ (if_neg h2).symm)
    exact ix2_eq k _ (by simp only []; omega)

/-- The gain of all lanes, as one row. -/
def gains (q : Vec Ideal S64 .f32) (k : Vec Ideal S3x64 .f32) (p f : Vec Ideal S64 .f32) : Vec Ideal S1x2816 .f32 :=
  shapeCast S1x2816 (concatenate S2816 0 [⟨S1024, gpackA q⟩, ⟨S1024, gpackB p⟩, ⟨S768, gpackC k f⟩] concatenates_S1024_S1024_S768_S2816_d0) shapeCasts_S2816_S1x2816

lemma gthree_apply (a b : Vec Ideal S1024 .f32) (c : Vec Ideal S768 .f32) (j : Fin 2816) :
    shapeCast S1x2816 (concatenate S2816 0 [⟨S1024, a⟩, ⟨S1024, b⟩, ⟨S768, c⟩] concatenates_S1024_S1024_S768_S2816_d0) shapeCasts_S2816_S1x2816 (ix2 0 j)
      = if h : j.val < 1024 then a (ix1 (⟨j.val, h⟩ : Fin 1024)) else if h : j.val - 1024 < 1024 then b (ix1 (⟨j.val - 1024, h⟩ : Fin 1024))
        else c (ix1 (⟨j.val - 1024 - 1024, by omega⟩ : Fin 768)) := by
  pointwise

lemma gains_a (q : Vec Ideal S64 .f32) (k : Vec Ideal S3x64 .f32) (p f : Vec Ideal S64 .f32) (j : Fin 1024) :
    gains q k p f (ix2 0 (⟨j.val, by omega⟩ : Fin 2816)) = if ProjRows.realA (j.val / 64) then q (ix1 (⟨j.val % 64, by omega⟩ : Fin 64)) * Ideal.ofBits .f32 0x3E000000#32 else 0 :=
  (gthree_apply _ _ _ _).trans ((dif_pos j.isLt).trans ((gpackA_apply q j).trans (gpieceA_apply q _ _)))

lemma gains_b (q : Vec Ideal S64 .f32) (k : Vec Ideal S3x64 .f32) (p f : Vec Ideal S64 .f32) (j : Fin 1024) :
    gains q k p f (ix2 0 (⟨1024 + j.val, by omega⟩ : Fin 2816)) = if ProjRows.realB (j.val / 64) then p (ix1 (⟨j.val % 64, by omega⟩ : Fin 64)) * Ideal.ofBits .f32 0x3E000000#32 else 0 := by
  refine (gthree_apply _ _ _ _).trans ((dif_neg (by simp)).trans ((dif_pos (by simp)).trans ?_))
  exact (ix1_eq (gpackB p) (by simp)).trans ((gpackB_apply p j).trans (gpieceB_apply p _ _))

lemma gains_c (q : Vec Ideal S64 .f32) (k : Vec Ideal S3x64 .f32) (p f : Vec Ideal S64 .f32) (j : Fin 768) :
    gains q k p f (ix2 0 (⟨2048 + j.val, by omega⟩ : Fin 2816)) = if j.val < 512 then f (ix1 (⟨j.val % 64, by omega⟩ : Fin 64)) else if j.val < 640 then k (ix2 1 (⟨j.val % 64, by omega⟩ : Fin 64))
      else k (ix2 2 (⟨j.val % 64, by omega⟩ : Fin 64)) := by
  refine (gthree_apply _ _ _ _).trans ((dif_neg (by simp only []; omega)).trans ((dif_neg (by simp only []; omega)).trans ?_))
  exact (ix1_eq (gpackC k f) (by simp only []; omega)).trans (gpackC_apply k f j)

/-- The bias of the gates, as one row: only the forgetting gates have one. -/
def bias (b : Vec Ideal S8 .f32) : Vec Ideal S1x128 .f32 :=
  shapeCast S1x128 (concatenate S128 0 [⟨S24, broadcastInDim S24 ![] bcast_S_S24 (constant (F := Ideal) S_ .f32 0x00000000#32)⟩, ⟨S8, b⟩,
    ⟨S96, broadcastInDim S96 ![] bcast_S_S96 (constant (F := Ideal) S_ .f32 0x00000000#32)⟩] concatenates_S24_S8_S96_S128_d0) shapeCasts_S128_S1x128

lemma bias_apply (b : Vec Ideal S8 .f32) (j : Fin 128) :
    bias b (ix2 0 j) = if h : 24 ≤ j.val ∧ j.val < 32 then b (ix1 (⟨j.val - 24, by omega⟩ : Fin 8)) else 0 := by
  have hj := j.isLt
  unfold bias
  pointwise
  by_cases h1 : j.val < 24
  · refine (dif_pos h1).trans ?_
    rw [dif_neg (show ¬ (24 ≤ j.val ∧ j.val < 32) by omega)]
  refine (dif_neg h1).trans ?_
  by_cases h2 : j.val < 32
  · refine (dif_pos (by omega)).trans ?_
    rw [dif_pos (show 24 ≤ j.val ∧ j.val < 32 from ⟨by omega, h2⟩)]
  · refine (dif_neg (by omega)).trans ?_
    rw [dif_neg (show ¬ (24 ≤ j.val ∧ j.val < 32) by omega)]

/-- The matrix of blocks of ones on the diagonal, of `2 ^ k` rows each. -/
def ones (k : BitVec 32) : Vec Ideal S256x256 .bf16 :=
  truncf (F := Ideal) .bf16 (select
    (cmpi .eq (Host.shrui (iotaInDim S256x256 32 0) (broadcastInDim S256x256 ![] bcast_S_S256x256 (constantI S_ 32 k)))
      (Host.shrui (iotaInDim S256x256 32 1) (broadcastInDim S256x256 ![] bcast_S_S256x256 (constantI S_ 32 k))))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

lemma ofNat_ne : ∀ a b : Fin 4, a ≠ b → BitVec.ofNat 32 a.val ≠ BitVec.ofNat 32 b.val := by decide

/-- A choice by the equality of two small words. -/
lemma select_eq (a b : ℕ) (ha : a < 4) (hb : b < 4) :
    Scalar.select (IntOp.cmpi .eq (BitVec.ofNat 32 a) (BitVec.ofNat 32 b)) (1 : EReal) 0 = if a = b then 1 else 0 := by
  by_cases h : a = b
  · simp [h, IntOp.cmpi, Scalar.select]
  · have := ofNat_ne ⟨a, ha⟩ ⟨b, hb⟩ (fun e => h (congrArg Fin.val e))
    have hb : (BitVec.ofNat 32 a == BitVec.ofNat 32 b) = false := by simpa using this
    simp [h, IntOp.cmpi, Scalar.select, hb]

lemma shift7 : ∀ i : Fin 256, IntOp.shrui .host (BitVec.ofNat 32 i.val) 7#32 = BitVec.ofNat 32 (i.val / 128) := by decide +kernel

lemma shift6 : ∀ i : Fin 256, IntOp.shrui .host (BitVec.ofNat 32 i.val) 6#32 = BitVec.ofNat 32 (i.val / 64) := by decide +kernel

/-- Blocks of 128. -/
lemma ones7_apply (i l : Fin 256) : ones 7#32 (ix2 i l) = if i.val / 128 = l.val / 128 then 1 else 0 := by
  unfold ones
  pointwise
  rw [shift7, shift7]
  exact select_eq _ _ (by omega) (by omega)

/-- Blocks of 64. -/
lemma ones6_apply (i l : Fin 256) : ones 6#32 (ix2 i l) = if i.val / 64 = l.val / 64 then 1 else 0 := by
  unfold ones
  pointwise
  rw [shift6, shift6]
  exact select_eq _ _ (by omega) (by omega)

end Cert.ProjIdeal.RefValue
-- ==== Proof.ProjBlock.lean ====
/- What one grid point of the input projection leaves in its nine output blocks, element by element, in terms of the packed
   weights and gains. -/
module

public import proofs.«01_k».proof.Proof.ProjRows
public import proofs.«01_k».proof.Proof.Gen.ProjIdeal.Value
public import Idealize.ShloMosaic.Lib.Pipeline.Value

@[expose] public section

set_option maxRecDepth 16384

noncomputable section

namespace Cert.ProjIdeal.RefValue

open Cert.ProjIdeal Cert.ProjIdeal.Gen Idealize.ShloMosaic Idealize.ShloMosaic.TcCoe

theorem hz : (![0, 0] : Fin 2 → Nat) = fun _ => 0 := funext fun a => by fin_cases a <;> rfl

/-! ## The values stored, over arbitrary vectors -/

/-- A normalized chunk of 256 columns. -/
theorem chunk_apply (u : FVec Ideal S512x1024 .bf16) (w : Vec Ideal S1024x256 .bf16) (b : Vec Ideal S256x256 .bf16)
    (g : Vec Ideal S1x256 .f32) (r : Fin 512) (l : Fin 256) :
    k0_pay12 u w b g (ix2 r l)
      = ProjRows.normed (fun i => ∑ k : Fin 1024, u (ix2 r k) * w (ix2 k i)) (fun i l => b (ix2 i l)) (fun l => g (ix2 0 l)) l := by
  unfold ProjRows.normed
  pointwise [k0_pay12]

theorem chunk_a0 (x0 : Vec Ideal S512x1024 .f32) (x1 : Vec Ideal S1x1024 .f32) (w : Vec Ideal S1024x256 .bf16)
    (b : Vec Ideal S256x256 .bf16) (g : Vec Ideal S1x256 .f32) :
    k0_pay9 (k0_pay6 x0 x1 w b g) = k0_pay12 (k0_pay5 x0 x1) w b g := rfl

theorem chunk_a1 (u : FVec Ideal S512x1024 .bf16) (w : Vec Ideal S1024x256 .bf16) (b : Vec Ideal S256x256 .bf16)
    (g : Vec Ideal S1x256 .f32) : k0_pay10 (k0_pay7 u w b g) = k0_pay12 u w b g := rfl

theorem chunk_a2 (u : FVec Ideal S512x1024 .bf16) (w : Vec Ideal S1024x256 .bf16) (b : Vec Ideal S256x256 .bf16)
    (g : Vec Ideal S1x256 .f32) : k0_pay11 (k0_pay8 u w b) g = k0_pay12 u w b g := rfl

theorem chunk_b0 (u : FVec Ideal S512x1024 .bf16) (w : Vec Ideal S1024x256 .bf16) (b : Vec Ideal S256x256 .bf16)
    (g : Vec Ideal S1x256 .f32) : k0_pay24 (k0_pay13 u w b g) = k0_pay12 u w b g := rfl

theorem chunk_b1 (u : FVec Ideal S512x1024 .bf16) (w : Vec Ideal S1024x256 .bf16) (b : Vec Ideal S256x256 .bf16)
    (g : Vec Ideal S1x256 .f32) : k0_pay25 (k0_pay16 (k0_pay14 u w) (k0_pay15 u w b) g) = k0_pay12 u w b g := rfl

theorem chunk_b2 (u : FVec Ideal S512x1024 .bf16) (w : Vec Ideal S1024x256 .bf16) (b : Vec Ideal S256x256 .bf16)
    (g : Vec Ideal S1x256 .f32) : k0_pay26 (k0_pay17 u w b g) = k0_pay12 u w b g := rfl

theorem chunk_b3 (u : FVec Ideal S512x1024 .bf16) (w : Vec Ideal S1024x256 .bf16) (b : Vec Ideal S256x256 .bf16)
    (g : Vec Ideal S1x256 .f32) :
    k0_pay27 (k0_pay18 u w) (k0_pay20 b) (k0_pay22 u w) (k0_pay23 u w b) (constant S512x256 .f32 0x00000000#32) g
      = k0_pay12 u w b g := rfl

theorem chunk_k0 (u : FVec Ideal S512x1024 .bf16) (w : Vec Ideal S1024x256 .bf16) (b : Vec Ideal S256x256 .bf16)
    (g : Vec Ideal S1x256 .f32) :
    k0_pay30 (k0_pay28 u w) (k0_pay29 u w b) (Scalar.ofBits .f32 0x358637BD#32) g = k0_pay12 u w b g := rfl

theorem chunk_k1 (u : FVec Ideal S512x1024 .bf16) (w : Vec Ideal S1024x256 .bf16) (b : Vec Ideal S256x256 .bf16)
    (g : Vec Ideal S1x256 .f32) : k0_pay31 u w b g = k0_pay12 u w b g := rfl

theorem chunk_s (u : FVec Ideal S512x1024 .bf16) (w : Vec Ideal S1024x256 .bf16) (b : Vec Ideal S256x256 .bf16)
    (g : Vec Ideal S1x256 .f32) : k0_pay33 (k0_pay32 u w) b g = k0_pay12 u w b g := rfl

/-- The normalized tokens. -/
theorem rows_apply (x : Vec Ideal S512x1024 .f32) (g : Vec Ideal S1x1024 .f32) (r : Fin 512) (k : Fin 1024) :
    k0_pay5 x g (ix2 r k) = Rows.rms (fun k => x (ix2 r k)) (fun k => g (ix2 0 k)) k := by
  unfold Rows.rms
  pointwise [k0_pay5]

theorem plain512_apply (u : FVec Ideal S512x1024 .bf16) (w : Vec Ideal S1024x512 .bf16) (r : Fin 512) (j : Fin 512) :
    k0_pay34 u w (ix2 r j) = ∑ k : Fin 1024, u (ix2 r k) * w (ix2 k j) := by
  pointwise [k0_pay34]

theorem plain256_apply (u : FVec Ideal S512x1024 .bf16) (w : Vec Ideal S1024x256 .bf16) (r : Fin 512) (j : Fin 256) :
    k0_pay35 u w (ix2 r j) = ∑ k : Fin 1024, u (ix2 r k) * w (ix2 k j) := by
  pointwise [k0_pay35]

theorem first_apply (u : FVec Ideal S512x1024 .bf16) (w : Vec Ideal S1024x256 .bf16) (r : Fin 512) (j : Fin 128) :
    k0_pay2 u (k0_pay36 w) (constant S512x256 .f32 0x00000000#32) (ix2 r j)
      = ∑ k : Fin 1024, u (ix2 r k) * w (ix2 k ⟨j.val, by omega⟩) := by
  pointwise [k0_pay2, k0_pay1, k0_pay36]

theorem last_apply (u : FVec Ideal S512x1024 .bf16) (w : Vec Ideal S1024x256 .bf16) (r : Fin 512) (j : Fin 128) :
    k0_pay3 u (k0_pay36 w) (constant S512x256 .f32 0x00000000#32) (ix2 r j)
      = ∑ k : Fin 1024, u (ix2 r k) * w (ix2 k ⟨128 + j.val, by omega⟩) := by
  pointwise [k0_pay3, k0_pay1, k0_pay36]

theorem select_gate (j : Fin 128) (a b : EReal) :
    Scalar.select (IntOp.cmpi .slt (BitVec.ofNat 32 j.val) 24#32) a b = if j.val < 24 then a else b := by
  have h : ∀ j : Fin 128, IntOp.cmpi .slt (BitVec.ofNat 32 j.val) 24#32 = if j.val < 24 then 1#1 else 0#1 := by decide +kernel
  rw [h]
  by_cases hj : j.val < 24 <;> simp [hj, Scalar.select]

/-- The gates: a sigmoid in the first 24 lanes, the logarithm of a sigmoid in the others. -/
theorem gates_apply (u : FVec Ideal S512x1024 .bf16) (w : Vec Ideal S1024x128 .bf16) (b : Vec Ideal S1x128 .f32) (r : Fin 512)
    (j : Fin 128) :
    k0_pay4 u w b (ix2 r j) = if j.val < 24 then Ideal.logistic ((∑ k : Fin 1024, u (ix2 r k) * w (ix2 k j)) + b (ix2 0 j))
      else ProjRows.logSig ((∑ k : Fin 1024, u (ix2 r k) * w (ix2 k j)) + b (ix2 0 j)) := by
  unfold ProjRows.logSig
  pointwise [k0_pay4]
  exact select_gate j _ _

end Cert.ProjIdeal.RefValue

end
-- ==== Proof.ProjOut.lean ====
/- The nine output blocks of a grid point of the input projection, element by element. -/
module

public import proofs.«01_k».proof.Proof.ProjBlock

@[expose] public section

set_option maxRecDepth 16384

noncomputable section

namespace Cert.ProjIdeal.RefValue

open Cert.ProjIdeal Cert.ProjIdeal.Gen Idealize.ShloMosaic Idealize.ShloMosaic.TcCoe

variable (x0 : Vec Ideal S512x1024 .f32) (x1 : Vec Ideal S1x1024 .f32) (x2 : Vec Ideal S1024x3968 .bf16)
  (x3 : Vec Ideal S1x2816 .f32) (x4 : Vec Ideal S1x128 .f32) (x5 x6 : Vec Ideal S256x256 .bf16)

/-- Packed column `c` of row `r`: the normalized token times the packed weights. -/
def packed (r : Fin 512) (c : Fin 3968) : EReal :=
  ∑ k : Fin 1024, Rows.rms (fun k => x0 (ix2 r k)) (fun k => x1 (ix2 0 k)) k * x2 (ix2 k c)

theorem u_apply (r : Fin 512) (k : Fin 1024) :
    k0_pay37 x0 x1 x2 x3 x4 x5 x6 (ix2 r k) = Rows.rms (fun k => x0 (ix2 r k)) (fun k => x1 (ix2 0 k)) k := by
  unfold k0_pay37
  rw [View.ld_unit_zero (S := S512x1024) hz, View.ld_unit_zero (S := S1x1024) hz, rows_apply]

theorem piece_apply (b : Vec Ideal S256x256 .bf16) (c : Fin 11) (w : Vec Ideal S1024x256 .bf16) (g : Vec Ideal S1x256 .f32)
    (hw : ∀ k i, w (ix2 k i) = x2 (ix2 k ⟨256 * c.val + i.val, by omega⟩)) (hg : ∀ i, g (ix2 0 i) = x3 (ix2 0 ⟨256 * c.val + i.val, by omega⟩))
    (r : Fin 512) (l : Fin 256) :
    k0_pay12 (k0_pay37 x0 x1 x2 x3 x4 x5 x6) w b g (ix2 r l)
      = ProjRows.chunk (packed x0 x1 x2 r) (fun i l => b (ix2 i l)) (fun j => x3 (ix2 0 j)) c l := by
  rw [chunk_apply]
  unfold ProjRows.chunk packed
  simp only [u_apply, hw, hg]

theorem chunk_at (b : Fin 256 → Fin 256 → EReal) (g : Fin 2816 → EReal) (r r' : Fin 512) (hr : r = r') (c c' : Fin 11) (l l' : Fin 256)
    (hc : c.val = c'.val) (hl : l.val = l'.val) :
    ProjRows.chunk (packed x0 x1 x2 r) b g c l = ProjRows.chunk (packed x0 x1 x2 r') b g c' l' := by
  rw [hr, Fin.ext hc, Fin.ext hl]

/-- Output block 7, as a function of its index. -/
def block7 : Vec Ideal S512x1024 .bf16 := fun y =>
  ProjRows.chunk (packed x0 x1 x2 (y 0)) (fun i l => x5 (ix2 i l)) (fun j => x3 (ix2 0 j))
    ⟨(y 1).val / 256, by have : (y 1).val < 1024 := (y 1).isLt; omega⟩ ⟨(y 1).val % 256, by omega⟩

theorem out7_apply (r : Fin 512) (j : Fin 1024) :
    out0_7 x0 x1 x2 x3 x4 x5 x6 (ix2 r j)
      = ProjRows.chunk (packed x0 x1 x2 r) (fun i l => x5 (ix2 i l)) (fun j => x3 (ix2 0 j)) ⟨j.val / 256, by omega⟩ ⟨j.val % 256, by omega⟩ := by
  unfold out0_7
  refine View.canon_apply_of_pieces (block7 x0 x1 x2 x3 x5) _ ?_ _ (cover0_7 _ _ _ _ _)
  intro p hp x
  simp only [List.mem_cons, List.not_mem_nil, or_false] at hp
  rcases hp with rfl | rfl | rfl | rfl
  · obtain ⟨r, l, rfl⟩ : ∃ (r : Fin 512) (l : Fin 256), x = ix2 r l := ⟨x 0, x 1, eq_ix2 x⟩
    rw [View.ld_unit_zero (S := S256x256) hz]
    refine (piece_apply x0 x1 x2 x3 x4 x5 x6 x5 3 _ _ (fun k i => ?_) (fun i => ?_) r l).trans ?_
    · pointwise
    · pointwise
    · unfold block7
      exact chunk_at _ _ _ _ _ r _ (Fin.ext (show r.val = 0 + 1 * r.val by omega)) _ _ _ _ (show 3 = (768 + 1 * l.val) / 256 by omega) (show l.val = (768 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_a2 _ _ _ _) _).trans ?_
    refine (piece_apply x0 x1 x2 x3 x4 x5 x6 x5 2 _ _ (fun k i => ?_) (fun i => ?_) r l).trans ?_
    · pointwise
    · pointwise
    · unfold block7
      exact chunk_at _ _ _ _ _ r _ (Fin.ext (show r.val = 0 + 1 * r.val by omega)) _ _ _ _ (show 2 = (512 + 1 * l.val) / 256 by omega) (show l.val = (512 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_a1 _ _ _ _) _).trans ?_
    refine (piece_apply x0 x1 x2 x3 x4 x5 x6 x5 1 _ _ (fun k i => ?_) (fun i => ?_) r l).trans ?_
    · pointwise
    · pointwise
    · unfold block7
      exact chunk_at _ _ _ _ _ r _ (Fin.ext (show r.val = 0 + 1 * r.val by omega)) _ _ _ _ (show 1 = (256 + 1 * l.val) / 256 by omega) (show l.val = (256 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_a0 _ _ _ _ _) _).trans ?_
    refine (piece_apply x0 x1 x2 x3 x4 x5 x6 x5 0 _ _ (fun k i => ?_) (fun i => ?_) r l).trans ?_
    · pointwise
    · pointwise
    · unfold block7
      exact chunk_at _ _ _ _ _ r _ (Fin.ext (show r.val = 0 + 1 * r.val by omega)) _ _ _ _ (show 0 = (0 + 1 * l.val) / 256 by omega) (show l.val = (0 + 1 * l.val) % 256 by omega)

/-- Output block 8, as a function of its index. -/
def block8 : Vec Ideal S512x1024 .bf16 := fun y =>
  ProjRows.chunk (packed x0 x1 x2 (y 0)) (fun i l => x5 (ix2 i l)) (fun j => x3 (ix2 0 j))
    ⟨4 + (y 1).val / 256, by have : (y 1).val < 1024 := (y 1).isLt; omega⟩ ⟨(y 1).val % 256, by omega⟩

theorem out8_apply (r : Fin 512) (j : Fin 1024) :
    out0_8 x0 x1 x2 x3 x4 x5 x6 (ix2 r j)
      = ProjRows.chunk (packed x0 x1 x2 r) (fun i l => x5 (ix2 i l)) (fun j => x3 (ix2 0 j)) ⟨4 + j.val / 256, by omega⟩ ⟨j.val % 256, by omega⟩ := by
  unfold out0_8
  refine View.canon_apply_of_pieces (block8 x0 x1 x2 x3 x5) _ ?_ _ (cover0_8 _ _ _ _ _)
  intro p hp x
  simp only [List.mem_cons, List.not_mem_nil, or_false] at hp
  rcases hp with rfl | rfl | rfl | rfl
  · obtain ⟨r, l, rfl⟩ : ∃ (r : Fin 512) (l : Fin 256), x = ix2 r l := ⟨x 0, x 1, eq_ix2 x⟩
    rw [View.ld_unit_zero (S := S256x256) hz]
    refine (congrFun (chunk_b3 _ _ _ _) _).trans ?_
    refine (piece_apply x0 x1 x2 x3 x4 x5 x6 x5 7 _ _ (fun k i => ?_) (fun i => ?_) r l).trans ?_
    · pointwise
    · pointwise
    · unfold block8
      exact chunk_at _ _ _ _ _ r _ (Fin.ext (show r.val = 0 + 1 * r.val by omega)) _ _ _ _ (show 7 = 4 + (768 + 1 * l.val) / 256 by omega) (show l.val = (768 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_b2 _ _ _ _) _).trans ?_
    refine (piece_apply x0 x1 x2 x3 x4 x5 x6 x5 6 _ _ (fun k i => ?_) (fun i => ?_) r l).trans ?_
    · pointwise
    · pointwise
    · unfold block8
      exact chunk_at _ _ _ _ _ r _ (Fin.ext (show r.val = 0 + 1 * r.val by omega)) _ _ _ _ (show 6 = 4 + (512 + 1 * l.val) / 256 by omega) (show l.val = (512 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_b1 _ _ _ _) _).trans ?_
    refine (piece_apply x0 x1 x2 x3 x4 x5 x6 x5 5 _ _ (fun k i => ?_) (fun i => ?_) r l).trans ?_
    · pointwise
    · pointwise
    · unfold block8
      exact chunk_at _ _ _ _ _ r _ (Fin.ext (show r.val = 0 + 1 * r.val by omega)) _ _ _ _ (show 5 = 4 + (256 + 1 * l.val) / 256 by omega) (show l.val = (256 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_b0 _ _ _ _) _).trans ?_
    refine (piece_apply x0 x1 x2 x3 x4 x5 x6 x5 4 _ _ (fun k i => ?_) (fun i => ?_) r l).trans ?_
    · pointwise
    · pointwise
    · unfold block8
      exact chunk_at _ _ _ _ _ r _ (Fin.ext (show r.val = 0 + 1 * r.val by omega)) _ _ _ _ (show 4 = 4 + (0 + 1 * l.val) / 256 by omega) (show l.val = (0 + 1 * l.val) % 256 by omega)

/-- Output block 9, as a function of its index. -/
def block9 : Vec Ideal S512x512 .bf16 := fun y =>
  ProjRows.chunk (packed x0 x1 x2 (y 0)) (fun i l => x6 (ix2 i l)) (fun j => x3 (ix2 0 j))
    ⟨8 + (y 1).val / 256, by have : (y 1).val < 512 := (y 1).isLt; omega⟩ ⟨(y 1).val % 256, by omega⟩

theorem out9_apply (r : Fin 512) (j : Fin 512) :
    out0_9 x0 x1 x2 x3 x4 x5 x6 (ix2 r j)
      = ProjRows.chunk (packed x0 x1 x2 r) (fun i l => x6 (ix2 i l)) (fun j => x3 (ix2 0 j)) ⟨8 + j.val / 256, by omega⟩ ⟨j.val % 256, by omega⟩ := by
  unfold out0_9
  refine View.canon_apply_of_pieces (block9 x0 x1 x2 x3 x6) _ ?_ _ (cover0_9 _ _ _)
  intro p hp x
  simp only [List.mem_cons, List.not_mem_nil, or_false] at hp
  rcases hp with rfl | rfl
  · obtain ⟨r, l, rfl⟩ : ∃ (r : Fin 512) (l : Fin 256), x = ix2 r l := ⟨x 0, x 1, eq_ix2 x⟩
    rw [View.ld_unit_zero (S := S256x256) hz]
    refine (congrFun (chunk_k1 _ _ _ _) _).trans ?_
    refine (piece_apply x0 x1 x2 x3 x4 x5 x6 x6 9 _ _ (fun k i => ?_) (fun i => ?_) r l).trans ?_
    · pointwise
    · pointwise
    · unfold block9
      exact chunk_at _ _ _ _ _ r _ (Fin.ext (show r.val = 0 + 1 * r.val by omega)) _ _ _ _ (show 9 = 8 + (256 + 1 * l.val) / 256 by omega) (show l.val = (256 + 1 * l.val) % 256 by omega)
  · obtain ⟨r, l, rfl⟩ : ∃ (r : Fin 512) (l : Fin 256), x = ix2 r l := ⟨x 0, x 1, eq_ix2 x⟩
    rw [View.ld_unit_zero (S := S256x256) hz]
    refine (congrFun (chunk_k0 _ _ _ _) _).trans ?_
    refine (piece_apply x0 x1 x2 x3 x4 x5 x6 x6 8 _ _ (fun k i => ?_) (fun i => ?_) r l).trans ?_
    · pointwise
    · pointwise
    · unfold block9
      exact chunk_at _ _ _ _ _ r _ (Fin.ext (show r.val = 0 + 1 * r.val by omega)) _ _ _ _ (show 8 = 8 + (0 + 1 * l.val) / 256 by omega) (show l.val = (0 + 1 * l.val) % 256 by omega)

theorem out10_apply (r : Fin 512) (j : Fin 256) :
    out0_10 x0 x1 x2 x3 x4 x5 x6 (ix2 r j)
      = ProjRows.chunk (packed x0 x1 x2 r) (fun i l => x6 (ix2 i l)) (fun j => x3 (ix2 0 j)) 10 j := by
  unfold out0_10
  rw [View.canon_unit_zero hz, View.ld_unit_zero (S := S256x256) hz]
  refine (congrFun (chunk_s _ _ _ _) _).trans ?_
  refine piece_apply x0 x1 x2 x3 x4 x5 x6 x6 10 _ _ (fun k i => ?_) (fun i => ?_) r j
  · pointwise
  · pointwise

theorem out11_apply (r : Fin 512) (j : Fin 512) :
    out0_11 x0 x1 x2 x3 x4 x5 x6 (ix2 r j) = packed x0 x1 x2 r ⟨2816 + j.val, by omega⟩ := by
  unfold out0_11 packed
  rw [View.canon_unit_zero hz, plain512_apply]
  refine Finset.sum_congr rfl fun k _ => ?_
  rw [u_apply]
  refine congrArg _ ?_
  pointwise

theorem out12_apply (r : Fin 512) (j : Fin 256) :
    out0_12 x0 x1 x2 x3 x4 x5 x6 (ix2 r j) = packed x0 x1 x2 r ⟨3328 + j.val, by omega⟩ := by
  unfold out0_12 packed
  rw [View.canon_unit_zero hz, plain256_apply]
  refine Finset.sum_congr rfl fun k _ => ?_
  rw [u_apply]
  refine congrArg _ ?_
  pointwise

theorem out13_apply (r : Fin 512) (j : Fin 128) :
    out0_13 x0 x1 x2 x3 x4 x5 x6 (ix2 r j) = packed x0 x1 x2 r ⟨3584 + j.val, by omega⟩ := by
  unfold out0_13 packed k0_pay38 k0_pay39
  rw [View.canon_unit_zero hz, first_apply]
  refine Finset.sum_congr rfl fun k _ => ?_
  rw [u_apply]
  refine congrArg _ ?_
  pointwise

theorem out14_apply (r : Fin 512) (j : Fin 128) :
    out0_14 x0 x1 x2 x3 x4 x5 x6 (ix2 r j) = packed x0 x1 x2 r ⟨3712 + j.val, by omega⟩ := by
  unfold out0_14 packed k0_pay38 k0_pay39
  rw [View.canon_unit_zero hz, last_apply]
  refine Finset.sum_congr rfl fun k _ => ?_
  rw [u_apply]
  refine congrArg _ ?_
  pointwise
  exact congrArg x2 (Shape.idx_ext₂ rfl (show 3584 + (128 + j.val) = 3712 + j.val by omega))

theorem out15_apply (r : Fin 512) (j : Fin 128) :
    out0_15 x0 x1 x2 x3 x4 x5 x6 (ix2 r j)
      = if j.val < 24 then Ideal.logistic (packed x0 x1 x2 r ⟨3840 + j.val, by omega⟩ + x4 (ix2 0 j))
        else ProjRows.logSig (packed x0 x1 x2 r ⟨3840 + j.val, by omega⟩ + x4 (ix2 0 j)) := by
  have h : (∑ k : Fin 1024, k0_pay37 x0 x1 x2 x3 x4 x5 x6 (ix2 r k) * View.ld x2 r0_37 (ix2 k j)) = packed x0 x1 x2 r ⟨3840 + j.val, by omega⟩ := by
    unfold packed
    refine Finset.sum_congr rfl fun k _ => ?_
    rw [u_apply]
    refine congrArg _ ?_
    pointwise
  unfold out0_15
  rw [View.canon_unit_zero hz, View.ld_unit_zero (S := S1x128) hz, gates_apply]
  simp only [h]

end Cert.ProjIdeal.RefValue

end
-- ==== Proof.ProjEntry.lean ====
module

public import proofs.«01_k».proof.Proof.ProjHost
public import proofs.«01_k».proof.Proof.ProjOut
public import Idealize.ShloMosaic.Lib.StableHlo.Run

@[expose] public section

/-!
# The operands of the projection call when it is entered
-/

set_option maxRecDepth 16384

noncomputable section

namespace Cert.ProjIdeal.RefValue

open Cert.ProjIdeal Cert.ProjIdeal.Gen Idealize.ShloMosaic Idealize.ShloMosaic.TcCoe Idealize.SL.Sem

variable (m : (ℓ : Loc nD τ sig) → Buf (Elt Ideal) ℓ)

theorem V_gain (c : Dev nD) : V m c main_v92 = shapeCast S1x1024 (m ((c : Thread nD τ).loc main_arg1)) shapeCasts_S1024_S1x1024 := by
  show StableHlo.after (hostOps0 (F := Ideal)) _ (Proc.devRef .tc main_v92) = _
  after_results
  rfl

theorem V_bias (c : Dev nD) : V m c main_v90 = bias (m ((c : Thread nD τ).loc main_arg3)) := by
  show StableHlo.after (hostOps0 (F := Ideal)) _ (Proc.devRef .tc main_v90) = _
  after_results
  rfl

theorem V_ones7 (c : Dev nD) : V m c main_v102 = ones 7#32 := by
  show StableHlo.after (List.flatten [hostOps0 (F := Ideal), hostOps0_1, hostOps0_2, hostOps0_3, hostOps0_4]) _ (Proc.devRef .tc main_v102) = _
  simp only [hostOps0, hostOps0_1, hostOps0_2, hostOps0_3, hostOps0_4, List.flatten_cons, List.flatten_nil, List.append_nil, List.cons_append, List.nil_append]
  after_results
  rfl

theorem V_ones6 (c : Dev nD) : V m c main_v112 = ones 6#32 := by
  show StableHlo.after (List.flatten [hostOps0 (F := Ideal), hostOps0_1, hostOps0_2, hostOps0_3, hostOps0_4]) _ (Proc.devRef .tc main_v112) = _
  simp only [hostOps0, hostOps0_1, hostOps0_2, hostOps0_3, hostOps0_4, List.flatten_cons, List.flatten_nil, List.append_nil, List.cons_append, List.nil_append]
  after_results
  rfl

theorem V_pack (c : Dev nD) : V m c main_v81 = truncf (F := Ideal) .bf16 (pack (m ((c : Thread nD τ).loc main_arg2))) bitsLt_bf16_f32 := by
  show StableHlo.after (hostOps0 (F := Ideal)) _ (Proc.devRef .tc main_v81) = _
  after_results
  rfl

theorem V_gains (c : Dev nD) : V m c main_v86 = gains (m ((c : Thread nD τ).loc main_arg4)) (m ((c : Thread nD τ).loc main_arg5)) (m ((c : Thread nD τ).loc main_arg6)) (m ((c : Thread nD τ).loc main_arg7)) := by
  show StableHlo.after (hostOps0 (F := Ideal)) _ (Proc.devRef .tc main_v86) = _
  after_results
  rfl

end Cert.ProjIdeal.RefValue
-- ==== Proof.ProjArray.lean ====
module

public import proofs.«01_k».proof.Proof.ProjEntry

@[expose] public section

/-!
# The result arrays of the projection call

Every element of a result array, from its row of the input over the packed weights, the gains and the bias as launched.
-/

set_option maxRecDepth 16384

noncomputable section

namespace Cert.ProjIdeal.RefValue

open Cert.ProjIdeal Cert.ProjIdeal.Gen Idealize.ShloMosaic Idealize.ShloMosaic.TcCoe Idealize.SL.Sem

variable (m : (ℓ : Loc nD τ sig) → Buf (Elt Ideal) ℓ) (ρ : Dev nD → PrngReg)

/-- A vector as one row. -/
theorem row_apply {α : Type} (g : S1024.Idx → α) (k : Fin 1024) : shapeCast S1x1024 g shapeCasts_S1024_S1x1024 (ix2 0 k) = g (ix1 k) := by
  pointwise

/-- The packed columns of token `s`. -/
def cols (x : FVec Ideal S32768x1024 .f32) (g : FVec Ideal S1024 .f32) (w : FVec Ideal S1024x4896 .f32) (s : Fin 32768) (c : Fin 3968) : EReal :=
  ∑ k : Fin 1024, Rows.rms (fun k => x (ix2 s k)) (fun k => g (ix1 k)) k * pack w (ix2 k c)

/-- The packed columns of the launched arguments. -/
abbrev launchCols (c : Dev nD) : Fin 32768 → Fin 3968 → EReal :=
  cols (m ((c : Thread nD τ).loc main_arg0)) (m ((c : Thread nD τ).loc main_arg1)) (m ((c : Thread nD τ).loc main_arg2))

/-- The gains of the launched arguments. -/
abbrev launchGains (c : Dev nD) (j : Fin 2816) : EReal :=
  gains (m ((c : Thread nD τ).loc main_arg4)) (m ((c : Thread nD τ).loc main_arg5)) (m ((c : Thread nD τ).loc main_arg6)) (m ((c : Thread nD τ).loc main_arg7)) (ix2 0 j)

/-! ## The blocks of a grid point -/

theorem index_rows : ∀ t : Fin cfg0.N, (win0_0.index t 0 = t.val ∧ win0_0.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) :=
  (by decide +kernel : ∀ t : Fin grid0.N, (win0_0.index t 0 = t.val ∧ win0_0.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0))

/-- Row `r` of point `t`'s block. -/
abbrev row (t : Fin cfg0.N) (r : Fin 512) : Fin 32768 := ⟨512 * t.val + r.val, by have := t.isLt; have : cfg0.N = 64 := N_0; omega⟩

theorem blk_x (c : Dev nD) (t : Fin cfg0.N) (r : Fin 512) (k : Fin 1024) :
    iblk m c 0 t (ix2 r k) = m ((c : Thread nD τ).loc main_arg0) (ix2 (row t r) k) := by
  refine Eq.trans ?_ (congrFun (V_main_arg0 m c) _)
  show V m c main_arg0 ((win0_0.blk t).view.emb (ix2 r k)) = _
  refine congrArg _ (Shape.idx_ext₂ ?_ ?_)
  · show win0_0.index t 0 * 512 + 1 * r.val = 512 * t.val + r.val
    have := (index_rows t).1.1
    omega
  · show win0_0.index t 1 * 1024 + 1 * k.val = k.val
    have := (index_rows t).1.2
    omega

theorem blk_gain (c : Dev nD) (t : Fin cfg0.N) (j : Fin 1024) : iblk m c 1 t (ix2 0 j) = V m c main_v92 (ix2 0 j) := by
  show V m c main_v92 ((win0_1.blk t).view.emb (ix2 0 j)) = _
  refine congrArg _ (Shape.idx_ext₂ ?_ ?_)
  · show 0 * 1 + 1 * 0 = 0
    rfl
  · show 0 * 1024 + 1 * j.val = j.val
    omega

theorem blk_pack (c : Dev nD) (t : Fin cfg0.N) (k : Fin 1024) (j : Fin 3968) : iblk m c 2 t (ix2 k j) = V m c main_v81 (ix2 k j) := by
  show V m c main_v81 ((win0_2.blk t).view.emb (ix2 k j)) = _
  refine congrArg _ (Shape.idx_ext₂ ?_ ?_)
  · show 0 * 1024 + 1 * k.val = k.val
    omega
  · show 0 * 3968 + 1 * j.val = j.val
    omega

theorem blk_gains (c : Dev nD) (t : Fin cfg0.N) (j : Fin 2816) : iblk m c 3 t (ix2 0 j) = V m c main_v86 (ix2 0 j) := by
  show V m c main_v86 ((win0_3.blk t).view.emb (ix2 0 j)) = _
  refine congrArg _ (Shape.idx_ext₂ ?_ ?_)
  · show 0 * 1 + 1 * 0 = 0
    rfl
  · show 0 * 2816 + 1 * j.val = j.val
    omega

theorem blk_bias (c : Dev nD) (t : Fin cfg0.N) (j : Fin 128) : iblk m c 4 t (ix2 0 j) = V m c main_v90 (ix2 0 j) := by
  show V m c main_v90 ((win0_4.blk t).view.emb (ix2 0 j)) = _
  refine congrArg _ (Shape.idx_ext₂ ?_ ?_)
  · show 0 * 1 + 1 * 0 = 0
    rfl
  · show 0 * 128 + 1 * j.val = j.val
    omega

theorem blk_ones7 (c : Dev nD) (t : Fin cfg0.N) (k : Fin 256) (j : Fin 256) : iblk m c 5 t (ix2 k j) = V m c main_v102 (ix2 k j) := by
  show V m c main_v102 ((win0_5.blk t).view.emb (ix2 k j)) = _
  refine congrArg _ (Shape.idx_ext₂ ?_ ?_)
  · show 0 * 256 + 1 * k.val = k.val
    omega
  · show 0 * 256 + 1 * j.val = j.val
    omega

theorem blk_ones6 (c : Dev nD) (t : Fin cfg0.N) (k : Fin 256) (j : Fin 256) : iblk m c 6 t (ix2 k j) = V m c main_v112 (ix2 k j) := by
  show V m c main_v112 ((win0_6.blk t).view.emb (ix2 k j)) = _
  refine congrArg _ (Shape.idx_ext₂ ?_ ?_)
  · show 0 * 256 + 1 * k.val = k.val
    omega
  · show 0 * 256 + 1 * j.val = j.val
    omega

theorem blk_packed (c : Dev nD) (t : Fin cfg0.N) (r : Fin 512) :
    packed (iblk m c 0 t) (iblk m c 1 t) (iblk m c 2 t) r = launchCols m c (row t r) := by
  funext i
  show (∑ k : Fin 1024, Rows.rms (fun k => iblk m c 0 t (ix2 r k)) (fun k => iblk m c 1 t (ix2 0 k)) k * iblk m c 2 t (ix2 k i)) = _
  have h1 : ∀ k, iblk m c 1 t (ix2 0 k) = m ((c : Thread nD τ).loc main_arg1) (ix1 k) := fun k =>
    (blk_gain m c t k).trans ((congrFun (V_gain m c) _).trans (row_apply _ k))
  have h2 : ∀ k, iblk m c 2 t (ix2 k i) = pack (m ((c : Thread nD τ).loc main_arg2)) (ix2 k i) := fun k =>
    (blk_pack m c t k i).trans (congrFun (V_pack m c) _)
  simp only [blk_x, h1, h2]
  rfl

theorem blk_gains' (c : Dev nD) (t : Fin cfg0.N) (j : Fin 2816) : iblk m c 3 t (ix2 0 j) = launchGains m c j :=
  (blk_gains m c t j).trans (congrFun (V_gains m c) _)

theorem blk_bias' (c : Dev nD) (t : Fin cfg0.N) (j : Fin 128) : iblk m c 4 t (ix2 0 j) = bias (m ((c : Thread nD τ).loc main_arg3)) (ix2 0 j) :=
  (blk_bias m c t j).trans (congrFun (V_bias m c) _)

theorem blk_ones7' (c : Dev nD) (t : Fin cfg0.N) (i l : Fin 256) : iblk m c 5 t (ix2 i l) = (if i.val / 128 = l.val / 128 then 1 else 0 : EReal) :=
  (blk_ones7 m c t i l).trans ((congrFun (V_ones7 m c) _).trans (ones7_apply i l))

theorem blk_ones6' (c : Dev nD) (t : Fin cfg0.N) (i l : Fin 256) : iblk m c 6 t (ix2 i l) = (if i.val / 64 = l.val / 64 then 1 else 0 : EReal) :=
  (blk_ones6 m c t i l).trans ((congrFun (V_ones6 m c) _).trans (ones6_apply i l))

/-! ## The result arrays -/

theorem array7 (c : Dev nD) (s : Fin 32768) (j : Fin 1024) :
    (dats m 0 c).arrAt 7 cfg0.N (ix2 s j)
      = ProjRows.chunk (launchCols m c s) (fun i l => if i.val / 128 = l.val / 128 then 1 else 0) (launchGains m c) ⟨j.val / 256, by omega⟩ ⟨j.val % 256, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks7 m c t (flush0_7 t)) (ix2 r j)
  have hidx : (win0_7.blk t).view.emb (ix2 r j) = ix2 s j := by
    refine Shape.idx_ext₂ ?_ ?_
    · show win0_7.index t 0 * 512 + 1 * (s.val % 512) = s.val
      have h : win0_7.index t 0 = s.val / 512 := (index_rows t).2.1.1
      omega
    · show win0_7.index t 1 * 1024 + 1 * j.val = j.val
      have := (index_rows t).2.1.2
      omega
  have hread : (dats m 0 c).arrAt 7 cfg0.N ((win0_7.blk t).view.emb (ix2 r j))
      = out0_7 (iblk m c 0 t) (iblk m c 1 t) (iblk m c 2 t) (iblk m c 3 t) (iblk m c 4 t) (iblk m c 5 t) (iblk m c 6 t) (ix2 r j) := by
    rw [Value.flushed7] at hblk
    exact hblk
  rw [hidx] at hread
  rw [hread, out7_apply, blk_packed, hrow]
  simp only [blk_gains', blk_ones7']

theorem array8 (c : Dev nD) (s : Fin 32768) (j : Fin 1024) :
    (dats m 0 c).arrAt 8 cfg0.N (ix2 s j)
      = ProjRows.chunk (launchCols m c s) (fun i l => if i.val / 128 = l.val / 128 then 1 else 0) (launchGains m c) ⟨4 + j.val / 256, by omega⟩ ⟨j.val % 256, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks8 m c t (flush0_8 t)) (ix2 r j)
  have hidx : (win0_8.blk t).view.emb (ix2 r j) = ix2 s j := by
    refine Shape.idx_ext₂ ?_ ?_
    · show win0_8.index t 0 * 512 + 1 * (s.val % 512) = s.val
      have h : win0_8.index t 0 = s.val / 512 := (index_rows t).2.2.1.1
      omega
    · show win0_8.index t 1 * 1024 + 1 * j.val = j.val
      have := (index_rows t).2.2.1.2
      omega
  have hread : (dats m 0 c).arrAt 8 cfg0.N ((win0_8.blk t).view.emb (ix2 r j))
      = out0_8 (iblk m c 0 t) (iblk m c 1 t) (iblk m c 2 t) (iblk m c 3 t) (iblk m c 4 t) (iblk m c 5 t) (iblk m c 6 t) (ix2 r j) := by
    rw [Value.flushed8] at hblk
    exact hblk
  rw [hidx] at hread
  rw [hread, out8_apply, blk_packed, hrow]
  simp only [blk_gains', blk_ones7']

theorem array9 (c : Dev nD) (s : Fin 32768) (j : Fin 512) :
    (dats m 0 c).arrAt 9 cfg0.N (ix2 s j)
      = ProjRows.chunk (launchCols m c s) (fun i l => if i.val / 64 = l.val / 64 then 1 else 0) (launchGains m c) ⟨8 + j.val / 256, by omega⟩ ⟨j.val % 256, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks9 m c t (flush0_9 t)) (ix2 r j)
  have hidx : (win0_9.blk t).view.emb (ix2 r j) = ix2 s j := by
    refine Shape.idx_ext₂ ?_ ?_
    · show win0_9.index t 0 * 512 + 1 * (s.val % 512) = s.val
      have h : win0_9.index t 0 = s.val / 512 := (index_rows t).2.2.2.1.1
      omega
    · show win0_9.index t 1 * 512 + 1 * j.val = j.val
      have := (index_rows t).2.2.2.1.2
      omega
  have hread : (dats m 0 c).arrAt 9 cfg0.N ((win0_9.blk t).view.emb (ix2 r j))
      = out0_9 (iblk m c 0 t) (iblk m c 1 t) (iblk m c 2 t) (iblk m c 3 t) (iblk m c 4 t) (iblk m c 5 t) (iblk m c 6 t) (ix2 r j) := by
    rw [Value.flushed9] at hblk
    exact hblk
  rw [hidx] at hread
  rw [hread, out9_apply, blk_packed, hrow]
  simp only [blk_gains', blk_ones6']

theorem array10 (c : Dev nD) (s : Fin 32768) (j : Fin 256) :
    (dats m 0 c).arrAt 10 cfg0.N (ix2 s j)
      = ProjRows.chunk (launchCols m c s) (fun i l => if i.val / 64 = l.val / 64 then 1 else 0) (launchGains m c) 10 j := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks10 m c t (flush0_10 t)) (ix2 r j)
  have hidx : (win0_10.blk t).view.emb (ix2 r j) = ix2 s j := by
    refine Shape.idx_ext₂ ?_ ?_
    · show win0_10.index t 0 * 512 + 1 * (s.val % 512) = s.val
      have h : win0_10.index t 0 = s.val / 512 := (index_rows t).2.2.2.2.1.1
      omega
    · show win0_10.index t 1 * 256 + 1 * j.val = j.val
      have := (index_rows t).2.2.2.2.1.2
      omega
  have hread : (dats m 0 c).arrAt 10 cfg0.N ((win0_10.blk t).view.emb (ix2 r j))
      = out0_10 (iblk m c 0 t) (iblk m c 1 t) (iblk m c 2 t) (iblk m c 3 t) (iblk m c 4 t) (iblk m c 5 t) (iblk m c 6 t) (ix2 r j) := by
    rw [Value.flushed10] at hblk
    exact hblk
  rw [hidx] at hread
  rw [hread, out10_apply, blk_packed, hrow]
  simp only [blk_gains', blk_ones6']

theorem array11 (c : Dev nD) (s : Fin 32768) (j : Fin 512) :
    (dats m 0 c).arrAt 11 cfg0.N (ix2 s j)
      = launchCols m c s ⟨2816 + j.val, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks11 m c t (flush0_11 t)) (ix2 r j)
  have hidx : (win0_11.blk t).view.emb (ix2 r j) = ix2 s j := by
    refine Shape.idx_ext₂ ?_ ?_
    · show win0_11.index t 0 * 512 + 1 * (s.val % 512) = s.val
      have h : win0_11.index t 0 = s.val / 512 := (index_rows t).2.2.2.2.2.1.1
      omega
    · show win0_11.index t 1 * 512 + 1 * j.val = j.val
      have := (index_rows t).2.2.2.2.2.1.2
      omega
  have hread : (dats m 0 c).arrAt 11 cfg0.N ((win0_11.blk t).view.emb (ix2 r j))
      = out0_11 (iblk m c 0 t) (iblk m c 1 t) (iblk m c 2 t) (iblk m c 3 t) (iblk m c 4 t) (iblk m c 5 t) (iblk m c 6 t) (ix2 r j) := by
    rw [Value.flushed11] at hblk
    exact hblk
  rw [hidx] at hread
  rw [hread, out11_apply, blk_packed, hrow]

theorem array12 (c : Dev nD) (s : Fin 32768) (j : Fin 256) :
    (dats m 0 c).arrAt 12 cfg0.N (ix2 s j)
      = launchCols m c s ⟨3328 + j.val, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks12 m c t (flush0_12 t)) (ix2 r j)
  have hidx : (win0_12.blk t).view.emb (ix2 r j) = ix2 s j := by
    refine Shape.idx_ext₂ ?_ ?_
    · show win0_12.index t 0 * 512 + 1 * (s.val % 512) = s.val
      have h : win0_12.index t 0 = s.val / 512 := (index_rows t).2.2.2.2.2.2.1.1
      omega
    · show win0_12.index t 1 * 256 + 1 * j.val = j.val
      have := (index_rows t).2.2.2.2.2.2.1.2
      omega
  have hread : (dats m 0 c).arrAt 12 cfg0.N ((win0_12.blk t).view.emb (ix2 r j))
      = out0_12 (iblk m c 0 t) (iblk m c 1 t) (iblk m c 2 t) (iblk m c 3 t) (iblk m c 4 t) (iblk m c 5 t) (iblk m c 6 t) (ix2 r j) := by
    rw [Value.flushed12] at hblk
    exact hblk
  rw [hidx] at hread
  rw [hread, out12_apply, blk_packed, hrow]

theorem array13 (c : Dev nD) (s : Fin 32768) (j : Fin 128) :
    (dats m 0 c).arrAt 13 cfg0.N (ix2 s j)
      = launchCols m c s ⟨3584 + j.val, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks13 m c t (flush0_13 t)) (ix2 r j)
  have hidx : (win0_13.blk t).view.emb (ix2 r j) = ix2 s j := by
    refine Shape.idx_ext₂ ?_ ?_
    · show win0_13.index t 0 * 512 + 1 * (s.val % 512) = s.val
      have h : win0_13.index t 0 = s.val / 512 := (index_rows t).2.2.2.2.2.2.2.1.1
      omega
    · show win0_13.index t 1 * 128 + 1 * j.val = j.val
      have := (index_rows t).2.2.2.2.2.2.2.1.2
      omega
  have hread : (dats m 0 c).arrAt 13 cfg0.N ((win0_13.blk t).view.emb (ix2 r j))
      = out0_13 (iblk m c 0 t) (iblk m c 1 t) (iblk m c 2 t) (iblk m c 3 t) (iblk m c 4 t) (iblk m c 5 t) (iblk m c 6 t) (ix2 r j) := by
    rw [Value.flushed13] at hblk
    exact hblk
  rw [hidx] at hread
  rw [hread, out13_apply, blk_packed, hrow]

theorem array14 (c : Dev nD) (s : Fin 32768) (j : Fin 128) :
    (dats m 0 c).arrAt 14 cfg0.N (ix2 s j)
      = launchCols m c s ⟨3712 + j.val, by omega⟩ := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks14 m c t (flush0_14 t)) (ix2 r j)
  have hidx : (win0_14.blk t).view.emb (ix2 r j) = ix2 s j := by
    refine Shape.idx_ext₂ ?_ ?_
    · show win0_14.index t 0 * 512 + 1 * (s.val % 512) = s.val
      have h : win0_14.index t 0 = s.val / 512 := (index_rows t).2.2.2.2.2.2.2.2.1.1
      omega
    · show win0_14.index t 1 * 128 + 1 * j.val = j.val
      have := (index_rows t).2.2.2.2.2.2.2.2.1.2
      omega
  have hread : (dats m 0 c).arrAt 14 cfg0.N ((win0_14.blk t).view.emb (ix2 r j))
      = out0_14 (iblk m c 0 t) (iblk m c 1 t) (iblk m c 2 t) (iblk m c 3 t) (iblk m c 4 t) (iblk m c 5 t) (iblk m c 6 t) (ix2 r j) := by
    rw [Value.flushed14] at hblk
    exact hblk
  rw [hidx] at hread
  rw [hread, out14_apply, blk_packed, hrow]

theorem array15 (c : Dev nD) (s : Fin 32768) (j : Fin 128) :
    (dats m 0 c).arrAt 15 cfg0.N (ix2 s j)
      = if j.val < 24 then Ideal.logistic (launchCols m c s ⟨3840 + j.val, by omega⟩ + bias (m ((c : Thread nD τ).loc main_arg3)) (ix2 0 j)) else ProjRows.logSig (launchCols m c s ⟨3840 + j.val, by omega⟩ + bias (m ((c : Thread nD τ).loc main_arg3)) (ix2 0 j)) := by
  have hN : cfg0.N = 64 := N_0
  have hs := s.isLt
  let t : Fin cfg0.N := ⟨s.val / 512, by omega⟩
  let r : Fin 512 := ⟨s.val % 512, by omega⟩
  have hrow : row t r = s := Fin.ext (by dsimp only [row, t, r]; omega)
  have hblk := congrFun (Value.blocks15 m c t (flush0_15 t)) (ix2 r j)
  have hidx : (win0_15.blk t).view.emb (ix2 r j) = ix2 s j := by
    refine Shape.idx_ext₂ ?_ ?_
    · show win0_15.index t 0 * 512 + 1 * (s.val % 512) = s.val
      have h : win0_15.index t 0 = s.val / 512 := (index_rows t).2.2.2.2.2.2.2.2.2.1
      omega
    · show win0_15.index t 1 * 128 + 1 * j.val = j.val
      have := (index_rows t).2.2.2.2.2.2.2.2.2.2
      omega
  have hread : (dats m 0 c).arrAt 15 cfg0.N ((win0_15.blk t).view.emb (ix2 r j))
      = out0_15 (iblk m c 0 t) (iblk m c 1 t) (iblk m c 2 t) (iblk m c 3 t) (iblk m c 4 t) (iblk m c 5 t) (iblk m c 6 t) (ix2 r j) := by
    rw [Value.flushed15] at hblk
    exact hblk
  rw [hidx] at hread
  rw [hread, out15_apply, blk_packed, hrow]
  simp only [blk_bias']

end Cert.ProjIdeal.RefValue

end
-- ==== Proof.ProjLayout.lean ====
module

public import proofs.«01_k».proof.Proof.ProjRows

@[expose] public section

/-!
# From packed columns to heads

A chunk of 256 packed columns, normalized by a matrix of blocks of ones, holds the norms of the heads in it: a block is either
one head, or one head and as many columns of zeros.
-/

noncomputable section

namespace Cert.ProjRows

open Idealize.ShloMosaic

/-- The norm of the 64 columns around a lane: in the lane's block the other columns are zero. -/
theorem chunk_head (P : Fin 3968 → EReal) (b : Fin 256 → Fin 256 → EReal) (G : Fin 2816 → EReal) (c : Fin 11) (l : Fin 256) (W : ℕ)
    (hW : W = 64 ∨ W = 128) (hP : ∀ i, ∃ r : ℝ, P i = r) (hb : ∀ i l, b i l = if i.val / W = l.val / W then 1 else 0)
    (hpad : ∀ i : Fin 256, i.val / W = l.val / W → i.val / 64 ≠ l.val / 64 → P ⟨256 * c.val + i.val, by omega⟩ = 0) :
    chunk P b G c l = head (fun f => P ⟨256 * c.val + (64 * (l.val / 64) + f.val), by omega⟩)
      (fun f => G ⟨256 * c.val + (64 * (l.val / 64) + f.val), by omega⟩) ⟨l.val % 64, by omega⟩ := by
  let e : Fin 64 → Fin 256 := fun f => ⟨64 * (l.val / 64) + f.val, by omega⟩
  have hl : l = e ⟨l.val % 64, by omega⟩ := Fin.ext (by show l.val = 64 * (l.val / 64) + l.val % 64; omega)
  have key := normed_eq (fun i => P ⟨256 * c.val + i.val, by omega⟩) b (fun i => G ⟨256 * c.val + i.val, by omega⟩) e ⟨l.val % 64, by omega⟩
    (fun f f' h => Fin.ext (by have := congrArg Fin.val h; simp only [e] at this; omega)) (fun i => hP _)
    (fun i => by rw [hb]; split_ifs <;> simp)
    (fun f => by
      rw [hb, if_pos]
      simp only [e]
      rcases hW with rfl | rfl <;> omega)
    (fun i hi => by
      rw [← hl]
      by_cases h : i.val / W = l.val / W
      · refine Or.inl (hpad i h fun h' => hi ⟨⟨i.val % 64, by omega⟩, Fin.ext ?_⟩)
        show 64 * (l.val / 64) + i.val % 64 = i.val
        omega
      · exact Or.inr ((hb i l).trans (if_neg h)))
  rw [← hl] at key
  exact key

/-- The norm with a gain and a scale: the scale may be taken out. -/
theorem head_scale (y g : Fin 64 → EReal) (κ : EReal) (d : Fin 64) : head y (fun f => g f * κ) d = head y g d * κ := by
  unfold head
  rw [mul_assoc, mul_assoc, mul_assoc]

/-- Lanes of queries: half of each block of 128 holds a head, the rest is zero. -/
theorem lane (P : Fin 3968 → EReal) (b : Fin 256 → Fin 256 → EReal) (G : Fin 2816 → EReal) (C : Fin 4896 → EReal) (q : Fin 64 → EReal) (κ : EReal)
    (R : ℕ → Prop) [DecidablePred R] (hR : ∀ n n', n / 2 = n' / 2 → n ≠ n' → R n → ¬ R n') (o oc : ℕ) (ho : o ≤ 4) (hoc : oc ≤ 1304)
    (hP : ∀ i, ∃ r : ℝ, P i = r) (hb : ∀ i l, b i l = if i.val / 128 = l.val / 128 then 1 else 0)
    (hPa : ∀ j : Fin 1024, P ⟨256 * o + j.val, by omega⟩ = if R (j.val / 64) then C ⟨oc + (64 * (j.val / 64 / 2) + j.val % 64), by omega⟩ else 0)
    (hGa : ∀ j : Fin 1024, G ⟨256 * o + j.val, by omega⟩ = if R (j.val / 64) then q ⟨j.val % 64, by omega⟩ * κ else 0) (j : Fin 1024) :
    chunk P b G ⟨o + j.val / 256, by omega⟩ ⟨j.val % 256, by omega⟩
      = if R (j.val / 64) then head (fun f => C ⟨oc + (64 * (j.val / 64 / 2) + f.val), by omega⟩) q ⟨j.val % 64, by omega⟩ * κ else 0 := by
  by_cases hr : R (j.val / 64)
  · rw [if_pos hr, chunk_head P b G _ _ 128 (Or.inr rfl) hP hb]
    · rw [← head_scale]
      refine congr (congr (congrArg head (funext fun f => ?_)) (funext fun f => ?_)) (Fin.ext (by show j.val % 256 % 64 = j.val % 64; omega))
      · have hf : (64 * (j.val / 64) + f.val) / 64 = j.val / 64 := by omega
        have hf' : (64 * (j.val / 64) + f.val) % 64 = f.val := by omega
        have h := hPa ⟨64 * (j.val / 64) + f.val, by omega⟩
        simp only [hf, hf', if_pos hr] at h
        rw [← h]
        exact congrArg P (Fin.ext (by show 256 * (o + j.val / 256) + (64 * (j.val % 256 / 64) + f.val) = 256 * o + (64 * (j.val / 64) + f.val); omega))
      · have hf : (64 * (j.val / 64) + f.val) / 64 = j.val / 64 := by omega
        have hf' : (64 * (j.val / 64) + f.val) % 64 = f.val := by omega
        have h := hGa ⟨64 * (j.val / 64) + f.val, by omega⟩
        simp only [hf, hf', if_pos hr] at h
        rw [← h]
        exact congrArg G (Fin.ext (by show 256 * (o + j.val / 256) + (64 * (j.val % 256 / 64) + f.val) = 256 * o + (64 * (j.val / 64) + f.val); omega))
    · intro i hi hi'
      have hi2 : i.val / 128 = j.val % 256 / 128 := hi
      have hi3 : i.val / 64 ≠ j.val % 256 / 64 := hi'
      have h := hPa ⟨256 * (j.val / 256) + i.val, by omega⟩
      rw [if_neg (hR (j.val / 64) _ (by show j.val / 64 / 2 = (256 * (j.val / 256) + i.val) / 64 / 2; omega) (by show j.val / 64 ≠ (256 * (j.val / 256) + i.val) / 64; omega) hr)] at h
      rw [← h]
      exact congrArg P (Fin.ext (by show 256 * (o + j.val / 256) + i.val = 256 * o + (256 * (j.val / 256) + i.val); omega))
  · rw [if_neg hr]
    refine normed_zero _ _ _ _ ?_
    have h := hGa j
    rw [if_neg hr] at h
    rw [← h]
    exact congrArg G (Fin.ext (by show 256 * (o + j.val / 256) + j.val % 256 = 256 * o + j.val; omega))

/-- Lanes of keys: every 64 columns are a head. -/
theorem key (P : Fin 3968 → EReal) (b : Fin 256 → Fin 256 → EReal) (G : Fin 2816 → EReal) (y g : Fin 64 → EReal)
    (hP : ∀ i, ∃ r : ℝ, P i = r) (hb : ∀ i l, b i l = if i.val / 64 = l.val / 64 then 1 else 0) (c : Fin 11) (l : Fin 256)
    (hPk : ∀ f : Fin 64, P ⟨256 * c.val + (64 * (l.val / 64) + f.val), by omega⟩ = y f)
    (hGk : ∀ f : Fin 64, G ⟨256 * c.val + (64 * (l.val / 64) + f.val), by omega⟩ = g f) :
    chunk P b G c l = head y g ⟨l.val % 64, by omega⟩ := by
  rw [chunk_head P b G c l 64 (Or.inl rfl) hP hb (fun i h h' => absurd h h')]
  simp only [hPk, hGk]

theorem realA_sibling (n n' : ℕ) (h : n / 2 = n' / 2) (hn : n ≠ n') (hr : realA n) : ¬ realA n' := by
  unfold realA at *; omega

theorem realB_sibling (n n' : ℕ) (h : n / 2 = n' / 2) (hn : n ≠ n') (hr : realB n) : ¬ realB n' := by
  unfold realB at *; omega

/-- The logarithm of the sigmoid of a real number as the negated softplus of its negative. -/
theorem logSig_real (z : ℝ) : logSig z = -(max (-(z : EReal)) 0 + Ideal.log1p (Ideal.exp (-(max (-(z : EReal) - 0) (-(-(z : EReal) - 0)))))) := by
  unfold logSig
  have h1 : (0 : EReal) - max (z : EReal) (-(z : EReal)) = -(max (-(z : EReal) - 0) (-(-(z : EReal) - 0))) := by
    rw [zero_sub, sub_zero, neg_neg, max_comm]
  have h2 : min (z : EReal) 0 = -(max (-(z : EReal)) 0) := by
    rw [← EReal.coe_neg, ← EReal.coe_zero, ← EReal.coe_strictMono.monotone.map_max, ← EReal.coe_neg, ← EReal.coe_strictMono.monotone.map_min]
    congr 1
    rcases le_total z 0 with h | h
    · rw [min_eq_left h, max_eq_left (by linarith)]; ring
    · rw [min_eq_right h, max_eq_right (by linarith)]; ring
  have h3 : ∃ r : ℝ, max (-(z : EReal)) 0 = r := ⟨max (-z) 0, by
    rw [← EReal.coe_neg, ← EReal.coe_zero, ← EReal.coe_strictMono.monotone.map_max]⟩
  rw [h1, h2]
  obtain ⟨r, hr⟩ := h3
  rw [hr, EReal.neg_add (Or.inl (EReal.coe_ne_bot r)) (Or.inl (EReal.coe_ne_top r))]

/-- The same of any extended real: at plus infinity both sides are zero, at minus infinity both are minus infinity. -/
theorem logSig_eq (z : EReal) : logSig z = -(max (-z) 0 + Ideal.log1p (Ideal.exp (-(max (-z - 0) (-(-z - 0)))))) := by
  have h0 : Ideal.log1p 0 = 0 := by
    rw [Ideal.log1p, add_zero, ← EReal.coe_one, Ideal.log_coe]
    simp
  induction z with
  | coe z => exact logSig_real z
  | top => simp [logSig, h0]
  | bot => simp [logSig, h0]

end Cert.ProjRows
-- ==== Proof.ProjReference.lean ====
module

public import proofs.«01_k».proof.Proof.ProjRows
public import proofs.«01_k».proof.Proof.Gen.ProjReferenceIdeal.Run

@[expose] public section

/-!
# The plain input projection, read at an index

Every column of the projection is a sum over the normalized row; a head of a query or a key is the norm of its 64 columns.
-/

set_option maxRecDepth 16384

noncomputable section

namespace Cert.ProjReferenceIdeal.RefValue

open Cert.ProjReferenceIdeal Cert.ProjReferenceIdeal.Gen Idealize.ShloMosaic Idealize.ShloMosaic.TcCoe Idealize.SL.Sem Idealize.ShloMosaic.StableHlo

/-- Column `j` of the projection of row `s`. -/
def col (x : FVec Ideal S32768x1024 .f32) (g : FVec Ideal S1024 .f32) (w : FVec Ideal S1024x4896 .f32) (s : Fin 32768) (j : Fin 4896) : EReal :=
  ∑ k, Rows.rms (fun i => x (ix2 s i)) (fun i => g (ix1 i)) k * w (ix2 k j)

/-- The projection as the program writes it. -/
def proj (x : FVec Ideal S32768x1024 .f32) (g : FVec Ideal S1024 .f32) (w : FVec Ideal S1024x4896 .f32) : FVec Ideal S32768x4896 .f32 :=
  Host.dotGeneral dot_S32768x1024_S1024x4896_S32768x4896_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

lemma proj_apply (x : FVec Ideal S32768x1024 .f32) (g : FVec Ideal S1024 .f32) (w : FVec Ideal S1024x4896 .f32) (s : Fin 32768) (j : Fin 4896) :
    proj x g w (ix2 s j) = col x g w s j := by
  unfold proj col Rows.rms
  pointwise
  try rfl

/-- The norm of eight heads with a gain. -/
def norm8 (y : FVec Ideal S32768x8x64 .f32) (g : FVec Ideal S64 .f32) : FVec Ideal S32768x8x64 .f32 :=
  mulf (mulf y (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf y y) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 g))

/-- The norm of two heads with a gain. -/
def norm2 (y : FVec Ideal S32768x2x64 .f32) (g : FVec Ideal S64 .f32) : FVec Ideal S32768x2x64 .f32 :=
  mulf (mulf y (broadcastInDim S32768x2x64 ![0, 1, 2] bcast_S32768x2x1_S32768x2x64_0_1_2 (Host.rsqrt (addf (Host.divf (broadcastInDim S32768x2x1 ![0, 1] bcast_S32768x2_S32768x2x1_0_1 (Host.reduceAdd (mulf y y) (constant S_ .f32 0x00000000#32) reducesTo_S32768x2x64_S32768x2_d2 h_S_)) (broadcastInDim S32768x2x1 ![] bcast_S_S32768x2x1 (constant S_ .f32 0x42800000#32))) (broadcastInDim S32768x2x1 ![] bcast_S_S32768x2x1 (constant S_ .f32 0x358637BD#32)))))) (broadcastInDim S32768x2x64 ![0, 1, 2] bcast_S1x1x64_S32768x2x64_0_1_2 (broadcastInDim S1x1x64 ![2] bcast_S64_S1x1x64_2 g))

lemma norm8_apply (y : FVec Ideal S32768x8x64 .f32) (g : FVec Ideal S64 .f32) (s : Fin 32768) (h : Fin 8) (d : Fin 64) :
    norm8 y g (ix3 s h d) = ProjRows.head (fun i => y (ix3 s h i)) (fun i => g (ix1 i)) d := by
  unfold norm8 ProjRows.head
  pointwise
  try rfl

lemma norm2_apply (y : FVec Ideal S32768x2x64 .f32) (g : FVec Ideal S64 .f32) (s : Fin 32768) (h : Fin 2) (d : Fin 64) :
    norm2 y g (ix3 s h d) = ProjRows.head (fun i => y (ix3 s h i)) (fun i => g (ix1 i)) d := by
  unfold norm2 ProjRows.head
  pointwise
  try rfl

/-- The 512 columns from `o` on, by heads. -/
lemma heads8_apply (y : FVec Ideal S32768x4896 .f32) (o : ℕ) (ho : o + 512 ≤ 4896) (f : S32768x4896.Slices ![0, o] S32768x512) (s : Fin 32768) (h : Fin 8) (d : Fin 64) :
    (shapeCast S32768x8x64 (extractStridedSlice S32768x512 ![0, o] y f) shapeCasts_S32768x512_S32768x8x64) (ix3 s h d)
      = y (ix2 s (⟨o + (64 * h.val + d.val), by omega⟩ : Fin 4896)) := by
  pointwise
  simp only [Nat.mul_comm]

/-- The 128 columns from `o` on, by heads. -/
lemma heads2_apply (y : FVec Ideal S32768x4896 .f32) (o : ℕ) (ho : o + 128 ≤ 4896) (f : S32768x4896.Slices ![0, o] S32768x128) (s : Fin 32768) (h : Fin 2) (d : Fin 64) :
    (shapeCast S32768x2x64 (extractStridedSlice S32768x128 ![0, o] y f) shapeCasts_S32768x128_S32768x2x64) (ix3 s h d)
      = y (ix2 s (⟨o + (64 * h.val + d.val), by omega⟩ : Fin 4896)) := by
  pointwise
  simp only [Nat.mul_comm]

/-- The columns from `o` on, unchanged. -/
lemma plain512_apply (y : FVec Ideal S32768x4896 .f32) (o : ℕ) (ho : o + 512 ≤ 4896) (f : S32768x4896.Slices ![0, o] S32768x512) (s : Fin 32768) (j : Fin 512) :
    extractStridedSlice S32768x512 ![0, o] y f (ix2 s j) = y (ix2 s (⟨o + j.val, by omega⟩ : Fin 4896)) := by
  pointwise

lemma plain128_apply (y : FVec Ideal S32768x4896 .f32) (o : ℕ) (ho : o + 128 ≤ 4896) (f : S32768x4896.Slices ![0, o] S32768x128) (s : Fin 32768) (j : Fin 128) :
    extractStridedSlice S32768x128 ![0, o] y f (ix2 s j) = y (ix2 s (⟨o + j.val, by omega⟩ : Fin 4896)) := by
  pointwise

/-- The sparse queries spread over their lanes. -/
def spreadA (q : FVec Ideal S32768x8x64 .f32) (z : FVec Ideal S32768x4x64 .f32) : FVec Ideal S32768x1024 .f32 :=
  shapeCast _ (transpose S32768x2x4x2x64 [0, 1, 3, 2, 4] (shapeCast _ ((concatenate S32768x16x64 1 [⟨S32768x4x64, ((extractStridedSlice S32768x4x64 ![0, 0, 0] q slices_S32768x8x64_S32768x4x64_0_0_0) : (⟨S32768x4x64, .f32⟩ : BufTy).Contents (Elt Ideal))⟩, ⟨S32768x4x64, (z : (⟨S32768x4x64, .f32⟩ : BufTy).Contents (Elt Ideal))⟩, ⟨S32768x4x64, (z : (⟨S32768x4x64, .f32⟩ : BufTy).Contents (Elt Ideal))⟩, ⟨S32768x4x64, ((extractStridedSlice S32768x4x64 ![0, 4, 0] q slices_S32768x8x64_S32768x4x64_0_4_0) : (⟨S32768x4x64, .f32⟩ : BufTy).Contents (Elt Ideal))⟩] concatenates_S32768x4x64_S32768x4x64_S32768x4x64_S32768x4x64_S32768x16x64_d1 : (⟨S32768x16x64, .f32⟩ : BufTy).Contents (Elt Ideal))) shapeCasts_S32768x16x64_S32768x2x2x4x64) transposes_S32768x2x2x4x64_S32768x2x4x2x64_0_1_3_2_4) shapeCasts_S32768x2x4x2x64_S32768x1024

/-- The forgetting queries spread over their lanes. -/
def spreadB (q : FVec Ideal S32768x4x2x64 .f32) (z : FVec Ideal S32768x4x64 .f32) : FVec Ideal S32768x1024 .f32 :=
  shapeCast _ ((concatenate S32768x4x256 2 [⟨S32768x4x64, ((shapeCast _ (extractStridedSlice S32768x4x1x64 ![0, 0, 0, 0] q slices_S32768x4x2x64_S32768x4x1x64_0_0_0_0) shapeCasts_S32768x4x1x64_S32768x4x64) : (⟨S32768x4x64, .f32⟩ : BufTy).Contents (Elt Ideal))⟩, ⟨S32768x4x64, (z : (⟨S32768x4x64, .f32⟩ : BufTy).Contents (Elt Ideal))⟩, ⟨S32768x4x64, (z : (⟨S32768x4x64, .f32⟩ : BufTy).Contents (Elt Ideal))⟩, ⟨S32768x4x64, ((shapeCast _ (extractStridedSlice S32768x4x1x64 ![0, 0, 1, 0] q slices_S32768x4x2x64_S32768x4x1x64_0_0_1_0) shapeCasts_S32768x4x1x64_S32768x4x64) : (⟨S32768x4x64, .f32⟩ : BufTy).Contents (Elt Ideal))⟩] concatenates_S32768x4x64_S32768x4x64_S32768x4x64_S32768x4x64_S32768x4x256_d2 : (⟨S32768x4x256, .f32⟩ : BufTy).Contents (Elt Ideal))) shapeCasts_S32768x4x256_S32768x1024

lemma ix3_eq {a b e : ℕ} {α : Type} (q : (⟨3, ![a, b, e]⟩ : Shape).Idx → α) (s : Fin a) {h h' : Fin b} {d d' : Fin e} (hh : h.val = h'.val) (hd : d.val = d'.val) :
    q (ix3 s h d) = q (ix3 s h' d') := by
  rw [Fin.ext hh, Fin.ext hd]

lemma ix4_eq {a b c e : ℕ} {α : Type} (q : (⟨4, ![a, b, c, e]⟩ : Shape).Idx → α) (s : Fin a) (p : Fin b) {h h' : Fin c} {d d' : Fin e} (hh : h.val = h'.val) (hd : d.val = d'.val) :
    q (ix4 s p h d) = q (ix4 s p h' d') := by
  rw [Fin.ext hh, Fin.ext hd]

lemma spreadA_apply (q : FVec Ideal S32768x8x64 .f32) (z : FVec Ideal S32768x4x64 .f32) (hz : ∀ i, z i = 0) (s : Fin 32768) (j : Fin 1024) :
    spreadA q z (ix2 s j) = if ProjRows.realA (j.val / 64) then q (ix3 s (⟨j.val / 64 / 2, by omega⟩ : Fin 8) (⟨j.val % 64, by omega⟩ : Fin 64)) else 0 := by
  have hj := j.isLt
  have e1 : j.val / 64 / 2 = j.val / 128 := Nat.div_div_eq_div_mul _ _ _
  have e2 : j.val / 128 / 4 = j.val / 512 := Nat.div_div_eq_div_mul _ _ _
  unfold spreadA
  pointwise
  simp only [hz]
  by_cases h1 : j.val / 512 * 8 + j.val / 64 % 2 * 4 + j.val / 128 % 4 < 4
  · refine (dif_pos h1).trans (Eq.trans ?_ (if_pos (by unfold ProjRows.realA; omega)).symm)
    exact ix3_eq q s (by show j.val / 512 * 8 + j.val / 64 % 2 * 4 + j.val / 128 % 4 = j.val / 64 / 2; omega) rfl
  refine (dif_neg h1).trans ?_
  by_cases h2 : j.val / 512 * 8 + j.val / 64 % 2 * 4 + j.val / 128 % 4 - 4 < 4
  · exact (dif_pos h2).trans (if_neg (by unfold ProjRows.realA; omega)).symm
  refine (dif_neg h2).trans ?_
  by_cases h3 : j.val / 512 * 8 + j.val / 64 % 2 * 4 + j.val / 128 % 4 - 4 - 4 < 4
  · exact (dif_pos h3).trans (if_neg (by unfold ProjRows.realA; omega)).symm
  refine (dif_neg h3).trans (Eq.trans ?_ (if_pos (by unfold ProjRows.realA; omega)).symm)
  exact ix3_eq q s (by show 4 + (j.val / 512 * 8 + j.val / 64 % 2 * 4 + j.val / 128 % 4 - 4 - 4 - 4) = j.val / 64 / 2; omega) rfl

lemma spreadB_apply (q : FVec Ideal S32768x4x2x64 .f32) (z : FVec Ideal S32768x4x64 .f32) (hz : ∀ i, z i = 0) (s : Fin 32768) (j : Fin 1024) :
    spreadB q z (ix2 s j) = if ProjRows.realB (j.val / 64) then q (ix4 s (⟨j.val / 256, by omega⟩ : Fin 4) (⟨j.val / 64 / 2 % 2, by omega⟩ : Fin 2) (⟨j.val % 64, by omega⟩ : Fin 64)) else 0 := by
  have hj := j.isLt
  unfold spreadB
  pointwise
  simp only [hz]
  by_cases h1 : j.val % 256 < 64
  · refine (dif_pos h1).trans (Eq.trans ?_ (if_pos (by unfold ProjRows.realB; omega)).symm)
    exact ix4_eq q s _ (by show 0 = j.val / 64 / 2 % 2; omega) (by show j.val % 256 = j.val % 64; omega)
  refine (dif_neg h1).trans ?_
  by_cases h2 : j.val % 256 - 64 < 64
  · exact (dif_pos h2).trans (if_neg (by unfold ProjRows.realB; omega)).symm
  refine (dif_neg h2).trans ?_
  by_cases h3 : j.val % 256 - 64 - 64 < 64
  · exact (dif_pos h3).trans (if_neg (by unfold ProjRows.realB; omega)).symm
  refine (dif_neg h3).trans (Eq.trans ?_ (if_pos (by unfold ProjRows.realB; omega)).symm)
  exact ix4_eq q s _ (by show 1 = j.val / 64 / 2 % 2; omega) (by show j.val % 256 - 64 - 64 - 64 = j.val % 64; omega)

/-- The forgetting queries by pairs of heads. -/
lemma pairs_apply (q : FVec Ideal S32768x8x64 .f32) (s : Fin 32768) (p : Fin 4) (e : Fin 2) (d : Fin 64) :
    (shapeCast S32768x4x2x64 q shapeCasts_S32768x8x64_S32768x4x2x64) (ix4 s p e d) = q (ix3 s (⟨2 * p.val + e.val, by omega⟩ : Fin 8) d) := by
  pointwise
  simp only [Nat.mul_comm]

/-- Eight heads side by side. -/
lemma flat8_apply (q : FVec Ideal S32768x8x64 .f32) (s : Fin 32768) (j : Fin 512) :
    (shapeCast S32768x512 q shapeCasts_S32768x8x64_S32768x512) (ix2 s j) = q (ix3 s (⟨j.val / 64, by omega⟩ : Fin 8) (⟨j.val % 64, by omega⟩ : Fin 64)) := by
  pointwise

/-- Two times two heads side by side. -/
lemma pair2_apply (p q : FVec Ideal S32768x2x64 .f32) (s : Fin 32768) (j : Fin 256) :
    (concatenate S32768x256 1 [⟨S32768x128, (shapeCast S32768x128 p shapeCasts_S32768x2x64_S32768x128)⟩, ⟨S32768x128, (shapeCast S32768x128 q shapeCasts_S32768x2x64_S32768x128)⟩] concatenates_S32768x128_S32768x128_S32768x256_d1 : FVec Ideal S32768x256 .f32) (ix2 s j)
      = if j.val < 128 then p (ix3 s (⟨j.val / 64 % 2, by omega⟩ : Fin 2) (⟨j.val % 64, by omega⟩ : Fin 64))
        else q (ix3 s (⟨j.val / 64 % 2, by omega⟩ : Fin 2) (⟨j.val % 64, by omega⟩ : Fin 64)) := by
  have hj := j.isLt
  pointwise
  by_cases h1 : j.val < 128
  · rw [dif_pos h1, if_pos h1]
    exact ix3_eq p s (by show j.val / 64 = j.val / 64 % 2; omega) rfl
  · rw [dif_neg h1, if_neg h1]
    exact ix3_eq q s (by show (j.val - 128) / 64 = j.val / 64 % 2; omega) (by show (j.val - 128) % 64 = j.val % 64; omega)

/-- Two times 128 columns side by side. -/
lemma side_apply (p q : FVec Ideal S32768x128 .f32) (s : Fin 32768) (j : Fin 256) :
    (concatenate S32768x256 1 [⟨S32768x128, p⟩, ⟨S32768x128, q⟩] concatenates_S32768x128_S32768x128_S32768x256_d1 : FVec Ideal S32768x256 .f32) (ix2 s j)
      = if h : j.val < 128 then p (ix2 s (⟨j.val, h⟩ : Fin 128)) else q (ix2 s (⟨j.val - 128, by omega⟩ : Fin 128)) := by
  pointwise

/-- A row of the gains of the sparse keys. -/
lemma gainRow_apply (g : FVec Ideal S3x64 .f32) (o : ℕ) (ho : o < 3) (f : S3x64.Slices ![o, 0] S1x64) (d : Fin 64) :
    (shapeCast S64 (extractStridedSlice S1x64 ![o, 0] g f) shapeCasts_S1x64_S64) (ix1 d) = g (ix2 (⟨o, ho⟩ : Fin 3) d) := by
  pointwise
  try rfl

/-- What the forgetting gates add up to before the logarithm of the sigmoid, negated. -/
def negGate (y : FVec Ideal S32768x4896 .f32) (b : FVec Ideal S8 .f32) : FVec Ideal S32768x104 .f32 :=
  Host.negf (concatenate S32768x104 1 [⟨S32768x8, (addf (extractStridedSlice S32768x8 ![0, 2840] y slices_S32768x4896_S32768x8_0_2840) (broadcastInDim S32768x8 ![0, 1] bcast_S1x8_S32768x8_0_1 (broadcastInDim S1x8 ![1] bcast_S8_S1x8_1 b)))⟩, ⟨S32768x96, (broadcastInDim S32768x96 ![] bcast_S_S32768x96 (constant S_ .f32 0x00000000#32))⟩] concatenates_S32768x8_S32768x96_S32768x104_d1)

lemma negGate_apply (y : FVec Ideal S32768x4896 .f32) (b : FVec Ideal S8 .f32) (s : Fin 32768) (j : Fin 104) :
    negGate y b (ix2 s j) = -(if h : j.val < 8 then y (ix2 s (⟨2840 + j.val, by omega⟩ : Fin 4896)) + b (ix1 (⟨j.val, h⟩ : Fin 8)) else 0) := by
  unfold negGate
  pointwise
  try rfl

/-- The softplus of `a` and its negative, as the program writes them. -/
def negSoftplus (a : FVec Ideal S32768x104 .f32) (z : FVec Ideal S_ .f32) : FVec Ideal S32768x104 .f32 :=
  Host.negf (select (cmpf .une (subf a (broadcastInDim S32768x104 ![] bcast_S_S32768x104 z)) (subf a (broadcastInDim S32768x104 ![] bcast_S_S32768x104 z))) (addf a (broadcastInDim S32768x104 ![] bcast_S_S32768x104 z)) (addf (maximumf a (broadcastInDim S32768x104 ![] bcast_S_S32768x104 z)) (Host.log1p (Host.exp (Host.negf (Host.absf (subf a (broadcastInDim S32768x104 ![] bcast_S_S32768x104 z))))))))

lemma negSoftplus_apply (a : FVec Ideal S32768x104 .f32) (z : FVec Ideal S_ .f32) (s : Fin 32768) (j : Fin 104) :
    negSoftplus a z (ix2 s j) = -(max (a (ix2 s j)) (z ix0) + Ideal.log1p (Ideal.exp (-(max (a (ix2 s j) - z ix0) (-(a (ix2 s j) - z ix0)))))) := by
  unfold negSoftplus
  pointwise
  rw [if_neg (by simp)]
  rfl

/-- The gates of the sparse attention beside the logarithms of the forgetting gates. -/
lemma gates_apply (y : FVec Ideal S32768x4896 .f32) (l : FVec Ideal S32768x104 .f32) (s : Fin 32768) (j : Fin 128) :
    (concatenate S32768x128 1 [⟨S32768x24, (Host.divf (broadcastInDim S32768x24 ![] bcast_S_S32768x24 (constant S_ .f32 0x3F800000#32)) (addf (broadcastInDim S32768x24 ![] bcast_S_S32768x24 (constant S_ .f32 0x3F800000#32)) (Host.exp (Host.negf (extractStridedSlice S32768x24 ![0, 1280] y slices_S32768x4896_S32768x24_0_1280)))))⟩, ⟨S32768x104, l⟩] concatenates_S32768x24_S32768x104_S32768x128_d1 : FVec Ideal S32768x128 .f32) (ix2 s j)
      = if h : j.val < 24 then Ideal.logistic (y (ix2 s (⟨1280 + j.val, by omega⟩ : Fin 4896))) else l (ix2 s (⟨j.val - 24, by omega⟩ : Fin 104)) := by
  pointwise
  try rfl

end Cert.ProjReferenceIdeal.RefValue
-- ==== Proof.ProjResults.lean ====
module

public import proofs.«01_k».proof.Proof.ProjReference
public import proofs.«01_k».proof.Proof.ProjLayout
public import proofs.«01_k».proof.Proof.Gen.ProjReferenceIdeal.Run

@[expose] public section

/-!
# The nine results of the input projection

Each result, element by element, in terms of the columns of the projection; and the plain reference ends with them.
-/

set_option maxRecDepth 16384

noncomputable section

namespace Cert.ProjReferenceIdeal.RefValue

open Cert.ProjReferenceIdeal Cert.ProjReferenceIdeal.Gen Idealize.ShloMosaic Idealize.ShloMosaic.TcCoe Idealize.SL.Sem Idealize.ShloMosaic.StableHlo

variable (x : FVec Ideal S32768x1024 .f32) (g : FVec Ideal S1024 .f32) (w : FVec Ideal S1024x4896 .f32)

/-! ## What the results are -/

/-- The sparse attention's queries, normalized by head, scaled, each head in its half of 128 lanes. -/
def qA (q : FVec Ideal S64 .f32) (s : Fin 32768) (j : Fin 1024) : EReal :=
  if ProjRows.realA (j.val / 64) then
    ProjRows.head (fun f => col x g w s ⟨0 + (64 * (j.val / 64 / 2) + f.val), by omega⟩) (fun i => q (ix1 i)) ⟨j.val % 64, by omega⟩
      * Ideal.ofBits .f32 0x3E000000#32
  else 0

/-- The forgetting attention's queries, the same. -/
def qB (p : FVec Ideal S64 .f32) (s : Fin 32768) (j : Fin 1024) : EReal :=
  if ProjRows.realB (j.val / 64) then
    ProjRows.head (fun f => col x g w s ⟨1304 + (64 * (j.val / 64 / 2) + f.val), by omega⟩) (fun i => p (ix1 i)) ⟨j.val % 64, by omega⟩
      * Ideal.ofBits .f32 0x3E000000#32
  else 0

/-- The forgetting attention's keys, normalized by head. -/
def kB (f : FVec Ideal S64 .f32) (s : Fin 32768) (j : Fin 512) : EReal :=
  ProjRows.head (fun e => col x g w s ⟨1816 + (64 * (j.val / 64) + e.val), by omega⟩) (fun i => f (ix1 i)) ⟨j.val % 64, by omega⟩

/-- The selected and the windowed keys, normalized by head. -/
def kS (k : FVec Ideal S3x64 .f32) (s : Fin 32768) (j : Fin 256) : EReal :=
  if j.val < 128 then
    ProjRows.head (fun e => col x g w s ⟨768 + (64 * (j.val / 64 % 2) + e.val), by omega⟩) (fun i => k (ix2 1 i)) ⟨j.val % 64, by omega⟩
  else
    ProjRows.head (fun e => col x g w s ⟨1024 + (64 * (j.val / 64 % 2) + e.val), by omega⟩) (fun i => k (ix2 2 i)) ⟨j.val % 64, by omega⟩

/-- The selected and the windowed values. -/
def vS (s : Fin 32768) (j : Fin 256) : EReal :=
  if h : j.val < 128 then col x g w s ⟨896 + j.val, by omega⟩ else col x g w s ⟨1152 + (j.val - 128), by omega⟩

/-- The gates of the sparse attention, then the logarithms of the forgetting gates, then the logarithm of one half. -/
def gt (b : FVec Ideal S8 .f32) (s : Fin 32768) (j : Fin 128) : EReal :=
  if h : j.val < 24 then Ideal.logistic (col x g w s ⟨1280 + j.val, by omega⟩)
  else ProjRows.logSig (if h : j.val - 24 < 8 then col x g w s ⟨2840 + (j.val - 24), by omega⟩ + b (ix1 ⟨j.val - 24, h⟩) else 0)

/-! ## The reference's results -/

theorem zero_apply (i : S32768x4x64.Idx) :
    broadcastInDim S32768x4x64 ![] bcast_S_S32768x4x64 (constant (F := Ideal) S_ .f32 0x00000000#32) i = 0 :=
  Ideal.ofBits_zero_f32

theorem ref_qA (q : FVec Ideal S64 .f32) (s : Fin 32768) (j : Fin 1024) :
    spreadA (mulf (norm8 (shapeCast S32768x8x64 (extractStridedSlice S32768x512 ![0, 0] (proj x g w) slices_S32768x4896_S32768x512_0_0) shapeCasts_S32768x512_S32768x8x64) q)
        (broadcastInDim S32768x8x64 ![] bcast_S_S32768x8x64 (constant S_ .f32 0x3E000000#32)))
      (broadcastInDim S32768x4x64 ![] bcast_S_S32768x4x64 (constant S_ .f32 0x00000000#32)) (ix2 s j) = qA x g w q s j := by
  refine (spreadA_apply _ _ zero_apply s j).trans ?_
  unfold qA
  refine if_congr Iff.rfl ?_ rfl
  refine congrArg (· * Ideal.ofBits .f32 0x3E000000#32) ((norm8_apply _ _ s _ _).trans ?_)
  refine congrArg (fun y => ProjRows.head y _ _) (funext fun f => ?_)
  exact (heads8_apply _ 0 (by norm_num) _ s _ f).trans (proj_apply x g w s _)

theorem ref_qB (p : FVec Ideal S64 .f32) (s : Fin 32768) (j : Fin 1024) :
    spreadB (shapeCast S32768x4x2x64 (mulf (norm8 (shapeCast S32768x8x64 (extractStridedSlice S32768x512 ![0, 1304] (proj x g w) slices_S32768x4896_S32768x512_0_1304) shapeCasts_S32768x512_S32768x8x64) p)
        (broadcastInDim S32768x8x64 ![] bcast_S_S32768x8x64 (constant S_ .f32 0x3E000000#32))) shapeCasts_S32768x8x64_S32768x4x2x64)
      (broadcastInDim S32768x4x64 ![] bcast_S_S32768x4x64 (constant S_ .f32 0x00000000#32)) (ix2 s j) = qB x g w p s j := by
  refine (spreadB_apply _ _ zero_apply s j).trans ?_
  unfold qB
  refine if_congr Iff.rfl ?_ rfl
  refine (pairs_apply _ s _ _ _).trans ?_
  refine congrArg (· * Ideal.ofBits .f32 0x3E000000#32) ((norm8_apply _ _ s _ _).trans ?_)
  refine congrArg (fun y => ProjRows.head y _ _) (funext fun f => ?_)
  refine (heads8_apply _ 1304 (by norm_num) _ s _ f).trans ((proj_apply x g w s _).trans ?_)
  refine congrArg (col x g w s) (Fin.ext ?_)
  have h : j.val / 64 / 2 / 2 = j.val / 256 := by
    rw [Nat.div_div_eq_div_mul, Nat.div_div_eq_div_mul]
  show 1304 + (64 * (2 * (j.val / 256) + j.val / 64 / 2 % 2) + f.val) = 1304 + (64 * (j.val / 64 / 2) + f.val)
  omega

theorem ref_kB (f : FVec Ideal S64 .f32) (s : Fin 32768) (j : Fin 512) :
    (shapeCast S32768x512 (norm8 (shapeCast S32768x8x64 (extractStridedSlice S32768x512 ![0, 1816] (proj x g w) slices_S32768x4896_S32768x512_0_1816) shapeCasts_S32768x512_S32768x8x64) f) shapeCasts_S32768x8x64_S32768x512)
      (ix2 s j) = kB x g w f s j := by
  refine (flat8_apply _ s j).trans ((norm8_apply _ _ s _ _).trans ?_)
  unfold kB
  refine congrArg (fun y => ProjRows.head y _ _) (funext fun e => ?_)
  exact (heads8_apply _ 1816 (by norm_num) _ s _ e).trans (proj_apply x g w s _)

theorem ref_kS (k : FVec Ideal S3x64 .f32) (s : Fin 32768) (j : Fin 256) :
    (concatenate S32768x256 1 [
      ⟨S32768x128, (shapeCast S32768x128 (norm2 (shapeCast S32768x2x64 (extractStridedSlice S32768x128 ![0, 768] (proj x g w) slices_S32768x4896_S32768x128_0_768) shapeCasts_S32768x128_S32768x2x64)
        (shapeCast S64 (extractStridedSlice S1x64 ![1, 0] k slices_S3x64_S1x64_1_0) shapeCasts_S1x64_S64)) shapeCasts_S32768x2x64_S32768x128)⟩,
      ⟨S32768x128, (shapeCast S32768x128 (norm2 (shapeCast S32768x2x64 (extractStridedSlice S32768x128 ![0, 1024] (proj x g w) slices_S32768x4896_S32768x128_0_1024) shapeCasts_S32768x128_S32768x2x64)
        (shapeCast S64 (extractStridedSlice S1x64 ![2, 0] k slices_S3x64_S1x64_2_0) shapeCasts_S1x64_S64)) shapeCasts_S32768x2x64_S32768x128)⟩]
      concatenates_S32768x128_S32768x128_S32768x256_d1 : FVec Ideal S32768x256 .f32) (ix2 s j) = kS x g w k s j := by
  refine (pair2_apply _ _ s j).trans ?_
  unfold kS
  refine if_congr Iff.rfl ((norm2_apply _ _ s _ _).trans ?_) ((norm2_apply _ _ s _ _).trans ?_)
  · refine congr (congr (congrArg ProjRows.head (funext fun e => ?_)) (funext fun i => ?_)) rfl
    · exact (heads2_apply _ 768 (by norm_num) _ s _ e).trans (proj_apply x g w s _)
    · exact gainRow_apply k 1 (by norm_num) _ i
  · refine congr (congr (congrArg ProjRows.head (funext fun e => ?_)) (funext fun i => ?_)) rfl
    · exact (heads2_apply _ 1024 (by norm_num) _ s _ e).trans (proj_apply x g w s _)
    · exact gainRow_apply k 2 (by norm_num) _ i

theorem ref_vS (s : Fin 32768) (j : Fin 256) :
    (concatenate S32768x256 1 [
      ⟨S32768x128, (extractStridedSlice S32768x128 ![0, 896] (proj x g w) slices_S32768x4896_S32768x128_0_896)⟩,
      ⟨S32768x128, (extractStridedSlice S32768x128 ![0, 1152] (proj x g w) slices_S32768x4896_S32768x128_0_1152)⟩]
      concatenates_S32768x128_S32768x128_S32768x256_d1 : FVec Ideal S32768x256 .f32) (ix2 s j) = vS x g w s j := by
  refine (side_apply _ _ s j).trans ?_
  unfold vS
  by_cases h : j.val < 128
  · rw [dif_pos h, dif_pos h]
    exact (plain128_apply _ 896 (by norm_num) _ s _).trans (proj_apply x g w s _)
  · rw [dif_neg h, dif_neg h]
    exact (plain128_apply _ 1152 (by norm_num) _ s _).trans (proj_apply x g w s _)

theorem ref_vB (s : Fin 32768) (j : Fin 512) :
    extractStridedSlice S32768x512 ![0, 2328] (proj x g w) slices_S32768x4896_S32768x512_0_2328 (ix2 s j) = col x g w s ⟨2328 + j.val, by omega⟩ :=
  (plain512_apply _ 2328 (by norm_num) _ s j).trans (proj_apply x g w s _)

theorem ref_kC (s : Fin 32768) (j : Fin 128) :
    extractStridedSlice S32768x128 ![0, 512] (proj x g w) slices_S32768x4896_S32768x128_0_512 (ix2 s j) = col x g w s ⟨512 + j.val, by omega⟩ :=
  (plain128_apply _ 512 (by norm_num) _ s j).trans (proj_apply x g w s _)

theorem ref_vC (s : Fin 32768) (j : Fin 128) :
    extractStridedSlice S32768x128 ![0, 640] (proj x g w) slices_S32768x4896_S32768x128_0_640 (ix2 s j) = col x g w s ⟨640 + j.val, by omega⟩ :=
  (plain128_apply _ 640 (by norm_num) _ s j).trans (proj_apply x g w s _)

theorem ref_gt (b : FVec Ideal S8 .f32) (s : Fin 32768) (j : Fin 128) :
    (concatenate S32768x128 1 [⟨S32768x24, (Host.divf (broadcastInDim S32768x24 ![] bcast_S_S32768x24 (constant S_ .f32 0x3F800000#32)) (addf (broadcastInDim S32768x24 ![] bcast_S_S32768x24 (constant S_ .f32 0x3F800000#32)) (Host.exp (Host.negf (extractStridedSlice S32768x24 ![0, 1280] (proj x g w) slices_S32768x4896_S32768x24_0_1280)))))⟩,
      ⟨S32768x104, negSoftplus (negGate (proj x g w) b) (constant S_ .f32 0x00000000#32)⟩] concatenates_S32768x24_S32768x104_S32768x128_d1 : FVec Ideal S32768x128 .f32)
      (ix2 s j) = gt x g w b s j := by
  refine (gates_apply _ _ s j).trans ?_
  unfold gt
  by_cases h : j.val < 24
  · rw [dif_pos h, dif_pos h, proj_apply]
  · rw [dif_neg h, dif_neg h, negSoftplus_apply, negGate_apply]
    have hz : (constant (F := Ideal) S_ .f32 0x00000000#32) ix0 = 0 := Ideal.ofBits_zero_f32
    rw [hz]
    simp only [proj_apply]
    exact (ProjRows.logSig_eq _).symm

/-- The reference runs to the end with its results, element by element, and the arguments unchanged. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (s : Fin 32768) (j : Fin 1024), r.2.mem ((c.tc : Thread nD τ).loc main_v135) (ix2 s j) = qA (m ((c.tc : Thread nD τ).loc main_arg0)) (m ((c.tc : Thread nD τ).loc main_arg1)) (m ((c.tc : Thread nD τ).loc main_arg2)) (m ((c.tc : Thread nD τ).loc main_arg4)) s j)
      ∧ (∀ (s : Fin 32768) (j : Fin 1024), r.2.mem ((c.tc : Thread nD τ).loc main_v136) (ix2 s j) = qB (m ((c.tc : Thread nD τ).loc main_arg0)) (m ((c.tc : Thread nD τ).loc main_arg1)) (m ((c.tc : Thread nD τ).loc main_arg2)) (m ((c.tc : Thread nD τ).loc main_arg6)) s j)
      ∧ (∀ (s : Fin 32768) (j : Fin 512), r.2.mem ((c.tc : Thread nD τ).loc main_v137) (ix2 s j) = kB (m ((c.tc : Thread nD τ).loc main_arg0)) (m ((c.tc : Thread nD τ).loc main_arg1)) (m ((c.tc : Thread nD τ).loc main_arg2)) (m ((c.tc : Thread nD τ).loc main_arg7)) s j)
      ∧ (∀ (s : Fin 32768) (j : Fin 256), r.2.mem ((c.tc : Thread nD τ).loc main_v139) (ix2 s j) = kS (m ((c.tc : Thread nD τ).loc main_arg0)) (m ((c.tc : Thread nD τ).loc main_arg1)) (m ((c.tc : Thread nD τ).loc main_arg2)) (m ((c.tc : Thread nD τ).loc main_arg5)) s j)
      ∧ (∀ (s : Fin 32768) (j : Fin 512), r.2.mem ((c.tc : Thread nD τ).loc main_v140) (ix2 s j) = col (m ((c.tc : Thread nD τ).loc main_arg0)) (m ((c.tc : Thread nD τ).loc main_arg1)) (m ((c.tc : Thread nD τ).loc main_arg2)) s ⟨2328 + j.val, by omega⟩)
      ∧ (∀ (s : Fin 32768) (j : Fin 256), r.2.mem ((c.tc : Thread nD τ).loc main_v142) (ix2 s j) = vS (m ((c.tc : Thread nD τ).loc main_arg0)) (m ((c.tc : Thread nD τ).loc main_arg1)) (m ((c.tc : Thread nD τ).loc main_arg2)) s j)
      ∧ (∀ (s : Fin 32768) (j : Fin 128), r.2.mem ((c.tc : Thread nD τ).loc main_v15) (ix2 s j) = col (m ((c.tc : Thread nD τ).loc main_arg0)) (m ((c.tc : Thread nD τ).loc main_arg1)) (m ((c.tc : Thread nD τ).loc main_arg2)) s ⟨512 + j.val, by omega⟩)
      ∧ (∀ (s : Fin 32768) (j : Fin 128), r.2.mem ((c.tc : Thread nD τ).loc main_v16) (ix2 s j) = col (m ((c.tc : Thread nD τ).loc main_arg0)) (m ((c.tc : Thread nD τ).loc main_arg1)) (m ((c.tc : Thread nD τ).loc main_arg2)) s ⟨640 + j.val, by omega⟩)
      ∧ (∀ (s : Fin 32768) (j : Fin 128), r.2.mem ((c.tc : Thread nD τ).loc main_v121) (ix2 s j) = gt (m ((c.tc : Thread nD τ).loc main_arg0)) (m ((c.tc : Thread nD τ).loc main_arg1)) (m ((c.tc : Thread nD τ).loc main_arg2)) (m ((c.tc : Thread nD τ).loc main_arg3)) s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨fun s j => by
      refine (congrFun (h c).1 (ix2 s j)).trans ?_
      exact ref_qA (m ((c.tc : Thread nD τ).loc main_arg0)) (m ((c.tc : Thread nD τ).loc main_arg1)) (m ((c.tc : Thread nD τ).loc main_arg2)) (m ((c.tc : Thread nD τ).loc main_arg4)) s j,
    fun s j => by
      refine (congrFun (h c).2.1 (ix2 s j)).trans ?_
      exact ref_qB (m ((c.tc : Thread nD τ).loc main_arg0)) (m ((c.tc : Thread nD τ).loc main_arg1)) (m ((c.tc : Thread nD τ).loc main_arg2)) (m ((c.tc : Thread nD τ).loc main_arg6)) s j,
    fun s j => by
      refine (congrFun (h c).2.2.1 (ix2 s j)).trans ?_
      exact ref_kB (m ((c.tc : Thread nD τ).loc main_arg0)) (m ((c.tc : Thread nD τ).loc main_arg1)) (m ((c.tc : Thread nD τ).loc main_arg2)) (m ((c.tc : Thread nD τ).loc main_arg7)) s j,
    fun s j => by
      refine (congrFun (h c).2.2.2.1 (ix2 s j)).trans ?_
      exact ref_kS (m ((c.tc : Thread nD τ).loc main_arg0)) (m ((c.tc : Thread nD τ).loc main_arg1)) (m ((c.tc : Thread nD τ).loc main_arg2)) (m ((c.tc : Thread nD τ).loc main_arg5)) s j,
    fun s j => by
      refine (congrFun (h c).2.2.2.2.1 (ix2 s j)).trans ?_
      exact ref_vB (m ((c.tc : Thread nD τ).loc main_arg0)) (m ((c.tc : Thread nD τ).loc main_arg1)) (m ((c.tc : Thread nD τ).loc main_arg2)) s j,
    fun s j => by
      refine (congrFun (h c).2.2.2.2.2.1 (ix2 s j)).trans ?_
      exact ref_vS (m ((c.tc : Thread nD τ).loc main_arg0)) (m ((c.tc : Thread nD τ).loc main_arg1)) (m ((c.tc : Thread nD τ).loc main_arg2)) s j,
    fun s j => by
      refine (congrFun (h c).2.2.2.2.2.2.1 (ix2 s j)).trans ?_
      exact ref_kC (m ((c.tc : Thread nD τ).loc main_arg0)) (m ((c.tc : Thread nD τ).loc main_arg1)) (m ((c.tc : Thread nD τ).loc main_arg2)) s j,
    fun s j => by
      refine (congrFun (h c).2.2.2.2.2.2.2.1 (ix2 s j)).trans ?_
      exact ref_vC (m ((c.tc : Thread nD τ).loc main_arg0)) (m ((c.tc : Thread nD τ).loc main_arg1)) (m ((c.tc : Thread nD τ).loc main_arg2)) s j,
    fun s j => by
      refine (congrFun (h c).2.2.2.2.2.2.2.2.1 (ix2 s j)).trans ?_
      exact ref_gt (m ((c.tc : Thread nD τ).loc main_arg0)) (m ((c.tc : Thread nD τ).loc main_arg1)) (m ((c.tc : Thread nD τ).loc main_arg2)) (m ((c.tc : Thread nD τ).loc main_arg3)) s j,
    (h c).2.2.2.2.2.2.2.2.2⟩) (Value.run m ρ)

end Cert.ProjReferenceIdeal.RefValue

end
-- ==== Proof.FoxInputs.lean ====
/- What the precondition of the forgetting attention says of single elements: the lanes of a query that pad it are zero, and
   queries, keys and running sums are finite. -/
module

public import proofs.«01_k».proof.Proof.Gen.Pre_fox_inputs
public import Idealize.ShloMosaic.Lib.Pointwise

@[expose] public section

set_option maxRecDepth 16384

noncomputable section

namespace Cert.FoxInputs

open Cert.Pre_fox_inputs Cert.Pre_fox_inputs.Gen Idealize.ShloMosaic

/-- The queries in pairs of heads, each head's lanes in two halves. -/
def halves (q : FVec Ideal S32768x1024 .bf16) : FVec Ideal S16x2048x4x2x2x64 .f32 :=
  shapeCast _ (extf (F := Ideal) .f32 q bitsLt_bf16_f32) shapeCasts_S32768x1024_S16x2048x4x2x2x64

/-- The second half of a first head's lanes. -/
def pad0 (q : FVec Ideal S32768x1024 .bf16) : FVec Ideal S16x2048x4x64 .f32 :=
  shapeCast _ (extractStridedSlice S16x2048x4x1x1x64 ![0, 0, 0, 0, 1, 0] (halves q) slices_S16x2048x4x2x2x64_S16x2048x4x1x1x64_0_0_0_0_1_0) shapeCasts_S16x2048x4x1x1x64_S16x2048x4x64

/-- The first half of a second head's lanes. -/
def pad1 (q : FVec Ideal S32768x1024 .bf16) : FVec Ideal S16x2048x4x64 .f32 :=
  shapeCast _ (extractStridedSlice S16x2048x4x1x1x64 ![0, 0, 0, 1, 0, 0] (halves q) slices_S16x2048x4x2x2x64_S16x2048x4x1x1x64_0_0_0_1_0_0) shapeCasts_S16x2048x4x1x1x64_S16x2048x4x64

/-- The first half of a first head's lanes. -/
def real0 (q : FVec Ideal S32768x1024 .bf16) : FVec Ideal S16x2048x4x64 .f32 :=
  shapeCast _ (extractStridedSlice S16x2048x4x1x1x64 ![0, 0, 0, 0, 0, 0] (halves q) slices_S16x2048x4x2x2x64_S16x2048x4x1x1x64_0_0_0_0_0_0) shapeCasts_S16x2048x4x1x1x64_S16x2048x4x64

/-- The second half of a second head's lanes. -/
def real1 (q : FVec Ideal S32768x1024 .bf16) : FVec Ideal S16x2048x4x64 .f32 :=
  shapeCast _ (extractStridedSlice S16x2048x4x1x1x64 ![0, 0, 0, 1, 1, 0] (halves q) slices_S16x2048x4x2x2x64_S16x2048x4x1x1x64_0_0_0_1_1_0) shapeCasts_S16x2048x4x1x1x64_S16x2048x4x64

/-- The pairs' two heads in one array. -/
def joined (x y : FVec Ideal S16x2048x4x64 .f32) : FVec Ideal S16x2048x4x2x64 .f32 :=
  concatenate S16x2048x4x2x64 3 [⟨S16x2048x4x1x64, (broadcastInDim S16x2048x4x1x64 ![0, 1, 2, 4] bcast_S16x2048x4x64_S16x2048x4x1x64_0_1_2_4 x)⟩, ⟨S16x2048x4x1x64, (broadcastInDim S16x2048x4x1x64 ![0, 1, 2, 4] bcast_S16x2048x4x64_S16x2048x4x1x64_0_1_2_4 y)⟩] concatenates_S16x2048x4x1x64_S16x2048x4x1x64_S16x2048x4x2x64_d3

/-- The pairs apart. -/
def apart (x : FVec Ideal S16x2048x4x2x64 .f32) : FVec Ideal S16x2048x8x64 .f32 :=
  shapeCast _ x shapeCasts_S16x2048x4x2x64_S16x2048x8x64

/-- The keys by head. -/
def spread (k : FVec Ideal S32768x512 .bf16) : FVec Ideal S16x2048x8x64 .f32 :=
  shapeCast _ (extf (F := Ideal) .f32 k bitsLt_bf16_f32) shapeCasts_S32768x512_S16x2048x8x64

/-- An array's elements below infinity in absolute value. -/
def finite (x : FVec Ideal S16x2048x8x64 .f32) : IVec S16x2048x8x64 1 :=
  cmpf .olt (Host.absf x) (broadcastInDim S16x2048x8x64 ![] bcast_S_S16x2048x8x64 (constant (F := Ideal) S_ .f32 0x7F800000#32))

/-- The same of the running sums, spread over the lanes. -/
def finiteSums (c : FVec Ideal S16x8x2048 .f32) : IVec S16x2048x8x64 1 :=
  broadcastInDim S16x2048x8x64 ![0, 1, 2, 3] bcast_S16x2048x8x1_S16x2048x8x64_0_1_2_3 (broadcastInDim S16x2048x8x1 ![0, 1, 2] bcast_S16x2048x8_S16x2048x8x1_0_1_2 (cmpf .olt (Host.absf (transpose S16x2048x8 [0, 2, 1] c transposes_S16x8x2048_S16x2048x8_0_2_1)) (broadcastInDim S16x2048x8 ![] bcast_S_S16x2048x8 (constant (F := Ideal) S_ .f32 0x7F800000#32))))

/-- An array's elements that are zero. -/
def zero (x : FVec Ideal S16x2048x8x64 .f32) : IVec S16x2048x8x64 1 :=
  cmpf .oeq x (broadcastInDim S16x2048x8x64 ![] bcast_S_S16x2048x8x64 (constant (F := Ideal) S_ .f32 0x00000000#32))

theorem fn_eq (q : FVec Ideal S32768x1024 .bf16) (k v : FVec Ideal S32768x512 .bf16) (c : FVec Ideal S16x8x2048 .f32) :
    fn q k v c = andi (zero (apart (joined (pad0 q) (pad1 q))))
      (andi (andi (finite (apart (joined (real0 q) (real1 q)))) (finite (spread k))) (finiteSums c)) := rfl

theorem inf : Ideal.ofBits FTy.f32 2139095040#32 = ⊤ := by
  simp [Ideal.ofBits, Ideal.ieee]

theorem and_one : ∀ a b : BitVec 1, a &&& b = 1#1 → a = 1#1 ∧ b = 1#1 := by decide

theorem lt_top {x : EReal} (h : FloatOps.cmpf (F := Ideal) (φ := .f32) .olt (max x (-x)) ⊤ = 1#1) : x ≠ ⊤ ∧ x ≠ ⊥ := by
  have h' : max x (-x) < ⊤ := by
    by_contra hn
    have h0 : FloatOps.cmpf (F := Ideal) (φ := .f32) .olt (max x (-x)) ⊤ = 0#1 := by
      simp only [FloatOps.cmpf, Ideal.cmp]
      simp [hn]
    rw [h0] at h
    exact absurd h (by decide)
  constructor
  · rintro rfl
    exact absurd h' (by simp)
  · rintro rfl
    exact absurd h' (by simp)

theorem finite_apply (x : FVec Ideal S16x2048x8x64 .f32) (b : Fin 16) (n : Fin 2048) (e : Fin 8) (d : Fin 64)
    (h : finite x (ix4 b n e d) = 1#1) : x (ix4 b n e d) ≠ ⊤ ∧ x (ix4 b n e d) ≠ ⊥ := by
  refine lt_top (Eq.trans ?_ h)
  rw [← inf]
  symm
  pointwise [finite]
  rfl

theorem finiteSums_apply (c : FVec Ideal S16x8x2048 .f32) (b : Fin 16) (n : Fin 2048) (e : Fin 8) (d : Fin 64)
    (h : finiteSums c (ix4 b n e d) = 1#1) : c (ix3 b e n) ≠ ⊤ ∧ c (ix3 b e n) ≠ ⊥ := by
  refine lt_top (Eq.trans ?_ h)
  rw [← inf]
  symm
  pointwise [finiteSums]
  rfl

theorem zero_apply (x : FVec Ideal S16x2048x8x64 .f32) (b : Fin 16) (n : Fin 2048) (e : Fin 8) (d : Fin 64)
    (h : zero x (ix4 b n e d) = 1#1) : x (ix4 b n e d) = 0 := by
  have e' : zero x (ix4 b n e d) = FloatOps.cmpf (F := Ideal) (φ := .f32) .oeq (x (ix4 b n e d)) (Ideal.ofBits FTy.f32 0x00000000#32) := by
    pointwise [zero]
  rw [e', Ideal.ofBits_zero_f32] at h
  by_contra hn
  have h0 : FloatOps.cmpf (F := Ideal) (φ := .f32) .oeq (x (ix4 b n e d)) 0 = 0#1 := by
    simp only [FloatOps.cmpf, Ideal.cmp]
    simp [hn]
  rw [h0] at h
  exact absurd h (by decide)

theorem half_apply (q : FVec Ideal S32768x1024 .bf16) (b : Fin 16) (n : Fin 2048) (p : Fin 4) (d : Fin 64) :
    (real0 q (ix4 b n p d) = q (ix2 ⟨2048 * b.val + n.val, by omega⟩ ⟨256 * p.val + d.val, by omega⟩)
      ∧ pad0 q (ix4 b n p d) = q (ix2 ⟨2048 * b.val + n.val, by omega⟩ ⟨256 * p.val + 64 + d.val, by omega⟩))
    ∧ pad1 q (ix4 b n p d) = q (ix2 ⟨2048 * b.val + n.val, by omega⟩ ⟨256 * p.val + 128 + d.val, by omega⟩)
      ∧ real1 q (ix4 b n p d) = q (ix2 ⟨2048 * b.val + n.val, by omega⟩ ⟨256 * p.val + 192 + d.val, by omega⟩) := by
  refine ⟨⟨?_, ?_⟩, ?_, ?_⟩
  · pointwise [real0, halves]
    refine congrArg q (Shape.idx_ext₂ ?_ ?_)
    · show b.val * 2048 + n.val = 2048 * b.val + n.val
      omega
    · show p.val * 256 + d.val = 256 * p.val + d.val
      omega
  · pointwise [pad0, halves]
    refine congrArg q (Shape.idx_ext₂ ?_ ?_)
    · show b.val * 2048 + n.val = 2048 * b.val + n.val
      omega
    · show p.val * 256 + 64 + d.val = 256 * p.val + 64 + d.val
      omega
  · pointwise [pad1, halves]
    refine congrArg q (Shape.idx_ext₂ ?_ ?_)
    · show b.val * 2048 + n.val = 2048 * b.val + n.val
      omega
    · show p.val * 256 + 128 + d.val = 256 * p.val + 128 + d.val
      omega
  · pointwise [real1, halves]
    refine congrArg q (Shape.idx_ext₂ ?_ ?_)
    · show b.val * 2048 + n.val = 2048 * b.val + n.val
      omega
    · show p.val * 256 + 128 + 64 + d.val = 256 * p.val + 192 + d.val
      omega

theorem joined_apply (x y : FVec Ideal S16x2048x4x64 .f32) (b : Fin 16) (n : Fin 2048) (p : Fin 4) (d : Fin 64) :
    joined x y (ix5 b n p 0 d) = x (ix4 b n p d) ∧ joined x y (ix5 b n p 1 d) = y (ix4 b n p d) := by
  constructor
  · pointwise [joined]
  · pointwise [joined]

theorem apart_apply (x : FVec Ideal S16x2048x4x2x64 .f32) (b : Fin 16) (n : Fin 2048) (e : Fin 8) (d : Fin 64) :
    apart x (ix4 b n e d) = x (ix5 b n ⟨e.val / 2, by omega⟩ ⟨e.val % 2, by omega⟩ d) := by
  pointwise [apart]

theorem pad_apply (q : FVec Ideal S32768x1024 .bf16) (b : Fin 16) (n : Fin 2048) (e : Fin 8) (d : Fin 64) :
    apart (joined (pad0 q) (pad1 q)) (ix4 b n e d)
      = q (ix2 ⟨2048 * b.val + n.val, by omega⟩ ⟨128 * e.val + 64 * (1 - e.val % 2) + d.val, by omega⟩) := by
  refine (apart_apply _ b n e d).trans ?_
  rcases Nat.mod_two_eq_zero_or_one e.val with h | h
  · rw [show (⟨e.val % 2, by omega⟩ : Fin 2) = 0 from Fin.ext h, (joined_apply _ _ b n ⟨e.val / 2, by omega⟩ d).1, (half_apply q _ _ _ _).1.2]
    refine congrArg q (Shape.idx_ext₂ rfl ?_)
    show 256 * (e.val / 2) + 64 + d.val = 128 * e.val + 64 * (1 - e.val % 2) + d.val
    omega
  · rw [show (⟨e.val % 2, by omega⟩ : Fin 2) = 1 from Fin.ext h, (joined_apply _ _ b n ⟨e.val / 2, by omega⟩ d).2, (half_apply q _ _ _ _).2.1]
    refine congrArg q (Shape.idx_ext₂ rfl ?_)
    show 256 * (e.val / 2) + 128 + d.val = 128 * e.val + 64 * (1 - e.val % 2) + d.val
    omega

theorem real_apply (q : FVec Ideal S32768x1024 .bf16) (b : Fin 16) (n : Fin 2048) (e : Fin 8) (d : Fin 64) :
    apart (joined (real0 q) (real1 q)) (ix4 b n e d)
      = q (ix2 ⟨2048 * b.val + n.val, by omega⟩ ⟨128 * e.val + 64 * (e.val % 2) + d.val, by omega⟩) := by
  refine (apart_apply _ b n e d).trans ?_
  rcases Nat.mod_two_eq_zero_or_one e.val with h | h
  · rw [show (⟨e.val % 2, by omega⟩ : Fin 2) = 0 from Fin.ext h, (joined_apply _ _ b n ⟨e.val / 2, by omega⟩ d).1, (half_apply q _ _ _ _).1.1]
    refine congrArg q (Shape.idx_ext₂ rfl ?_)
    show 256 * (e.val / 2) + d.val = 128 * e.val + 64 * (e.val % 2) + d.val
    omega
  · rw [show (⟨e.val % 2, by omega⟩ : Fin 2) = 1 from Fin.ext h, (joined_apply _ _ b n ⟨e.val / 2, by omega⟩ d).2, (half_apply q _ _ _ _).2.2]
    refine congrArg q (Shape.idx_ext₂ rfl ?_)
    show 256 * (e.val / 2) + 192 + d.val = 128 * e.val + 64 * (e.val % 2) + d.val
    omega

theorem spread_apply (k : FVec Ideal S32768x512 .bf16) (b : Fin 16) (s : Fin 2048) (e : Fin 8) (d : Fin 64) :
    spread k (ix4 b s e d) = k (ix2 ⟨2048 * b.val + s.val, by omega⟩ ⟨64 * e.val + d.val, by omega⟩) := by
  pointwise [spread]
  refine congrArg k (Shape.idx_ext₂ ?_ ?_)
  · show b.val * 2048 + s.val = 2048 * b.val + s.val
    omega
  · show e.val * 64 + d.val = 64 * e.val + d.val
    omega

/-- The precondition, element by element. -/
theorem fn_spec (q : FVec Ideal S32768x1024 .bf16) (k v : FVec Ideal S32768x512 .bf16) (c : FVec Ideal S16x8x2048 .f32)
    (h : fn q k v c = fun _ => 1#1) (b : Fin 16) (n : Fin 2048) (e : Fin 8) (d : Fin 64) :
    q (ix2 ⟨2048 * b.val + n.val, by omega⟩ ⟨128 * e.val + 64 * (1 - e.val % 2) + d.val, by omega⟩) = 0
    ∧ (q (ix2 ⟨2048 * b.val + n.val, by omega⟩ ⟨128 * e.val + 64 * (e.val % 2) + d.val, by omega⟩) ≠ ⊤
      ∧ q (ix2 ⟨2048 * b.val + n.val, by omega⟩ ⟨128 * e.val + 64 * (e.val % 2) + d.val, by omega⟩) ≠ ⊥)
    ∧ (k (ix2 ⟨2048 * b.val + n.val, by omega⟩ ⟨64 * e.val + d.val, by omega⟩) ≠ ⊤
      ∧ k (ix2 ⟨2048 * b.val + n.val, by omega⟩ ⟨64 * e.val + d.val, by omega⟩) ≠ ⊥)
    ∧ c (ix3 b e n) ≠ ⊤ ∧ c (ix3 b e n) ≠ ⊥ := by
  have h1 := congrFun ((fn_eq q k v c).symm.trans h) (ix4 b n e d)
  obtain ⟨hz, h2⟩ := and_one _ _ h1
  obtain ⟨h3, hc⟩ := and_one _ _ h2
  obtain ⟨hq, hk⟩ := and_one _ _ h3
  have hz' := zero_apply _ b n e d hz
  have hq' := finite_apply _ b n e d hq
  have hk' := finite_apply _ b n e d hk
  rw [pad_apply] at hz'
  rw [real_apply] at hq'
  rw [spread_apply] at hk'
  exact ⟨hz', hq', hk', finiteSums_apply c b n e d hc⟩

end Cert.FoxInputs

end
-- ==== Proof.ProjInputs.lean ====
module

public import proofs.«01_k».proof.Proof.Gen.Pre_proj_inputs
public import proofs.«01_k».proof.Proof.FoxInputs
public import proofs.«01_k».proof.Proof.Softmax

@[expose] public section

/-!
# The precondition of the input projection

The input, the gain of its norm and the weights are finite.
-/

set_option maxRecDepth 16384

noncomputable section

namespace Cert.ProjInputs

open Cert.Pre_proj_inputs Cert.Pre_proj_inputs.Gen Idealize.ShloMosaic

theorem real_of {x : EReal} (h : x ≠ ⊤ ∧ x ≠ ⊥) : ∃ r : ℝ, x = r := ⟨x.toReal, (EReal.coe_toReal h.1 h.2).symm⟩

theorem x_apply (x : FVec Ideal S32768x1024 .f32) (s : Fin 32768) (k : Fin 1024)
    (h : cmpf .olt (Host.absf x) (broadcastInDim S32768x1024 ![] bcast_S_S32768x1024 (constant (F := Ideal) S_ .f32 0x7F800000#32)) (ix2 s k) = 1#1) :
    ∃ r : ℝ, x (ix2 s k) = r := by
  refine real_of (FoxInputs.lt_top (Eq.trans ?_ h))
  rw [← FoxInputs.inf]
  symm
  pointwise
  rfl

theorem g_apply (x : FVec Ideal S1024 .f32) (k : Fin 1024)
    (h : cmpf .olt (Host.absf x) (broadcastInDim S1024 ![] bcast_S_S1024 (constant (F := Ideal) S_ .f32 0x7F800000#32)) (ix1 k) = 1#1) :
    ∃ r : ℝ, x (ix1 k) = r := by
  refine real_of (FoxInputs.lt_top (Eq.trans ?_ h))
  rw [← FoxInputs.inf]
  symm
  pointwise
  rfl

theorem w_apply (x : FVec Ideal S1024x4896 .f32) (s : Fin 1024) (k : Fin 4896)
    (h : cmpf .olt (Host.absf x) (broadcastInDim S1024x4896 ![] bcast_S_S1024x4896 (constant (F := Ideal) S_ .f32 0x7F800000#32)) (ix2 s k) = 1#1) :
    ∃ r : ℝ, x (ix2 s k) = r := by
  refine real_of (FoxInputs.lt_top (Eq.trans ?_ h))
  rw [← FoxInputs.inf]
  symm
  pointwise
  rfl

/-- The precondition, element by element. -/
theorem fn_spec (x : FVec Ideal S32768x1024 .f32) (g : FVec Ideal S1024 .f32) (w : FVec Ideal S1024x4896 .f32) (b : FVec Ideal S8 .f32)
    (q : FVec Ideal S64 .f32) (k : FVec Ideal S3x64 .f32) (p f : FVec Ideal S64 .f32)
    (h : (fn x g w b q k p f).1 = (fun _ => 1#1) ∧ (fn x g w b q k p f).2.1 = (fun _ => 1#1) ∧ (fn x g w b q k p f).2.2 = (fun _ => 1#1)) :
    (∀ s k, ∃ r : ℝ, x (ix2 s k) = r) ∧ (∀ k, ∃ r : ℝ, g (ix1 k) = r) ∧ ∀ k j, ∃ r : ℝ, w (ix2 k j) = r :=
  ⟨fun s k => x_apply x s k (congrFun h.1 _), fun k => g_apply g k (congrFun h.2.1 _), fun k j => w_apply w k j (congrFun h.2.2 _)⟩

/-- The reciprocal root of a finite row's mean square is finite. -/
theorem rms_real (x g : Fin 1024 → EReal) (hx : ∀ k, ∃ r : ℝ, x k = r) (hg : ∀ k, ∃ r : ℝ, g k = r) (k : Fin 1024) :
    ∃ r : ℝ, Rows.rms x g k = r := by
  choose a ha using hx
  choose b hb using hg
  have hc : (Ideal.ofBits .f32 0x44800000#32 : EReal) = ((1024 : ℝ) : EReal) := by
    simp [Ideal.ofBits, Ideal.ieee, -EReal.coe_mul]; norm_num
  have he : ∃ ε : ℝ, 0 < ε ∧ (Ideal.ofBits .f32 0x358637BD#32 : EReal) = ε := by
    refine ⟨8796093 / 8796093022208, by norm_num, ?_⟩
    simp [Ideal.ofBits, Ideal.ieee, -EReal.coe_mul]; norm_num
  obtain ⟨ε, hε, he⟩ := he
  have hs : (∑ i, x i * x i) = ((∑ i, a i * a i : ℝ) : EReal) := by
    rw [Soft.coe_sum]
    exact Finset.sum_congr rfl fun i _ => by rw [ha, EReal.coe_mul]
  have h0 : 0 ≤ ∑ i, a i * a i := Finset.sum_nonneg fun i _ => mul_self_nonneg _
  have hd : Ideal.div ((∑ i, a i * a i : ℝ) : EReal) ((1024 : ℝ) : EReal) + (ε : EReal) = (((∑ i, a i * a i) * (1024 : ℝ)⁻¹ + ε : ℝ) : EReal) := by
    rw [Ideal.div, if_neg (by exact_mod_cast (by norm_num : (1024 : ℝ) ≠ 0)), ← EReal.coe_inv, ← EReal.coe_mul, ← EReal.coe_add]
  have hp : 0 < (∑ i, a i * a i) * (1024 : ℝ)⁻¹ + ε := by positivity
  refine ⟨a k * (Real.sqrt ((∑ i, a i * a i) * (1024 : ℝ)⁻¹ + ε))⁻¹ * b k, ?_⟩
  unfold Rows.rms
  rw [hs, hc, he, hd, Ideal.rsqrt_coe, if_neg (not_lt.mpr hp.le), if_neg hp.ne', ha, hb, EReal.coe_mul, EReal.coe_mul]

/-- A finite sum of products of finite numbers is finite. -/
theorem sum_real {n : ℕ} (u v : Fin n → EReal) (hu : ∀ k, ∃ r : ℝ, u k = r) (hv : ∀ k, ∃ r : ℝ, v k = r) : ∃ r : ℝ, ∑ k, u k * v k = r := by
  choose a ha using hu
  choose b hb using hv
  refine ⟨∑ k, a k * b k, ?_⟩
  rw [Soft.coe_sum]
  exact Finset.sum_congr rfl fun i _ => by rw [ha, hb, EReal.coe_mul]

end Cert.ProjInputs

end
-- ==== Proof.ProjValue.lean ====
module

public import proofs.«01_k».proof.Proof.ProjArray
public import proofs.«01_k».proof.Proof.ProjLayout
public import proofs.«01_k».proof.Proof.ProjResults
public import proofs.«01_k».proof.Proof.ProjInputs

@[expose] public section

/-!
# The kernel's results are those of the input projection

The packed columns are the columns of the projection in another order, with columns of zeros between them; over finite inputs the
norms taken over chunks of packed columns are the norms of the heads.
-/

set_option maxRecDepth 16384

noncomputable section

namespace Cert.ProjIdeal.RefValue

open Cert.ProjIdeal Cert.ProjIdeal.Gen Idealize.ShloMosaic Idealize.ShloMosaic.TcCoe Idealize.SL.Sem
open Cert.ProjReferenceIdeal.RefValue (col qA qB kB kS vS gt)

variable (x : FVec Ideal S32768x1024 .f32) (g : FVec Ideal S1024 .f32) (w : FVec Ideal S1024x4896 .f32)

/-! ## Packed columns as columns of the projection -/

theorem cols_a (s : Fin 32768) (j : Fin 1024) :
    cols x g w s ⟨j.val, by omega⟩ = if ProjRows.realA (j.val / 64) then col x g w s ⟨0 + (64 * (j.val / 64 / 2) + j.val % 64), by omega⟩ else 0 := by
  unfold cols col
  simp only [pack_a]
  split_ifs
  · exact Finset.sum_congr rfl fun k _ => congrArg _ (ix2_eq w k (Nat.zero_add _).symm)
  · simp only [mul_zero, Finset.sum_const_zero]

theorem cols_b (s : Fin 32768) (j : Fin 1024) :
    cols x g w s ⟨1024 + j.val, by omega⟩ = if ProjRows.realB (j.val / 64) then col x g w s ⟨1304 + (64 * (j.val / 64 / 2) + j.val % 64), by omega⟩ else 0 := by
  unfold cols col
  simp only [pack_b]
  split_ifs
  · rfl
  · simp only [mul_zero, Finset.sum_const_zero]

theorem cols_c (s : Fin 32768) (c : Fin 3968) (i : Fin 1920) (l : Fin 4896) (h : c.val = 2048 + i.val)
    (e : ∀ k, packC w (ix2 k i) = w (ix2 k l)) : cols x g w s c = col x g w s l := by
  rw [show c = ⟨2048 + i.val, by omega⟩ from Fin.ext h]
  unfold cols col
  simp only [pack_c, e]

theorem cols_pad (s : Fin 32768) (c : Fin 3968) (j : Fin 96) (h : c.val = 2048 + (1824 + j.val)) : cols x g w s c = 0 := by
  unfold cols
  refine Finset.sum_eq_zero fun k _ => ?_
  rw [show pack w (ix2 k c) = 0 from (ix2_eq (pack w) k h).trans ((pack_c w k ⟨1824 + j.val, by omega⟩).trans (packC_pad w k j)), mul_zero]

/-! ## Finite inputs -/

theorem packC_real (hw : ∀ k j, ∃ r : ℝ, w (ix2 k j) = r) (k : Fin 1024) (i : Fin 1920) : ∃ r : ℝ, packC w (ix2 k i) = r := by
  by_cases h_kb : i.val < 512
  · obtain ⟨r, hr⟩ := hw k ⟨1816 + (i.val - 0), by omega⟩
    exact ⟨r, (ix2_eq (packC w) k (by simp only []; omega)).trans ((packC_kb w k ⟨i.val - 0, by omega⟩).trans hr)⟩
  by_cases h_ks : i.val < 640
  · obtain ⟨r, hr⟩ := hw k ⟨768 + (i.val - 512), by omega⟩
    exact ⟨r, (ix2_eq (packC w) k (by simp only []; omega)).trans ((packC_ks w k ⟨i.val - 512, by omega⟩).trans hr)⟩
  by_cases h_kw : i.val < 768
  · obtain ⟨r, hr⟩ := hw k ⟨1024 + (i.val - 640), by omega⟩
    exact ⟨r, (ix2_eq (packC w) k (by simp only []; omega)).trans ((packC_kw w k ⟨i.val - 640, by omega⟩).trans hr)⟩
  by_cases h_vb : i.val < 1280
  · obtain ⟨r, hr⟩ := hw k ⟨2328 + (i.val - 768), by omega⟩
    exact ⟨r, (ix2_eq (packC w) k (by simp only []; omega)).trans ((packC_vb w k ⟨i.val - 768, by omega⟩).trans hr)⟩
  by_cases h_vs : i.val < 1408
  · obtain ⟨r, hr⟩ := hw k ⟨896 + (i.val - 1280), by omega⟩
    exact ⟨r, (ix2_eq (packC w) k (by simp only []; omega)).trans ((packC_vs w k ⟨i.val - 1280, by omega⟩).trans hr)⟩
  by_cases h_vw : i.val < 1536
  · obtain ⟨r, hr⟩ := hw k ⟨1152 + (i.val - 1408), by omega⟩
    exact ⟨r, (ix2_eq (packC w) k (by simp only []; omega)).trans ((packC_vw w k ⟨i.val - 1408, by omega⟩).trans hr)⟩
  by_cases h_kc : i.val < 1664
  · obtain ⟨r, hr⟩ := hw k ⟨512 + (i.val - 1536), by omega⟩
    exact ⟨r, (ix2_eq (packC w) k (by simp only []; omega)).trans ((packC_kc w k ⟨i.val - 1536, by omega⟩).trans hr)⟩
  by_cases h_vc : i.val < 1792
  · obtain ⟨r, hr⟩ := hw k ⟨640 + (i.val - 1664), by omega⟩
    exact ⟨r, (ix2_eq (packC w) k (by simp only []; omega)).trans ((packC_vc w k ⟨i.val - 1664, by omega⟩).trans hr)⟩
  by_cases h_ga : i.val < 1816
  · obtain ⟨r, hr⟩ := hw k ⟨1280 + (i.val - 1792), by omega⟩
    exact ⟨r, (ix2_eq (packC w) k (by simp only []; omega)).trans ((packC_ga w k ⟨i.val - 1792, by omega⟩).trans hr)⟩
  by_cases h_fb : i.val < 1824
  · obtain ⟨r, hr⟩ := hw k ⟨2840 + (i.val - 1816), by omega⟩
    exact ⟨r, (ix2_eq (packC w) k (by simp only []; omega)).trans ((packC_fb w k ⟨i.val - 1816, by omega⟩).trans hr)⟩
  exact ⟨0, (ix2_eq (packC w) k (by simp only []; omega)).trans (packC_pad w k ⟨i.val - 1824, by omega⟩)⟩

theorem pack_real (hw : ∀ k j, ∃ r : ℝ, w (ix2 k j) = r) (k : Fin 1024) (c : Fin 3968) : ∃ r : ℝ, pack w (ix2 k c) = r := by
  by_cases ha : c.val < 1024
  · have h := pack_a w k ⟨c.val, ha⟩
    split_ifs at h
    · obtain ⟨r, hr⟩ := hw k ⟨64 * (c.val / 64 / 2) + c.val % 64, by omega⟩
      exact ⟨r, h.trans hr⟩
    · exact ⟨0, h⟩
  by_cases hb : c.val < 2048
  · have h := pack_b w k ⟨c.val - 1024, by omega⟩
    have e : pack w (ix2 k c) = pack w (ix2 k ⟨1024 + (c.val - 1024), by omega⟩) := ix2_eq (pack w) k (by simp only []; omega)
    split_ifs at h
    · obtain ⟨r, hr⟩ := hw k ⟨1304 + (64 * ((c.val - 1024) / 64 / 2) + (c.val - 1024) % 64), by omega⟩
      exact ⟨r, e.trans (h.trans hr)⟩
    · exact ⟨0, e.trans h⟩
  · obtain ⟨r, hr⟩ := packC_real w hw k ⟨c.val - 2048, by omega⟩
    exact ⟨r, (ix2_eq (pack w) k (by simp only []; omega)).trans ((pack_c w k ⟨c.val - 2048, by omega⟩).trans hr)⟩

variable (hx : ∀ s k, ∃ r : ℝ, x (ix2 s k) = r) (hg : ∀ k, ∃ r : ℝ, g (ix1 k) = r) (hw : ∀ k j, ∃ r : ℝ, w (ix2 k j) = r)

include hx hg hw in
theorem cols_real (s : Fin 32768) (c : Fin 3968) : ∃ r : ℝ, cols x g w s c = r :=
  ProjInputs.sum_real _ _ (ProjInputs.rms_real _ _ (fun k => hx s k) hg) fun k => pack_real w hw k c

include hx hg hw in
theorem col_real (s : Fin 32768) (j : Fin 4896) : ∃ r : ℝ, col x g w s j = r :=
  ProjInputs.sum_real _ _ (ProjInputs.rms_real _ _ (fun k => hx s k) hg) fun k => hw k j

/-! ## The results -/

variable (q : FVec Ideal S64 .f32) (k : FVec Ideal S3x64 .f32) (p f : FVec Ideal S64 .f32) (b : FVec Ideal S8 .f32)

include hx hg hw in
theorem value_qA (s : Fin 32768) (j : Fin 1024) :
    ProjRows.chunk (cols x g w s) (fun i l => if i.val / 128 = l.val / 128 then 1 else 0) (fun j => gains q k p f (ix2 0 j)) ⟨j.val / 256, by omega⟩ ⟨j.val % 256, by omega⟩
      = qA x g w q s j := by
  refine (congrArg (fun c => ProjRows.chunk (cols x g w s) _ _ c _) (Fin.ext (Nat.zero_add _).symm)).trans
    (ProjRows.lane (cols x g w s) _ (fun j => gains q k p f (ix2 0 j)) (col x g w s) (fun i => q (ix1 i)) (Ideal.ofBits .f32 0x3E000000#32)
      ProjRows.realA ProjRows.realA_sibling 0 0 (by norm_num) (by norm_num) (cols_real x g w hx hg hw s) (fun _ _ => rfl) (fun j => ?_) (fun j => ?_) j)
  · exact (congrArg (cols x g w s) (Fin.ext (by simp only []; omega))).trans (cols_a x g w s j)
  · exact (congrArg (fun j => gains q k p f (ix2 0 j)) (Fin.ext (by simp only []; omega))).trans (gains_a q k p f j)

include hx hg hw in
theorem value_qB (s : Fin 32768) (j : Fin 1024) :
    ProjRows.chunk (cols x g w s) (fun i l => if i.val / 128 = l.val / 128 then 1 else 0) (fun j => gains q k p f (ix2 0 j)) ⟨4 + j.val / 256, by omega⟩ ⟨j.val % 256, by omega⟩
      = qB x g w p s j := by
  refine ProjRows.lane (cols x g w s) _ (fun j => gains q k p f (ix2 0 j)) (col x g w s) (fun i => p (ix1 i)) (Ideal.ofBits .f32 0x3E000000#32)
      ProjRows.realB ProjRows.realB_sibling 4 1304 (by norm_num) (by norm_num) (cols_real x g w hx hg hw s) (fun _ _ => rfl) (fun j => ?_) (fun j => ?_) j
  · exact (congrArg (cols x g w s) (Fin.ext (by simp only []))).trans (cols_b x g w s j)
  · exact (congrArg (fun j => gains q k p f (ix2 0 j)) (Fin.ext (by simp only []))).trans (gains_b q k p f j)

/-- The gains of the keys, at a column. -/
theorem gains_key (c : Fin 2816) (i : Fin 768) (d : Fin 64) (h : c.val = 2048 + i.val) (hd : i.val % 64 = d.val) :
    gains q k p f (ix2 0 c) = if i.val < 512 then f (ix1 d) else if i.val < 640 then k (ix2 1 d) else k (ix2 2 d) := by
  have e : (⟨i.val % 64, by omega⟩ : Fin 64) = d := Fin.ext hd
  rw [← e, show c = ⟨2048 + i.val, by omega⟩ from Fin.ext h]
  exact gains_c q k p f i

include hx hg hw in
theorem value_kB (s : Fin 32768) (j : Fin 512) :
    ProjRows.chunk (cols x g w s) (fun i l => if i.val / 64 = l.val / 64 then 1 else 0) (fun j => gains q k p f (ix2 0 j)) ⟨8 + j.val / 256, by omega⟩ ⟨j.val % 256, by omega⟩
      = kB x g w f s j := by
  refine (ProjRows.key (cols x g w s) _ (fun j => gains q k p f (ix2 0 j)) (fun e => col x g w s ⟨1816 + (64 * (j.val / 64) + e.val), by omega⟩) (fun i => f (ix1 i))
      (cols_real x g w hx hg hw s) (fun _ _ => rfl) ⟨8 + j.val / 256, by omega⟩ ⟨j.val % 256, by omega⟩ (fun e => ?_) (fun e => ?_)).trans ?_
  · exact cols_c x g w s _ ⟨0 + (64 * (j.val / 64) + e.val), by omega⟩ _ (by simp only []; omega) fun k => packC_kb w k ⟨64 * (j.val / 64) + e.val, by omega⟩
  · exact (gains_key q k p f _ ⟨64 * (j.val / 64) + e.val, by omega⟩ e (by simp only []; omega) (by simp only []; omega)).trans (if_pos (by simp only []; omega))
  · unfold kB
    exact congrArg _ (Fin.ext (by simp only []; omega))

include hx hg hw in
theorem value_kS (s : Fin 32768) (j : Fin 256) :
    ProjRows.chunk (cols x g w s) (fun i l => if i.val / 64 = l.val / 64 then 1 else 0) (fun j => gains q k p f (ix2 0 j)) 10 j = kS x g w k s j := by
  unfold kS
  by_cases h : j.val < 128
  · rw [if_pos h]
    refine ProjRows.key (cols x g w s) _ (fun j => gains q k p f (ix2 0 j)) (fun e => col x g w s ⟨768 + (64 * (j.val / 64 % 2) + e.val), by omega⟩) (fun i => k (ix2 1 i))
      (cols_real x g w hx hg hw s) (fun _ _ => rfl) 10 j (fun e => ?_) (fun e => ?_)
    · exact cols_c x g w s _ ⟨512 + (64 * (j.val / 64 % 2) + e.val), by omega⟩ _ (by show 256 * 10 + (64 * (j.val / 64) + e.val) = _; simp only []; omega) fun k => packC_ks w k ⟨64 * (j.val / 64 % 2) + e.val, by omega⟩
    · exact (gains_key q k p f _ ⟨512 + (64 * (j.val / 64) + e.val), by omega⟩ e (by show 256 * 10 + (64 * (j.val / 64) + e.val) = _; simp only []; omega) (by simp only []; omega)).trans
        ((if_neg (by simp only []; omega)).trans (if_pos (by simp only []; omega)))
  · rw [if_neg h]
    refine ProjRows.key (cols x g w s) _ (fun j => gains q k p f (ix2 0 j)) (fun e => col x g w s ⟨1024 + (64 * (j.val / 64 % 2) + e.val), by omega⟩) (fun i => k (ix2 2 i))
      (cols_real x g w hx hg hw s) (fun _ _ => rfl) 10 j (fun e => ?_) (fun e => ?_)
    · exact cols_c x g w s _ ⟨640 + (64 * (j.val / 64 % 2) + e.val), by omega⟩ _ (by show 256 * 10 + (64 * (j.val / 64) + e.val) = _; simp only []; omega) fun k => packC_kw w k ⟨64 * (j.val / 64 % 2) + e.val, by omega⟩
    · exact (gains_key q k p f _ ⟨512 + (64 * (j.val / 64) + e.val), by omega⟩ e (by show 256 * 10 + (64 * (j.val / 64) + e.val) = _; simp only []; omega) (by simp only []; omega)).trans
        ((if_neg (by simp only []; omega)).trans (if_neg (by simp only []; omega)))

theorem value_vB (s : Fin 32768) (j : Fin 512) : cols x g w s ⟨2816 + j.val, by omega⟩ = col x g w s ⟨2328 + j.val, by omega⟩ :=
  cols_c x g w s _ ⟨768 + j.val, by omega⟩ _ (by simp only []; omega) fun k => packC_vb w k j

theorem value_vS (s : Fin 32768) (j : Fin 256) : cols x g w s ⟨3328 + j.val, by omega⟩ = vS x g w s j := by
  unfold vS
  by_cases h : j.val < 128
  · rw [dif_pos h]
    exact cols_c x g w s _ ⟨1280 + j.val, by omega⟩ _ (by simp only []; omega) fun k => packC_vs w k ⟨j.val, h⟩
  · rw [dif_neg h]
    exact cols_c x g w s _ ⟨1408 + (j.val - 128), by omega⟩ _ (by simp only []; omega) fun k => packC_vw w k ⟨j.val - 128, by omega⟩

theorem value_kC (s : Fin 32768) (j : Fin 128) : cols x g w s ⟨3584 + j.val, by omega⟩ = col x g w s ⟨512 + j.val, by omega⟩ :=
  cols_c x g w s _ ⟨1536 + j.val, by omega⟩ _ (by simp only []; omega) fun k => packC_kc w k j

theorem value_vC (s : Fin 32768) (j : Fin 128) : cols x g w s ⟨3712 + j.val, by omega⟩ = col x g w s ⟨640 + j.val, by omega⟩ :=
  cols_c x g w s _ ⟨1664 + j.val, by omega⟩ _ (by simp only []; omega) fun k => packC_vc w k j

theorem value_gt (s : Fin 32768) (j : Fin 128) :
    (if j.val < 24 then Ideal.logistic (cols x g w s ⟨3840 + j.val, by omega⟩ + bias b (ix2 0 j)) else ProjRows.logSig (cols x g w s ⟨3840 + j.val, by omega⟩ + bias b (ix2 0 j)))
      = gt x g w b s j := by
  unfold gt
  rw [bias_apply]
  by_cases h : j.val < 24
  · rw [if_pos h, dif_pos h, dif_neg (show ¬ (24 ≤ j.val ∧ j.val < 32) by omega), add_zero]
    exact congrArg _ (cols_c x g w s _ ⟨1792 + j.val, by omega⟩ _ (by simp only []; omega) fun k => packC_ga w k ⟨j.val, h⟩)
  · rw [if_neg h, dif_neg h]
    refine congrArg _ ?_
    by_cases h8 : j.val - 24 < 8
    · rw [dif_pos h8, dif_pos (show 24 ≤ j.val ∧ j.val < 32 by omega)]
      exact congrArg (· + _) (cols_c x g w s _ ⟨1816 + (j.val - 24), by omega⟩ _ (by simp only []; omega) fun k => packC_fb w k ⟨j.val - 24, h8⟩)
    · rw [dif_neg h8, dif_neg (show ¬ (24 ≤ j.val ∧ j.val < 32) by omega), add_zero]
      exact cols_pad x g w s _ ⟨j.val - 32, by omega⟩ (by simp only []; omega)

end Cert.ProjIdeal.RefValue

end
-- ==== Proof.ProjClaim.lean ====
/- The input projection: the kernel and the plain reference end with the same nine arrays, from finite inputs. -/
module

public import proofs.«01_k».proof.Defs
public import proofs.«01_k».proof.Proof.ProjValue

@[expose] public section

set_option maxRecDepth 16384

noncomputable section

namespace Cert.Proof

open Idealize.ShloMosaic Idealize.ShloMosaic.TcCoe Idealize.SL.Sem

theorem proj_algebraic : Cert.algebraic_ProjIdeal_ProjReferenceIdeal_pre_proj_inputs := by
  intro m g m' g' hpre hag
  have hfin := fun c => Cert.ProjInputs.fn_spec _ _ _ _ _ _ _ _ (hpre c)
  refine ⟨fun c => (Cert.ProjIdeal.Gen.dats m 0 c).arrAt 7 Cert.ProjIdeal.cfg0.N,
    fun c => (Cert.ProjIdeal.Gen.dats m 0 c).arrAt 8 Cert.ProjIdeal.cfg0.N,
    fun c => (Cert.ProjIdeal.Gen.dats m 0 c).arrAt 9 Cert.ProjIdeal.cfg0.N,
    fun c => (Cert.ProjIdeal.Gen.dats m 0 c).arrAt 10 Cert.ProjIdeal.cfg0.N,
    fun c => (Cert.ProjIdeal.Gen.dats m 0 c).arrAt 11 Cert.ProjIdeal.cfg0.N,
    fun c => (Cert.ProjIdeal.Gen.dats m 0 c).arrAt 12 Cert.ProjIdeal.cfg0.N,
    fun c => (Cert.ProjIdeal.Gen.dats m 0 c).arrAt 13 Cert.ProjIdeal.cfg0.N,
    fun c => (Cert.ProjIdeal.Gen.dats m 0 c).arrAt 14 Cert.ProjIdeal.cfg0.N,
    fun c => (Cert.ProjIdeal.Gen.dats m 0 c).arrAt 15 Cert.ProjIdeal.cfg0.N,
    Cert.ProjIdeal.Value.run_blocks m g,
    (θ_run Cert.ProjReferenceIdeal.defs _ _).mono (fun r h c => ⟨?_, ?_, ?_, ?_, ?_, ?_, ?_, ?_, ?_, (h c).2.2.2.2.2.2.2.2.2⟩)
      (Cert.ProjReferenceIdeal.RefValue.run_results m' g')⟩
  · obtain ⟨h0, h1, h2, h3, h4, h5, h6, h7⟩ := hag c
    funext i
    obtain ⟨s, j, rfl⟩ : ∃ (s : Fin 32768) (j : Fin 1024), i = ix2 s j := ⟨i 0, i 1, eq_ix2 i⟩
    refine ((h c).1 s j).trans (Eq.trans ?_ (Cert.ProjIdeal.RefValue.array7 m c s j).symm)
    rw [h0, h1, h2, h4]
    exact (Cert.ProjIdeal.RefValue.value_qA (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (hfin c).1 (hfin c).2.1 (hfin c).2.2 (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) s j).symm
  · obtain ⟨h0, h1, h2, h3, h4, h5, h6, h7⟩ := hag c
    funext i
    obtain ⟨s, j, rfl⟩ : ∃ (s : Fin 32768) (j : Fin 1024), i = ix2 s j := ⟨i 0, i 1, eq_ix2 i⟩
    refine ((h c).2.1 s j).trans (Eq.trans ?_ (Cert.ProjIdeal.RefValue.array8 m c s j).symm)
    rw [h0, h1, h2, h6]
    exact (Cert.ProjIdeal.RefValue.value_qB (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (hfin c).1 (hfin c).2.1 (hfin c).2.2 (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) s j).symm
  · obtain ⟨h0, h1, h2, h3, h4, h5, h6, h7⟩ := hag c
    funext i
    obtain ⟨s, j, rfl⟩ : ∃ (s : Fin 32768) (j : Fin 512), i = ix2 s j := ⟨i 0, i 1, eq_ix2 i⟩
    refine ((h c).2.2.1 s j).trans (Eq.trans ?_ (Cert.ProjIdeal.RefValue.array9 m c s j).symm)
    rw [h0, h1, h2, h7]
    exact (Cert.ProjIdeal.RefValue.value_kB (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (hfin c).1 (hfin c).2.1 (hfin c).2.2 (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) s j).symm
  · obtain ⟨h0, h1, h2, h3, h4, h5, h6, h7⟩ := hag c
    funext i
    obtain ⟨s, j, rfl⟩ : ∃ (s : Fin 32768) (j : Fin 256), i = ix2 s j := ⟨i 0, i 1, eq_ix2 i⟩
    refine ((h c).2.2.2.1 s j).trans (Eq.trans ?_ (Cert.ProjIdeal.RefValue.array10 m c s j).symm)
    rw [h0, h1, h2, h5]
    exact (Cert.ProjIdeal.RefValue.value_kS (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (hfin c).1 (hfin c).2.1 (hfin c).2.2 (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) s j).symm
  · obtain ⟨h0, h1, h2, h3, h4, h5, h6, h7⟩ := hag c
    funext i
    obtain ⟨s, j, rfl⟩ : ∃ (s : Fin 32768) (j : Fin 512), i = ix2 s j := ⟨i 0, i 1, eq_ix2 i⟩
    refine ((h c).2.2.2.2.1 s j).trans (Eq.trans ?_ (Cert.ProjIdeal.RefValue.array11 m c s j).symm)
    rw [h0, h1, h2]
    exact (Cert.ProjIdeal.RefValue.value_vB (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) s j).symm
  · obtain ⟨h0, h1, h2, h3, h4, h5, h6, h7⟩ := hag c
    funext i
    obtain ⟨s, j, rfl⟩ : ∃ (s : Fin 32768) (j : Fin 256), i = ix2 s j := ⟨i 0, i 1, eq_ix2 i⟩
    refine ((h c).2.2.2.2.2.1 s j).trans (Eq.trans ?_ (Cert.ProjIdeal.RefValue.array12 m c s j).symm)
    rw [h0, h1, h2]
    exact (Cert.ProjIdeal.RefValue.value_vS (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) s j).symm
  · obtain ⟨h0, h1, h2, h3, h4, h5, h6, h7⟩ := hag c
    funext i
    obtain ⟨s, j, rfl⟩ : ∃ (s : Fin 32768) (j : Fin 128), i = ix2 s j := ⟨i 0, i 1, eq_ix2 i⟩
    refine ((h c).2.2.2.2.2.2.1 s j).trans (Eq.trans ?_ (Cert.ProjIdeal.RefValue.array13 m c s j).symm)
    rw [h0, h1, h2]
    exact (Cert.ProjIdeal.RefValue.value_kC (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) s j).symm
  · obtain ⟨h0, h1, h2, h3, h4, h5, h6, h7⟩ := hag c
    funext i
    obtain ⟨s, j, rfl⟩ : ∃ (s : Fin 32768) (j : Fin 128), i = ix2 s j := ⟨i 0, i 1, eq_ix2 i⟩
    refine ((h c).2.2.2.2.2.2.2.1 s j).trans (Eq.trans ?_ (Cert.ProjIdeal.RefValue.array14 m c s j).symm)
    rw [h0, h1, h2]
    exact (Cert.ProjIdeal.RefValue.value_vC (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) s j).symm
  · obtain ⟨h0, h1, h2, h3, h4, h5, h6, h7⟩ := hag c
    funext i
    obtain ⟨s, j, rfl⟩ : ∃ (s : Fin 32768) (j : Fin 128), i = ix2 s j := ⟨i 0, i 1, eq_ix2 i⟩
    refine ((h c).2.2.2.2.2.2.2.2.1 s j).trans (Eq.trans ?_ (Cert.ProjIdeal.RefValue.array15 m c s j).symm)
    rw [h0, h1, h2, h3]
    exact (Cert.ProjIdeal.RefValue.value_gt (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) s j).symm

end Cert.Proof

end
-- ==== Proof.FfnBlock.lean ====
/- What one grid point of the first feed-forward kernel leaves in its output block: row `r` of the block is the residual
   feed-forward of row `r` of the input block. -/
module

public import proofs.«01_k».proof.Proof.Rows
public import proofs.«01_k».proof.Proof.Gen.FfnIdeal.Value
public import Idealize.ShloMosaic.Lib.Pipeline.Value

@[expose] public section

set_option maxRecDepth 16384

noncomputable section

namespace Cert.FfnIdeal.RefValue

open Cert.FfnIdeal Cert.FfnIdeal.Gen Idealize.ShloMosaic Idealize.ShloMosaic.TcCoe

theorem hz : (![0, 0] : Fin 2 → Nat) = fun _ => 0 := funext fun a => by fin_cases a <;> rfl

/-- The normalized block, element by element. -/
theorem norm_apply (x0 : Vec Ideal S512x1024 .f32) (x1 : Vec Ideal S1x1024 .f32) (r : Fin 512) (k : Fin 1024) :
    k0_pay3 x0 x1 (ix2 r k) = Rows.rms (fun k => x0 (ix2 r k)) (fun k => x1 (ix2 0 k)) k := by
  unfold Rows.rms
  pointwise [k0_pay3, k0_pay2]

/-- The output block, element by element. -/
theorem out_apply (x0 : Vec Ideal S512x1024 .f32) (x1 : Vec Ideal S1x1024 .f32) (x2 : Vec Ideal S1024x5632 .bf16)
    (x3 : Vec Ideal S2816x1024 .bf16) (r : Fin 512) (j : Fin 1024) :
    out0_4 x0 x1 x2 x3 (ix2 r j) = Rows.ffn (fun k => x0 (ix2 r k)) (fun k => x1 (ix2 0 k)) (fun k f => x2 (ix2 k f))
      (fun f j => x3 (ix2 f j)) j := by
  unfold out0_4 r0_0 r0_1
  rw [View.canon_unit_zero hz, View.ld_unit_zero hz, View.ld_unit_zero hz]
  rw [Rows.ffn_halves]
  unfold Rows.hidden Rows.gate
  pointwise [k0_pay1, k0_pay2, k0_pay4, k0_pay5, k0_pay6]
  simp only [norm_apply, show ∀ f : Fin 1408, 4224 + f.val = 2816 + (1408 + f.val) from fun f => by omega]

end Cert.FfnIdeal.RefValue

end
-- ==== Proof.FfnArray.lean ====
/- The first feed-forward kernel's result array: every element is the residual feed-forward of its row of the input,
   with the gains and the two weight matrices as launched. -/
module

public import proofs.«01_k».proof.Proof.FfnBlock
public import Idealize.ShloMosaic.Lib.StableHlo.Run

@[expose] public section

set_option maxRecDepth 16384

noncomputable section

namespace Cert.FfnIdeal.RefValue

open Cert.FfnIdeal Cert.FfnIdeal.Gen Idealize.ShloMosaic Idealize.ShloMosaic.TcCoe Idealize.SL.Sem

variable (m : (ℓ : Loc nD τ sig) → Buf (Elt Ideal) ℓ) (ρ : Dev nD → PrngReg)

/-! ## The arrays when the kernel is entered -/

/-- The two leading axes of an array merged, read at a merged index. -/
theorem merged_apply {α : Type} (x : S16x2048x1024.Idx → α) (b : Fin 16) (s : Fin 2048) (k : Fin 1024) :
    shapeCast S32768x1024 x shapeCasts_S16x2048x1024_S32768x1024 (ix2 ⟨2048 * b.val + s.val, by omega⟩ k) = x (ix3 b s k) := by
  pointwise

/-- A vector as one row. -/
theorem row_apply {α : Type} (g : S1024.Idx → α) (k : Fin 1024) : shapeCast S1x1024 g shapeCasts_S1024_S1x1024 (ix2 0 k) = g (ix1 k) := by
  pointwise

theorem V_x (c : Dev nD) (b : Fin 16) (s : Fin 2048) (k : Fin 1024) :
    V m c main_v0 (ix2 ⟨2048 * b.val + s.val, by omega⟩ k) = m ((c : Thread nD τ).loc main_arg0) (ix3 b s k) := by
  have h : V m c main_v0 = shapeCast S32768x1024 (m ((c : Thread nD τ).loc main_arg0)) shapeCasts_S16x2048x1024_S32768x1024 := by
    show StableHlo.after hostOps0 _ (Proc.devRef .tc main_v0) = _
    after_results
    rfl
  exact (congrFun h _).trans (merged_apply _ b s k)

theorem V_gain (c : Dev nD) (k : Fin 1024) : V m c main_v1 (ix2 0 k) = m ((c : Thread nD τ).loc main_arg1) (ix1 k) := by
  have h : V m c main_v1 = shapeCast S1x1024 (m ((c : Thread nD τ).loc main_arg1)) shapeCasts_S1024_S1x1024 := by
    show StableHlo.after hostOps0 _ (Proc.devRef .tc main_v1) = _
    after_results
    rfl
  exact (congrFun h _).trans (row_apply _ k)

theorem V_up (c : Dev nD) (k : Fin 1024) (f : Fin 5632) : V m c main_v2 (ix2 k f) = m ((c : Thread nD τ).loc main_arg2) (ix2 k f) := by
  have h : V m c main_v2 = truncf (F := Ideal) .bf16 (m ((c : Thread nD τ).loc main_arg2)) bitsLt_bf16_f32 := by
    show StableHlo.after hostOps0 _ (Proc.devRef .tc main_v2) = _
    after_results
  exact congrFun h _

theorem V_down (c : Dev nD) (f : Fin 2816) (j : Fin 1024) : V m c main_v3 (ix2 f j) = m ((c : Thread nD τ).loc main_arg3) (ix2 f j) := by
  have h : V m c main_v3 = truncf (F := Ideal) .bf16 (m ((c : Thread nD τ).loc main_arg3)) bitsLt_bf16_f32 := by
    show StableHlo.after hostOps0 _ (Proc.devRef .tc main_v3) = _
    after_results
  exact congrFun h _

/-! ## The blocks of a grid point -/

theorem index_rows : ∀ t : Fin cfg0.N, win0_0.index t 0 = t.val ∧ win0_0.index t 1 = 0 ∧ win0_4.index t 0 = t.val ∧ win0_4.index t 1 = 0 :=
  (by decide +kernel : ∀ t : Fin grid0.N, win0_0.index t 0 = t.val ∧ win0_0.index t 1 = 0 ∧ win0_4.index t 0 = t.val ∧ win0_4.index t 1 = 0)

theorem blk_x (c : Dev nD) (t : Fin cfg0.N) (r : Fin 512) (k : Fin 1024) :
    iblk m c 0 t (ix2 r k) = V m c main_v0 (ix2 ⟨512 * t.val + r.val, by have := t.isLt; have : cfg0.N = 64 := N_0; omega⟩ k) := by
  show V m c main_v0 ((win0_0.blk t).view.emb (ix2 r k)) = _
  refine congrArg _ (Shape.idx_ext₂ ?_ ?_)
  · show win0_0.index t 0 * 512 + 1 * r.val = 512 * t.val + r.val
    have := (index_rows t).1
    omega
  · show win0_0.index t 1 * 1024 + 1 * k.val = k.val
    have := (index_rows t).2.1
    omega

theorem blk_gain (c : Dev nD) (t : Fin cfg0.N) (k : Fin 1024) : iblk m c 1 t (ix2 0 k) = V m c main_v1 (ix2 0 k) := by
  show V m c main_v1 ((win0_1.blk t).view.emb (ix2 0 k)) = _
  refine congrArg _ (Shape.idx_ext₂ ?_ ?_)
  · show 0 * 1 + 1 * 0 = 0
    rfl
  · show 0 * 1024 + 1 * k.val = k.val
    omega

theorem blk_up (c : Dev nD) (t : Fin cfg0.N) (k : Fin 1024) (f : Fin 5632) : iblk m c 2 t (ix2 k f) = V m c main_v2 (ix2 k f) := by
  show V m c main_v2 ((win0_2.blk t).view.emb (ix2 k f)) = _
  refine congrArg _ (Shape.idx_ext₂ ?_ ?_)
  · show 0 * 1024 + 1 * k.val = k.val
    omega
  · show 0 * 5632 + 1 * f.val = f.val
    omega

theorem blk_down (c : Dev nD) (t : Fin cfg0.N) (f : Fin 2816) (j : Fin 1024) : iblk m c 3 t (ix2 f j) = V m c main_v3 (ix2 f j) := by
  show V m c main_v3 ((win0_3.blk t).view.emb (ix2 f j)) = _
  refine congrArg _ (Shape.idx_ext₂ ?_ ?_)
  · show 0 * 2816 + 1 * f.val = f.val
    omega
  · show 0 * 1024 + 1 * j.val = j.val
    omega

/-! ## The result array -/

/-- Every element of the result array: its row of the input through the residual feed-forward. -/
theorem array_apply (c : Dev nD) (b : Fin 16) (s : Fin 2048) (j : Fin 1024) :
    (dats m 0 c).arrAt 4 cfg0.N (ix2 ⟨2048 * b.val + s.val, by omega⟩ j)
      = Rows.ffn (fun k => m ((c : Thread nD τ).loc main_arg0) (ix3 b s k)) (fun k => m ((c : Thread nD τ).loc main_arg1) (ix1 k))
          (fun k f => m ((c : Thread nD τ).loc main_arg2) (ix2 k f)) (fun f j => m ((c : Thread nD τ).loc main_arg3) (ix2 f j)) j := by
  have hN : cfg0.N = 64 := N_0
  have hb := b.isLt
  have hs := s.isLt
  let t : Fin cfg0.N := ⟨(2048 * b.val + s.val) / 512, by omega⟩
  have hblk := congrFun (Value.blocks4 m c t (flush0_4 t)) (ix2 (⟨s.val % 512, by omega⟩ : Fin 512) j)
  have hidx : (win0_4.blk t).view.emb (ix2 (⟨s.val % 512, by omega⟩ : Fin 512) j) = ix2 (⟨2048 * b.val + s.val, by omega⟩ : Fin 32768) j := by
    refine Shape.idx_ext₂ ?_ ?_
    · show win0_4.index t 0 * 512 + 1 * (s.val % 512) = 2048 * b.val + s.val
      have h : win0_4.index t 0 = (2048 * b.val + s.val) / 512 := (index_rows t).2.2.1
      omega
    · show win0_4.index t 1 * 1024 + 1 * j.val = j.val
      have := (index_rows t).2.2.2
      omega
  have hread : (dats m 0 c).arrAt 4 cfg0.N ((win0_4.blk t).view.emb (ix2 (⟨s.val % 512, by omega⟩ : Fin 512) j))
      = out0_4 (iblk m c 0 t) (iblk m c 1 t) (iblk m c 2 t) (iblk m c 3 t) (ix2 (⟨s.val % 512, by omega⟩ : Fin 512) j) := by
    rw [Value.flushed4] at hblk
    exact hblk
  rw [hidx] at hread
  have hx : ∀ k, iblk m c 0 t (ix2 (⟨s.val % 512, by omega⟩ : Fin 512) k) = m ((c : Thread nD τ).loc main_arg0) (ix3 b s k) := fun k =>
    (blk_x m c t _ k).trans ((congrArg (fun i => V m c main_v0 (ix2 i k)) (Fin.ext (by dsimp only [t]; omega))).trans (V_x m c b s k))
  have hg : ∀ k, iblk m c 1 t (ix2 0 k) = m ((c : Thread nD τ).loc main_arg1) (ix1 k) := fun k => (blk_gain m c t k).trans (V_gain m c k)
  have hu : ∀ k f, iblk m c 2 t (ix2 k f) = m ((c : Thread nD τ).loc main_arg2) (ix2 k f) := fun k f => (blk_up m c t k f).trans (V_up m c k f)
  have hd : ∀ f j, iblk m c 3 t (ix2 f j) = m ((c : Thread nD τ).loc main_arg3) (ix2 f j) := fun f j => (blk_down m c t f j).trans (V_down m c f j)
  rw [hread, out_apply]
  simp only [hx, hg, hu, hd]

end Cert.FfnIdeal.RefValue

end
-- ==== Proof.FfnReference.lean ====
/- The plain feed-forward reference, read at an index: the residual feed-forward of the row. -/
module

public import proofs.«01_k».proof.Proof.Rows
public import proofs.«01_k».proof.Proof.Gen.FfnReferenceIdeal.Run

@[expose] public section

set_option maxRecDepth 16384

noncomputable section

namespace Cert.FfnReferenceIdeal.RefValue

open Cert.FfnReferenceIdeal Cert.FfnReferenceIdeal.Gen Idealize.ShloMosaic Idealize.ShloMosaic.TcCoe Idealize.SL.Sem

/-- The two leading axes of an array merged, read at a merged index. -/
theorem merged_apply {α : Type} (x : S16x2048x1024.Idx → α) (b : Fin 16) (s : Fin 2048) (k : Fin 1024) :
    shapeCast S32768x1024 x shapeCasts_S16x2048x1024_S32768x1024 (ix2 ⟨2048 * b.val + s.val, by omega⟩ k) = x (ix3 b s k) := by
  pointwise

theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 16) (s : Fin 2048) (j : Fin 1024), r.2.mem ((c.tc : Thread nD τ).loc main_v22) (ix2 ⟨2048 * b.val + s.val, by omega⟩ j)
        = Rows.ffn (fun k => m ((c : Thread nD τ).loc main_arg0) (ix3 b s k)) (fun k => m ((c : Thread nD τ).loc main_arg1) (ix1 k))
          (fun k f => m ((c : Thread nD τ).loc main_arg2) (ix2 k f)) (fun f j => m ((c : Thread nD τ).loc main_arg3) (ix2 f j)) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun b s j => ?_, (h c).2⟩) (Value.run m ρ)
  rw [(h c).1]
  generalize m ((c : Thread nD τ).loc main_arg0) = x
  generalize m ((c : Thread nD τ).loc main_arg1) = g
  generalize m ((c : Thread nD τ).loc main_arg2) = w
  generalize m ((c : Thread nD τ).loc main_arg3) = v
  revert x g w v
  show ∀ (x : FVec Ideal S16x2048x1024 .f32) (g : FVec Ideal S1024 .f32) (w : FVec Ideal S1024x5632 .f32) (v : FVec Ideal S2816x1024 .f32), _
  intro x g w v
  clear h
  refine (merged_apply _ b s j).trans ?_
  unfold Rows.ffn Rows.hidden Rows.gate Rows.rms Ideal.logistic
  pointwise

end Cert.FfnReferenceIdeal.RefValue

end
-- ==== Proof.FfnClaim.lean ====
/- The first feed-forward: the kernel and the plain reference end with the same array. -/
module

public import proofs.«01_k».proof.Defs
public import proofs.«01_k».proof.Proof.FfnArray
public import proofs.«01_k».proof.Proof.FfnReference

@[expose] public section

noncomputable section

namespace Cert.Proof

open Idealize.ShloMosaic Idealize.ShloMosaic.TcCoe Idealize.SL.Sem

theorem ffn_algebraic : Cert.algebraic_FfnIdeal_FfnReferenceIdeal := by
  intro m g m' g' _ hag
  refine ⟨fun c => (Cert.FfnIdeal.Gen.dats m 0 c).arrAt 4 Cert.FfnIdeal.cfg0.N, Cert.FfnIdeal.Value.run_blocks m g,
    (θ_run Cert.FfnReferenceIdeal.defs _ _).mono (fun r h c => ⟨?_, (h c).2⟩) (Cert.FfnReferenceIdeal.RefValue.run_rows m' g')⟩
  obtain ⟨h0, h1, h2, h3⟩ := hag c
  funext i
  obtain ⟨a, j, rfl⟩ : ∃ (a : Fin 32768) (j : Fin 1024), i = ix2 a j := ⟨i 0, i 1, eq_ix2 i⟩
  obtain ⟨b, s, rfl⟩ : ∃ (b : Fin 16) (s : Fin 2048), a = ⟨2048 * b.val + s.val, by omega⟩ :=
    ⟨⟨a.val / 2048, by omega⟩, ⟨a.val % 2048, by omega⟩, Fin.ext (by dsimp only; omega)⟩
  refine ((h c).1 b s j).trans (Eq.trans ?_ (Cert.FfnIdeal.RefValue.array_apply m c b s j).symm)
  rw [h0, h1, h2, h3]

end Cert.Proof

end
-- ==== Proof.FoxSteps.lean ====
/- The operations of one step of the forgetting attention's kernel, read at an index, and the running softmax they carry on. -/
module

public import proofs.«01_k».proof.Proof.Softmax
public import proofs.«01_k».proof.Proof.Gen.KernelIdeal.Value
public import Idealize.ShloMosaic.Lib.Pointwise

@[expose] public section

set_option maxRecDepth 16384

noncomputable section

namespace Cert.KernelIdeal.RefValue

open Cert.KernelIdeal Cert.KernelIdeal.Gen Idealize.ShloMosaic Idealize.ShloMosaic.TcCoe Idealize.SL.Sem

/-- The value the maximum starts from is the least one. -/
theorem neg_inf : Ideal.ofBits FTy.f32 4286578688#32 = ⊥ := by
  simp [Ideal.ofBits, Ideal.ieee]

/-- The running maximum after a tile. -/
theorem pay1_apply (m : FVec Ideal S512x1 .f32) (x : FVec Ideal S512x256 .f32) (r : Fin 512) :
    k0_pay1 m x (ix2 r 0) = max (m (ix2 r 0)) (Finset.univ.sup fun j => x (ix2 r j)) := by
  pointwise [k0_pay1]
  rw [neg_inf]
  rfl

/-- The factor that carries the old sums over to the new maximum. -/
theorem pay2_apply (m : FVec Ideal S512x1 .f32) (x : FVec Ideal S512x256 .f32) (r : Fin 512) :
    k0_pay2 m x (ix2 r 0) = Soft.wt (m (ix2 r 0)) (k0_pay1 m x (ix2 r 0)) := by
  pointwise [k0_pay2]
  rfl

/-- The weights of a tile's keys. -/
theorem pay3_apply (m : FVec Ideal S512x1 .f32) (x : FVec Ideal S512x256 .f32) (r : Fin 512)
    (j : Fin 256) : k0_pay3 m x (ix2 r j) = Soft.wt (x (ix2 r j)) (k0_pay1 m x (ix2 r 0)) := by
  pointwise [k0_pay3]
  rfl

/-- The running sum of weights after a tile. -/
theorem pay4_apply (m l : FVec Ideal S512x1 .f32) (x : FVec Ideal S512x256 .f32) (r : Fin 512) :
    k0_pay4 m l x (ix2 r 0) = k0_pay2 m x (ix2 r 0) * l (ix2 r 0) + ∑ j, k0_pay3 m x (ix2 r j) := by
  pointwise [k0_pay4]

/-- The running weighted sum of values after a tile. -/
theorem pay5_apply (m : FVec Ideal S512x1 .f32) (a : FVec Ideal S512x128 .f32)
    (v : FVec Ideal S256x128 .bf16) (x : FVec Ideal S512x256 .f32) (r : Fin 512) (d : Fin 128) :
    k0_pay5 v m a x (ix2 r d)
      = k0_pay2 m x (ix2 r 0) * a (ix2 r d) + ∑ j, k0_pay3 m x (ix2 r j) * v (ix2 j d) := by
  pointwise [k0_pay5]

/-- The named constant of the mask is the least value. -/
theorem mask_bot : Named.named (F := Ideal) κ (φ := .f32) "mask" 4048155338#32 = ⊥ := by
  simp [Named.named, κ]

/-- A row's place in its half: the low eight bits of its number. -/
theorem and_row : ∀ r : Fin 256, IntOp.andi (BitVec.ofNat 32 r.val) 255#32 = BitVec.ofNat 32 r.val
    ∧ IntOp.andi (BitVec.ofNat 32 (256 + r.val)) 255#32 = BitVec.ofNat 32 r.val := by decide +kernel

/-- The causal choice inside the diagonal tile. -/
theorem select_le (j r : Fin 256) (a b : EReal) :
    Scalar.select (IntOp.cmpi .sle (BitVec.ofNat 32 j.val) (BitVec.ofNat 32 r.val)) a b
      = if j.val ≤ r.val then a else b := by
  have hj : (BitVec.ofNat 32 j.val).toNat = j.val := by simp; omega
  have hr : (BitVec.ofNat 32 r.val).toNat = r.val := by simp; omega
  rw [WordCmp.cmpi_sle_of_lt (by rw [hj]; omega) (by rw [hr]; omega), hj, hr, Scalar.select]
  by_cases h : j.val ≤ r.val <;> simp [h]

/-- The choice between the two heads of a lane: the first 64 lanes are the first head's. -/
theorem select_lane (d : Fin 64) (a b : EReal) :
    Scalar.select (IntOp.cmpi .slt (BitVec.ofNat 32 d.val) 64#32) a b = a
    ∧ Scalar.select (IntOp.cmpi .slt (BitVec.ofNat 32 (64 + d.val)) 64#32) a b = b := by
  have h : ∀ d : Fin 64, IntOp.cmpi .slt (BitVec.ofNat 32 d.val) 64#32 = 1#1
      ∧ IntOp.cmpi .slt (BitVec.ofNat 32 (64 + d.val)) 64#32 = 0#1 := by decide +kernel
  rw [(h d).1, (h d).2]
  exact ⟨rfl, rfl⟩

theorem pay21_apply (r : Fin 512) : (k0_pay21 : FVec Ideal S512x1 .f32) (ix2 r 0) = ⊥ := by
  pointwise [k0_pay21]
  exact mask_bot

theorem pay22_apply (r : Fin 512) : (k0_pay22 : FVec Ideal S512x1 .f32) (ix2 r 0) = 0 := by
  pointwise [k0_pay22]

theorem pay23_apply (r : Fin 512) (d : Fin 128) : (k0_pay23 : FVec Ideal S512x128 .f32) (ix2 r d) = 0 := by
  pointwise [k0_pay23]

/-- What the three running values of a row hold once the keys of `S` are seen: the maximum of their
logits, and the sum of the weights and of the weighted values at that maximum. -/
structure Seen (m l : FVec Ideal S512x1 .f32) (a : FVec Ideal S512x128 .f32) (ρ : Fin 512)
    (x : Fin 2048 → EReal) (v : Fin 2048 → Fin 128 → EReal) (S : Finset (Fin 2048)) : Prop where
  max : m (ix2 ρ 0) = Soft.M x S
  sum : l (ix2 ρ 0) = Soft.L x S
  acc : ∀ d, a (ix2 ρ d) = Soft.A x (fun s => v s d) S

/-- Before the first tile no key is seen. -/
theorem seen_empty (ρ : Fin 512) (x : Fin 2048 → EReal) (v : Fin 2048 → Fin 128 → EReal) :
    Seen k0_pay21 k0_pay22 k0_pay23 ρ x v ∅ :=
  ⟨by rw [pay21_apply]; simp [Soft.M], by rw [pay22_apply]; simp [Soft.L],
    fun d => by rw [pay23_apply]; simp [Soft.A]⟩

/-- A tile of 256 keys is seen by one step. -/
theorem seen_step {m l : FVec Ideal S512x1 .f32} {a : FVec Ideal S512x128 .f32} {ρ : Fin 512}
    {x : Fin 2048 → EReal} {v : Fin 2048 → Fin 128 → EReal} {S : Finset (Fin 2048)}
    (h : Seen m l a ρ x v S) (e : Fin 256 ↪ Fin 2048) (hd : Disjoint S (Finset.univ.map e))
    (X : FVec Ideal S512x256 .f32) (V : FVec Ideal S256x128 .bf16)
    (hX : ∀ j, X (ix2 ρ j) = x (e j)) (hV : ∀ j d, V (ix2 j d) = v (e j) d) :
    Seen (k0_pay1 m X) (k0_pay4 m l X) (k0_pay5 V m a X) ρ x v (S ∪ Finset.univ.map e) := by
  have h1 : k0_pay1 m X (ix2 ρ 0) = Soft.M x (S ∪ Finset.univ.map e) := by
    rw [pay1_apply, Soft.M_step, h.max]
    simp only [hX]
  refine ⟨h1, ?_, fun d => ?_⟩
  · rw [pay4_apply, Soft.L_step x S e hd, pay2_apply, h1, h.max, h.sum]
    simp only [pay3_apply, h1, hX]
  · rw [pay5_apply, Soft.A_step x _ S e hd, pay2_apply, h1, h.max, h.acc]
    simp only [pay3_apply, h1, hX, hV]

theorem pay7_eq (v2 : FVec Ideal S512x128 .bf16) (v8 : FVec Ideal S2x1 .f32) (m : FVec Ideal S512x1 .f32) (k : FVec Ideal S256x128 .bf16) (cu : FVec Ideal S1x1x2x256 .f32) :
    k0_pay7 v2 v8 m k cu = k0_pay1 m (k0_pay6 v2 v8 k cu) := rfl

theorem pay10_eq (v2 : FVec Ideal S512x128 .bf16) (v8 : FVec Ideal S2x1 .f32) (m l : FVec Ideal S512x1 .f32) (k : FVec Ideal S256x128 .bf16) (cu : FVec Ideal S1x1x2x256 .f32) :
    k0_pay10 v2 v8 m l k cu = k0_pay4 m l (k0_pay6 v2 v8 k cu) := rfl

theorem pay11_eq (v2 : FVec Ideal S512x128 .bf16) (v8 : FVec Ideal S2x1 .f32) (m : FVec Ideal S512x1 .f32) (a : FVec Ideal S512x128 .f32) (k v : FVec Ideal S256x128 .bf16) (cu : FVec Ideal S1x1x2x256 .f32) :
    k0_pay11 v2 v8 m a k v cu = k0_pay5 v m a (k0_pay6 v2 v8 k cu) := rfl

/-- The two heads of a pair: `h` picks the half of the 512 rows. -/
def row (h : Fin 2) (r : Fin 256) : Fin 512 := ⟨256 * h.val + r.val, by omega⟩

theorem pay6_apply (v2 : FVec Ideal S512x128 .bf16) (v8 : FVec Ideal S2x1 .f32) (k : FVec Ideal S256x128 .bf16) (cu : FVec Ideal S1x1x2x256 .f32) (h : Fin 2) (r j : Fin 256) :
    k0_pay6 v2 v8 k cu (ix2 (row h r) j) = (∑ d, v2 (ix2 (row h r) d) * k (ix2 j d)) + (v8 (ix2 h 0) - cu (ix4 0 0 h j)) := by
  unfold row
  fin_cases h
  · pointwise [k0_pay6]
  · pointwise [k0_pay6]

theorem pay24_apply (q0 q1 : FVec Ideal S256x128 .bf16) (b : FVec Ideal S1x1x2x128 .f32) (k : FVec Ideal S256x128 .bf16) (cu : FVec Ideal S1x1x2x256 .f32) (h : Fin 2) (r j : Fin 256) :
    k0_pay24 (F := Ideal) q0 q1 b k cu (ix2 (row h r) j)
      = (∑ d, k0_pay19 (F := Ideal) q0 q1 (ix2 (row h r) d) * k (ix2 j d)) + (if j.val ≤ r.val then b (ix4 0 0 h 0) - cu (ix4 0 0 h j) else ⊥) := by
  unfold row
  fin_cases h
  · pointwise [k0_pay24, k0_pay20]
    rw [(and_row r).1, select_le, mask_bot]
  · pointwise [k0_pay24, k0_pay20]
    rw [(and_row r).2, select_le, mask_bot]

theorem pay18_apply (l : FVec Ideal S512x1 .f32) (a : FVec Ideal S512x128 .f32) (h : Fin 2) (r : Fin 256) (d : Fin 64) :
    k0_pay18 l a (ix2 r ⟨64 * h.val + d.val, by omega⟩) = a (ix2 (row h r) ⟨64 * h.val + d.val, by omega⟩) * Ideal.div 1 (l (ix2 (row h r) 0)) := by
  unfold row
  fin_cases h
  · pointwise [k0_pay18]
    exact (select_lane d _ _).1
  · pointwise [k0_pay18]
    exact (select_lane d _ _).2

end Cert.KernelIdeal.RefValue
end
-- ==== Proof.FoxTiles.lean ====
/- The tiles one step of the forgetting attention's kernel reads, and its trip as one step of the running softmax. -/
module

public import proofs.«01_k».proof.Proof.FoxSteps
public import Idealize.ShloMosaic.Lib.Pipeline.Value
public import Idealize.ShloMosaic.Lib.Pipeline.ValueKit.Tiles
public import Idealize.ShloMosaic.Lib.LoopRemainder

@[expose] public section

set_option maxRecDepth 16384

noncomputable section

namespace Cert.KernelIdeal.RefValue

open Cert.KernelIdeal Cert.KernelIdeal.Gen Idealize.ShloMosaic Idealize.ShloMosaic.TcCoe Idealize.SL.Sem

theorem hz : (![0, 0] : Fin 2 → Nat) = fun _ => 0 := funext fun a => by fin_cases a <;> rfl

/-- The loop over the earlier tiles makes as many trips as there are earlier tiles. -/
theorem trips_t1 (i : grid0.Coords) : (k0_t1_loop i).trips = (i 2).val := by
  have : ∀ k : Fin 8, Scf.trips (0#32) (Scalar.addi 0#32 (Scalar.muli (Scalar.divsi (Scalar.subi (BitVec.ofNat 32 k.val) 0#32) 1#32) 1#32)) 1#32 = k.val := by decide +kernel
  exact this (i 2)

/-- The remainder loop makes no trip. -/
theorem trips_t2 (i : grid0.Coords) : (k0_t2_loop i).trips = 0 := by
  have : ∀ k : Fin 8, Scf.trips (Scalar.addi 0#32 (Scalar.muli (Scalar.divsi (Scalar.subi (BitVec.ofNat 32 k.val) 0#32) 1#32) 1#32)) (Scalar.addi 0#32 (Scalar.subi (BitVec.ofNat 32 k.val) 0#32)) 1#32 = 0 := by decide +kernel
  exact this (i 2)

theorem off1_eq (i : grid0.Coords) : k0_off1 i = ![0, 0, 0, 256 * (i 2).val] := by
  have : ∀ k : Fin 8, (Scalar.muli (BitVec.ofNat 32 k.val) 256#32).toNat = 256 * k.val := by decide +kernel
  show ![0, 0, 0, (Scalar.muli (BitVec.ofNat 32 (i 2).val) 256#32).toNat] = _
  rw [show (Scalar.muli (BitVec.ofNat 32 (i 2).val) 256#32).toNat = _ from this (i 2)]

theorem off2_eq (i : grid0.Coords) : k0_off2 i = ![256 * (i 2).val, 0] := by
  have : ∀ k : Fin 8, (Scalar.muli (BitVec.ofNat 32 k.val) 256#32).toNat = 256 * k.val := by decide +kernel
  show ![(Scalar.muli (BitVec.ofNat 32 (i 2).val) 256#32).toNat, 0] = _
  rw [show (Scalar.muli (BitVec.ofNat 32 (i 2).val) 256#32).toNat = _ from this (i 2)]

theorem off3_eq (i : grid0.Coords) : k0_off3 i = ![0, 0, 0, 256 * (i 2).val] := off1_eq i

theorem iv_tile (k : Nat) (hk : k < 8) : (Scalar.muli (Scf.iv 0#32 1#32 k) 256#32).toNat = 256 * k := by
  have : ∀ k : Fin 8, (Scalar.muli (Scf.iv 0#32 1#32 k.val) 256#32).toNat = 256 * k.val := by decide +kernel
  exact this ⟨k, hk⟩

theorem off4_eq (i : grid0.Coords) (k : Fin (k0_t1_loop i).trips) : k0_off4 i k = ![256 * k.val, 0] := by
  have hk : k.val < 8 := lt_trans (lt_of_lt_of_eq k.isLt (trips_t1 i)) (i 2).isLt
  show ![(Scalar.muli (Scf.iv 0#32 1#32 k.val) 256#32).toNat, 0] = _
  rw [iv_tile k.val hk]

theorem off5_eq (i : grid0.Coords) (k : Fin (k0_t1_loop i).trips) : k0_off5 i k = ![0, 0, 0, 256 * k.val] := by
  have hk : k.val < 8 := lt_trans (lt_of_lt_of_eq k.isLt (trips_t1 i)) (i 2).isLt
  show ![0, 0, 0, (Scalar.muli (Scf.iv 0#32 1#32 k.val) 256#32).toNat] = _
  rw [iv_tile k.val hk]

/-- Keys `256 k` to `256 k + 255`. -/
def tile (k : Fin 8) : Fin 256 ↪ Fin 2048 :=
  ⟨fun j => ⟨256 * k.val + j.val, by omega⟩, fun a b h => Fin.ext (by have := congrArg Fin.val h; simp only at this; omega)⟩

theorem mem_tile (k : Fin 8) (s : Fin 2048) : s ∈ Finset.univ.map (tile k) ↔ s.val / 256 = k.val := by
  simp only [Finset.mem_map, Finset.mem_univ, true_and]
  constructor
  · rintro ⟨j, rfl⟩
    show (256 * k.val + j.val) / 256 = k.val
    omega
  · intro h
    exact ⟨⟨s.val % 256, by omega⟩, Fin.ext (by show 256 * k.val + s.val % 256 = s.val; omega)⟩

/-- The keys seen before trip `k` by the rows of tile `t`: those of tile `t` and those of the tiles before `k`. -/
def seen (t k : Nat) : Finset (Fin 2048) := Finset.univ.filter fun s => s.val / 256 = t ∨ s.val / 256 < k

theorem seen_zero (t : Fin 8) : ∅ ∪ Finset.univ.map (tile t) = seen t.val 0 := by
  ext s
  rw [Finset.mem_union, mem_tile]
  simp [seen]

theorem seen_succ (t : Nat) (k : Fin 8) : seen t k.val ∪ Finset.univ.map (tile k) = seen t (k.val + 1) := by
  ext s
  rw [Finset.mem_union, mem_tile]
  simp only [seen, Finset.mem_filter, Finset.mem_univ, true_and]
  omega

theorem seen_disjoint (t : Nat) (k : Fin 8) (h : k.val < t) : Disjoint (seen t k.val) (Finset.univ.map (tile k)) := by
  rw [Finset.disjoint_left]
  intro s hs hs'
  rw [mem_tile] at hs'
  simp only [seen, Finset.mem_filter, Finset.mem_univ, true_and] at hs
  omega

/-- The logit of key `s` for row `r` of head `h` in query tile `t`, from the block's queries, keys and running sums: the
product of the query and the key, plus the running sum at the tile's first row less the key's; no logit for a later key. -/
def logit (x0 : Vec Ideal S256x256 .bf16) (x1 : Vec Ideal S2048x128 .bf16) (x3 : Vec Ideal S1x1x2x2048 .f32) (t : Fin 8)
    (h : Fin 2) (r : Fin 256) (s : Fin 2048) : EReal :=
  if s.val ≤ 256 * t.val + r.val then
    (∑ d : Fin 128, x0 (ix2 r ⟨128 * h.val + d.val, by omega⟩) * x1 (ix2 s d))
      + (x3 (ix4 0 0 h ⟨256 * t.val, by omega⟩) - x3 (ix4 0 0 h s))
  else ⊥

theorem tile2 {e : EltTy} (X : Vec Ideal S2048x128 e) (off : Fin 2 → Nat) (inb : ∀ a, off a + ![256, 128] a ≤ S2048x128.size a) (k : Fin 8)
    (h : off = ![256 * k.val, 0]) (j : Fin 256) (d : Fin 128) :
    View.ld (Val := Elt Ideal) X (Rect.unit off ![256, 128] inb) (ix2 j d) = X (ix2 (tile k j) d) := by
  subst h
  refine View.ld_unit_apply_of _ _ _ _ _ _ fun a => ?_
  fin_cases a
  · rfl
  · show d.val = 0 + d.val
    omega

theorem tile4 {e : EltTy} (X : Vec Ideal S1x1x2x2048 e) (off : Fin 4 → Nat) (inb : ∀ a, off a + ![1, 1, 2, 256] a ≤ S1x1x2x2048.size a)
    (k : Fin 8) (hoff : off = ![0, 0, 0, 256 * k.val]) (h : Fin 2) (j : Fin 256) :
    View.ld (Val := Elt Ideal) X (Rect.unit off ![1, 1, 2, 256] inb) (ix4 0 0 h j) = X (ix4 0 0 h (tile k j)) := by
  subst hoff
  refine View.ld_unit_apply_of _ _ _ _ _ _ fun a => ?_
  fin_cases a
  · rfl
  · rfl
  · show h.val = 0 + h.val
    omega
  · rfl

theorem base4 {e : EltTy} (X : Vec Ideal S1x1x2x2048 e) (off : Fin 4 → Nat) (inb : ∀ a, off a + ![1, 1, 2, 128] a ≤ S1x1x2x2048.size a)
    (k : Fin 8) (hoff : off = ![0, 0, 0, 256 * k.val]) (h : Fin 2) :
    View.ld (Val := Elt Ideal) X (Rect.unit off ![1, 1, 2, 128] inb) (ix4 0 0 h 0) = X (ix4 0 0 h ⟨256 * k.val, by omega⟩) := by
  subst hoff
  refine View.ld_unit_apply_of _ _ _ _ _ _ fun a => ?_
  fin_cases a
  · rfl
  · rfl
  · show h.val = 0 + h.val
    omega
  · rfl

theorem half2 {e : EltTy} (X : Vec Ideal S256x256 e) (o : Nat) (off : Fin 2 → Nat) (inb : ∀ a, off a + ![256, 128] a ≤ S256x256.size a)
    (hoff : off = ![0, o]) (ho : o ≤ 128) (r : Fin 256) (d : Fin 128) :
    View.ld (Val := Elt Ideal) X (Rect.unit off ![256, 128] inb) (ix2 r d) = X (ix2 r ⟨o + d.val, by omega⟩) := by
  subst hoff
  refine View.ld_unit_apply_of _ _ _ _ _ _ fun a => ?_
  fin_cases a
  · show r.val = 0 + r.val
    omega
  · rfl

/-- The two heads' queries stacked: head `h`'s row `r`. -/
theorem pay19_apply (q0 q1 : FVec Ideal S256x128 .bf16) (r : Fin 256) (d : Fin 128) :
    k0_pay19 (F := Ideal) q0 q1 (ix2 (row 0 r) d) = q0 (ix2 r d)
    ∧ k0_pay19 (F := Ideal) q0 q1 (ix2 (row 1 r) d) = q1 (ix2 r d) := by
  unfold row
  constructor
  · pointwise [k0_pay19]
  · pointwise [k0_pay19]

theorem pay20_apply (b : FVec Ideal S1x1x2x128 .f32) (h : Fin 2) :
    k0_pay20 (F := Ideal) b (ix2 h 0) = b (ix4 0 0 h 0) := by
  pointwise [k0_pay20]

theorem query_apply (x0 : Vec Ideal S256x256 .bf16) (inb0 inb1) (h : Fin 2) (r : Fin 256) (d : Fin 128) :
    k0_pay19 (F := Ideal) (View.ld x0 (Rect.unit ![0, 0] ![256, 128] inb0)) (View.ld x0 (Rect.unit ![0, 128] ![256, 128] inb1))
      (ix2 (row h r) d) = x0 (ix2 r ⟨128 * h.val + d.val, by omega⟩) := by
  have e0 := half2 x0 0 ![0, 0] inb0 rfl (by omega) r d
  have e1 := half2 x0 128 ![0, 128] inb1 rfl (by omega) r d
  match h with
  | 0 => exact ((pay19_apply _ _ r d).1.trans e0).trans (congrArg (fun n => x0 (ix2 r n)) (Fin.ext (by simp)))
  | 1 => exact ((pay19_apply _ _ r d).2.trans e1).trans (congrArg (fun n => x0 (ix2 r n)) (Fin.ext (by simp)))

/-- What one trip of the loop does to the running values. -/
theorem trip_eq (c : Dev nD) (i : grid0.Coords) (arg3 : Memref sig .tc .vmem S256x256 .bf16) (harg3 : arg3.IsWhole)
    (arg4 : Memref sig .tc .vmem S2048x128 .bf16) (harg4 : arg4.IsWhole) (arg5 : Memref sig .tc .vmem S2048x128 .bf16)
    (harg5 : arg5.IsWhole) (arg6 : Memref sig .tc .vmem S1x1x2x2048 .f32) (harg6 : arg6.IsWhole)
    (arg7 : Memref sig .tc .vmem S256x128 .bf16) (harg7 : arg7.IsWhole)
    (v2 : FVec Ideal S512x128 .bf16) (v8 : FVec Ideal S2x1 .f32) (x1 : Vec Ideal S2048x128 .bf16) (x2 : Vec Ideal S2048x128 .bf16)
    (x3 : Vec Ideal S1x1x2x2048 .f32) (k : Fin (k0_t1_loop i).trips)
    (acc : FVec Ideal S512x1 .f32 × FVec Ideal S512x1 .f32 × FVec Ideal S512x128 .f32) :
    ∃ (inb2 : ∀ a, k0_off4 i k a + ![256, 128] a ≤ S2048x128.size a)
      (inb4 : ∀ a, k0_off5 i k a + ![1, 1, 2, 256] a ≤ S1x1x2x2048.size a),
    tripR_k0_t1 Variants.none c none i arg3 harg3 arg4 harg4 arg5 harg5 arg6 harg6 arg7 harg7 v2 v8 (harg4.unread x1) (harg5.unread x2)
      (harg6.unread x3) k acc
      = (k0_pay1 acc.1 (k0_pay6 v2 v8 (View.ld x1 (Rect.unit (k0_off4 i k) ![256, 128] inb2)) (View.ld x3 (Rect.unit (k0_off5 i k) ![1, 1, 2, 256] inb4))),
         k0_pay4 acc.1 acc.2.1 (k0_pay6 v2 v8 (View.ld x1 (Rect.unit (k0_off4 i k) ![256, 128] inb2)) (View.ld x3 (Rect.unit (k0_off5 i k) ![1, 1, 2, 256] inb4))),
         k0_pay5 (View.ld x2 (Rect.unit (k0_off4 i k) ![256, 128] inb2)) acc.1 acc.2.2 (k0_pay6 v2 v8 (View.ld x1 (Rect.unit (k0_off4 i k) ![256, 128] inb2)) (View.ld x3 (Rect.unit (k0_off5 i k) ![1, 1, 2, 256] inb4)))) := by
  refine ⟨?_, ?_, ?_⟩
  rotate_left 2
  · unfold tripR_k0_t1 trip_k0_t1
    dsimp only
    simp only [View.readAt_eq_ld, harg4.read_unread, harg5.read_unread, harg6.read_unread]
    rfl

end Cert.KernelIdeal.RefValue
end
-- ==== Proof.FoxBlock.lean ====
/- What one grid point of the forgetting attention leaves in its output block: for each of its rows and lanes, the sum of
   the values weighted over all the keys, divided by the sum of the weights. -/
module

public import proofs.«01_k».proof.Proof.FoxTiles

@[expose] public section

set_option maxRecDepth 16384

noncomputable section

namespace Cert.KernelIdeal.RefValue

open Cert.KernelIdeal Cert.KernelIdeal.Gen Idealize.ShloMosaic Idealize.ShloMosaic.TcCoe Idealize.SL.Sem

variable (c : Dev nD) (i : grid0.Coords) (arg3 : Memref sig .tc .vmem S256x256 .bf16) (harg3 : arg3.IsWhole)
    (arg4 : Memref sig .tc .vmem S2048x128 .bf16) (harg4 : arg4.IsWhole) (arg5 : Memref sig .tc .vmem S2048x128 .bf16)
    (harg5 : arg5.IsWhole) (arg6 : Memref sig .tc .vmem S1x1x2x2048 .f32) (harg6 : arg6.IsWhole)
    (arg7 : Memref sig .tc .vmem S256x128 .bf16) (harg7 : arg7.IsWhole)
    (x0 : Vec Ideal S256x256 .bf16) (x1 : Vec Ideal S2048x128 .bf16) (x2 : Vec Ideal S2048x128 .bf16)
    (x3 : Vec Ideal S1x1x2x2048 .f32)

/-- The queries of the block, the two heads stacked. -/
def queries : FVec Ideal S512x128 .bf16 :=
  k0_pay19 (View.ld x0 (Rect.unit ![0, 0] ![256, 128] inb_S256x256_S256x128_0_0))
    (View.ld x0 (Rect.unit ![0, 128] ![256, 128] inb_S256x256_S256x128_0_128))

/-- The block, from the running values after the loop; `b`, `K`, `V`, `C` are the loads of the diagonal tile. -/
theorem out_eq :
    ∃ (inb1 : ∀ a, k0_off1 i a + ![1, 1, 2, 128] a ≤ S1x1x2x2048.size a)
      (inb2 : ∀ a, k0_off2 i a + ![256, 128] a ≤ S2048x128.size a)
      (inb3 : ∀ a, k0_off3 i a + ![1, 1, 2, 256] a ≤ S1x1x2x2048.size a),
    let X := k0_pay24 (F := Ideal) (View.ld x0 (Rect.unit ![0, 0] ![256, 128] inb_S256x256_S256x128_0_0))
      (View.ld x0 (Rect.unit ![0, 128] ![256, 128] inb_S256x256_S256x128_0_128))
      (View.ld x3 (Rect.unit (k0_off1 i) ![1, 1, 2, 128] inb1)) (View.ld x1 (Rect.unit (k0_off2 i) ![256, 128] inb2))
      (View.ld x3 (Rect.unit (k0_off3 i) ![1, 1, 2, 256] inb3))
    let st := st_k0_t1 Variants.none c none i arg3 harg3 arg4 harg4 arg5 harg5 arg6 harg6 arg7 harg7 (queries x0)
      (k0_pay20 (View.ld x3 (Rect.unit (k0_off1 i) ![1, 1, 2, 128] inb1))) (harg4.unread x1) (harg5.unread x2) (harg6.unread x3)
      (k0_pay1 k0_pay21 X, k0_pay4 k0_pay21 k0_pay22 X,
        k0_pay5 (View.ld x2 (Rect.unit (k0_off2 i) ![256, 128] inb2)) k0_pay21 k0_pay23 X) (i 2).val
    out0_A_4 c i arg3 harg3 arg4 harg4 arg5 harg5 arg6 harg6 arg7 harg7 x0 x1 x2 x3 = k0_pay18 st.2.1 st.2.2 := by
  refine ⟨?_, ?_, ?_, ?_⟩
  rotate_left 3
  · intro X st
    unfold out0_A_4
    rw [View.read_writes_eq_canon _ _ _ (cover0_A_4 c i arg3 harg3 arg4 harg4 arg5 harg5 arg6 harg6 arg7 harg7 x0 x1 x2 x3)]
    unfold kernelRun0_A
    dsimp only
    rw [View.canon_unit_zero hz]
    have h1 := trips_t1 i
    have h2 := trips_t2 i
    unfold Scf.Loop.trips k0_t1_loop at h1
    unfold Scf.Loop.trips k0_t2_loop at h2
    dsimp only at h1 h2
    rw [h2, h1, st_k0_t2_zero]
    sl_unfold_words
    simp only [View.readAt_eq_ld, harg3.read_unread, harg4.read_unread, harg5.read_unread, harg6.read_unread]
    rfl

/-- The running values before trip `k`: the keys of the diagonal tile and of the tiles before `k` are seen. -/
theorem invariant (h : Fin 2) (r : Fin 256) (b : FVec Ideal S1x1x2x128 .f32)
    (hb : b (ix4 0 0 h 0) = x3 (ix4 0 0 h ⟨256 * (i 2).val, by have := (i 2).isLt; simp at this ⊢; omega⟩))
    (init : FVec Ideal S512x1 .f32 × FVec Ideal S512x1 .f32 × FVec Ideal S512x128 .f32)
    (h0 : Seen init.1 init.2.1 init.2.2 (row h r) (logit x0 x1 x3 (i 2) h r) (fun s d => x2 (ix2 s d)) (seen (i 2).val 0)) :
    ∀ k : Nat, k ≤ (i 2).val →
      let st := st_k0_t1 Variants.none c none i arg3 harg3 arg4 harg4 arg5 harg5 arg6 harg6 arg7 harg7 (queries x0)
        (k0_pay20 b) (harg4.unread x1) (harg5.unread x2) (harg6.unread x3) init k
      Seen st.1 st.2.1 st.2.2 (row h r) (logit x0 x1 x3 (i 2) h r) (fun s d => x2 (ix2 s d)) (seen (i 2).val k) := by
  have hi : (i 2).val < 8 := (i 2).isLt
  intro k
  induction k with
  | zero => intro _; exact h0
  | succ k ih =>
    intro hk
    have hkt : k < (k0_t1_loop i).trips := lt_of_lt_of_eq hk (trips_t1 i).symm
    have ih' := ih (by omega)
    dsimp only at ih' ⊢
    rw [st_k0_t1_succ _ _ _ _ _ _ _ _ _ _ _ _ _ _ _ _ _ _ _ _ (⟨k, hkt⟩ : Fin (k0_t1_loop i).trips)]
    obtain ⟨inb2, inb4, he⟩ := trip_eq c i arg3 harg3 arg4 harg4 arg5 harg5 arg6 harg6 arg7 harg7 (queries x0) (k0_pay20 b) x1 x2 x3
      ⟨k, hkt⟩ (st_k0_t1 Variants.none c none i arg3 harg3 arg4 harg4 arg5 harg5 arg6 harg6 arg7 harg7 (queries x0)
        (k0_pay20 b) (harg4.unread x1) (harg5.unread x2) (harg6.unread x3) init k)
    rw [he, ← seen_succ (i 2).val ⟨k, by omega⟩]
    refine seen_step ih' (tile ⟨k, by omega⟩) (seen_disjoint (i 2).val ⟨k, by omega⟩ hk) _ _ (fun j => ?_) (fun j d => ?_)
    · rw [pay6_apply, pay20_apply, hb, tile4 x3 _ _ ⟨k, by omega⟩ (off5_eq i ⟨k, hkt⟩)]
      unfold logit
      have hv : (tile ⟨k, by omega⟩ j).val = 256 * k + j.val := rfl
      rw [if_pos (by rw [hv]; omega)]
      congr 1
      refine Finset.sum_congr rfl fun d _ => ?_
      rw [tile2 x1 _ _ ⟨k, by omega⟩ (off4_eq i ⟨k, hkt⟩)]
      congr 1
      exact query_apply x0 _ _ h r d
    · exact tile2 x2 _ _ ⟨k, by omega⟩ (off4_eq i ⟨k, hkt⟩) j d

/-- The output block, element by element. -/
theorem out_apply (h : Fin 2) (r : Fin 256) (d : Fin 64) :
    out0_A_4 c i arg3 harg3 arg4 harg4 arg5 harg5 arg6 harg6 arg7 harg7 x0 x1 x2 x3 (ix2 r ⟨64 * h.val + d.val, by omega⟩)
      = Soft.A (logit x0 x1 x3 (i 2) h r) (fun s => x2 (ix2 s ⟨64 * h.val + d.val, by omega⟩)) Finset.univ
        * Ideal.div 1 (Soft.L (logit x0 x1 x3 (i 2) h r) Finset.univ) := by
  have hi : (i 2).val < 8 := (i 2).isLt
  obtain ⟨inb1, inb2, inb3, he⟩ := out_eq c i arg3 harg3 arg4 harg4 arg5 harg5 arg6 harg6 arg7 harg7 x0 x1 x2 x3
  generalize hX : k0_pay24 (F := Ideal) (View.ld x0 (Rect.unit ![0, 0] ![256, 128] inb_S256x256_S256x128_0_0))
    (View.ld x0 (Rect.unit ![0, 128] ![256, 128] inb_S256x256_S256x128_0_128))
    (View.ld x3 (Rect.unit (k0_off1 i) ![1, 1, 2, 128] inb1)) (View.ld x1 (Rect.unit (k0_off2 i) ![256, 128] inb2))
    (View.ld x3 (Rect.unit (k0_off3 i) ![1, 1, 2, 256] inb3)) = X at he
  dsimp only at he
  rw [he, pay18_apply]
  have hb := base4 x3 (k0_off1 i) inb1 (i 2) (off1_eq i) h
  have hs := invariant c i arg3 harg3 arg4 harg4 arg5 harg5 arg6 harg6 arg7 harg7 x0 x1 x2 x3 h r _ hb
    (k0_pay1 k0_pay21 X, k0_pay4 k0_pay21 k0_pay22 X,
      k0_pay5 (View.ld x2 (Rect.unit (k0_off2 i) ![256, 128] inb2)) k0_pay21 k0_pay23 X) (by
      rw [← seen_zero (i 2)]
      refine seen_step (seen_empty (row h r) _ _) (tile (i 2)) (Finset.disjoint_empty_left _)
        X
        (View.ld x2 (Rect.unit (k0_off2 i) ![256, 128] inb2)) (fun j => ?_) (fun j d => ?_)
      · rw [← hX, pay24_apply, hb, tile4 x3 _ _ (i 2) (off3_eq i)]
        unfold logit
        have hv : (tile (i 2) j).val = 256 * (i 2).val + j.val := rfl
        by_cases hj : j.val ≤ r.val
        · rw [if_pos hj, if_pos (by rw [hv]; omega)]
          congr 1
          refine Finset.sum_congr rfl fun d _ => ?_
          rw [tile2 x1 _ _ (i 2) (off2_eq i), query_apply]
        · rw [if_neg hj, if_neg (by rw [hv]; omega), EReal.add_bot]
      · exact tile2 x2 _ _ (i 2) (off2_eq i) j d) (i 2).val le_rfl
  dsimp only at hs
  have hlate : ∀ s, s ∉ seen (i 2).val (i 2).val → logit x0 x1 x3 (i 2) h r s = ⊥ := by
    intro s hs
    simp only [seen, Finset.mem_filter, Finset.mem_univ, true_and] at hs
    unfold logit
    exact if_neg (by omega)
  rw [hs.acc, hs.sum, Soft.A_univ _ _ _ hlate, Soft.L_univ _ _ hlate]

end Cert.KernelIdeal.RefValue
end
-- ==== Proof.FoxArray.lean ====
/- The forgetting attention's result array: every element is the sum of a head's values weighted over the keys of its
   sequence, divided by the sum of the weights, over the queries, keys, values and running sums as launched. -/
module

public import proofs.«01_k».proof.Proof.FoxBlock
public import Idealize.ShloMosaic.Lib.StableHlo.Run

@[expose] public section

set_option maxRecDepth 16384

noncomputable section

namespace Cert.KernelIdeal.RefValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The running sums with the heads in pairs. -/
theorem pairs_apply {α : Type} (g : S16x8x2048.Idx → α) (b : Fin 16) (p : Fin 4) (h : Fin 2) (s : Fin 2048) :
    shapeCast S16x4x2x2048 g shapeCasts_S16x8x2048_S16x4x2x2048 (ix4 b p h s) = g (ix3 b ⟨2 * p.val + h.val, by omega⟩ s) := by
  pointwise
  exact congrArg (fun n => g (ix3 b n s)) (Fin.ext (by dsimp only; omega))

theorem V_sums (c : Dev nD) (b : Fin 16) (p : Fin 4) (h : Fin 2) (s : Fin 2048) :
    V m c main_v0 (ix4 b p h s) = m ((c : Thread nD τ).loc main_arg3) (ix3 b ⟨2 * p.val + h.val, by omega⟩ s) := by
  have e : V m c main_v0 = shapeCast S16x4x2x2048 (m ((c : Thread nD τ).loc main_arg3)) shapeCasts_S16x8x2048_S16x4x2x2048 := by
    show StableHlo.after hostOps0 _ (Proc.devRef .tc main_v0) = _
    after_results
    rfl
  exact (congrFun e _).trans (pairs_apply _ b p h s)

/-! ## The blocks of a grid point -/

theorem coords_2 : ∀ t : Fin cfg0.N, (grid0.coords t 2).val = t.val % 8 :=
  (by decide +kernel : ∀ t : Fin grid0.N, (grid0.coords t 2).val = t.val % 8)

theorem index_q : ∀ t : Fin cfg0.N, win0_0.index t 0 = 8 * (t.val / 32) + t.val % 8 ∧ win0_0.index t 1 = t.val / 8 % 4 :=
  (by decide +kernel : ∀ t : Fin grid0.N, win0_0.index t 0 = 8 * (t.val / 32) + t.val % 8 ∧ win0_0.index t 1 = t.val / 8 % 4)

theorem index_k : ∀ t : Fin cfg0.N, win0_1.index t 0 = t.val / 32 ∧ win0_1.index t 1 = t.val / 8 % 4 :=
  (by decide +kernel : ∀ t : Fin grid0.N, win0_1.index t 0 = t.val / 32 ∧ win0_1.index t 1 = t.val / 8 % 4)

theorem index_v : ∀ t : Fin cfg0.N, win0_2.index t 0 = t.val / 32 ∧ win0_2.index t 1 = t.val / 8 % 4 :=
  (by decide +kernel : ∀ t : Fin grid0.N, win0_2.index t 0 = t.val / 32 ∧ win0_2.index t 1 = t.val / 8 % 4)

theorem index_c : ∀ t : Fin cfg0.N, (win0_3.index t 0 = t.val / 32 ∧ win0_3.index t 1 = t.val / 8 % 4) ∧ win0_3.index t 2 = 0 ∧ win0_3.index t 3 = 0 :=
  (by decide +kernel : ∀ t : Fin grid0.N, (win0_3.index t 0 = t.val / 32 ∧ win0_3.index t 1 = t.val / 8 % 4) ∧ win0_3.index t 2 = 0 ∧ win0_3.index t 3 = 0)

theorem index_o : ∀ t : Fin cfg0.N, win0_4.index t 0 = 8 * (t.val / 32) + t.val % 8 ∧ win0_4.index t 1 = t.val / 8 % 4 :=
  (by decide +kernel : ∀ t : Fin grid0.N, win0_4.index t 0 = 8 * (t.val / 32) + t.val % 8 ∧ win0_4.index t 1 = t.val / 8 % 4)

/-- Two points' output blocks are different blocks. -/
theorem index_inj (t t' : Fin cfg0.N) (h : win0_4.index t = win0_4.index t') : t = t' := by
  have h0 := congrFun h 0
  have h1 := congrFun h 1
  rw [(index_o t).1, (index_o t').1] at h0
  rw [(index_o t).2, (index_o t').2] at h1
  exact Fin.ext (by omega)

/-- Block `t` of the result array is what point `t` wrote. -/
theorem block_o (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 (fun t t' _ _ hne => (cfg0.win 4).disjoint_blk fun h => hne (index_inj t t' h))
    cfg0.N t t.isLt (flush0_4 t)

theorem blk_q (c : Dev nD) (t : Fin cfg0.N) (r k : Fin 256) :
    iblk m c 0 t (ix2 r k) = m ((c : Thread nD τ).loc main_arg0)
      (ix2 ⟨2048 * (t.val / 32) + 256 * (t.val % 8) + r.val, by have := t.isLt; have : cfg0.N = 512 := N_0; omega⟩
        ⟨256 * (t.val / 8 % 4) + k.val, by omega⟩) := by
  refine Eq.trans ?_ (congrFun (V_main_arg0 m c) _)
  show V m c main_arg0 ((win0_0.blk t).view.emb (ix2 r k)) = _
  refine congrArg _ (Shape.idx_ext₂ ?_ ?_)
  · show win0_0.index t 0 * 256 + 1 * r.val = 2048 * (t.val / 32) + 256 * (t.val % 8) + r.val
    rw [(index_q t).1]
    omega
  · show win0_0.index t 1 * 256 + 1 * k.val = 256 * (t.val / 8 % 4) + k.val
    rw [(index_q t).2]
    omega

theorem blk_k (c : Dev nD) (t : Fin cfg0.N) (s : Fin 2048) (k : Fin 128) :
    iblk m c 1 t (ix2 s k) = m ((c : Thread nD τ).loc main_arg1)
      (ix2 ⟨2048 * (t.val / 32) + s.val, by have := t.isLt; have : cfg0.N = 512 := N_0; omega⟩ ⟨128 * (t.val / 8 % 4) + k.val, by omega⟩) := by
  refine Eq.trans ?_ (congrFun (V_main_arg1 m c) _)
  show V m c main_arg1 ((win0_1.blk t).view.emb (ix2 s k)) = _
  refine congrArg _ (Shape.idx_ext₂ ?_ ?_)
  · show win0_1.index t 0 * 2048 + 1 * s.val = 2048 * (t.val / 32) + s.val
    rw [(index_k t).1]
    omega
  · show win0_1.index t 1 * 128 + 1 * k.val = 128 * (t.val / 8 % 4) + k.val
    rw [(index_k t).2]
    omega

theorem blk_v (c : Dev nD) (t : Fin cfg0.N) (s : Fin 2048) (k : Fin 128) :
    iblk m c 2 t (ix2 s k) = m ((c : Thread nD τ).loc main_arg2)
      (ix2 ⟨2048 * (t.val / 32) + s.val, by have := t.isLt; have : cfg0.N = 512 := N_0; omega⟩ ⟨128 * (t.val / 8 % 4) + k.val, by omega⟩) := by
  refine Eq.trans ?_ (congrFun (V_main_arg2 m c) _)
  show V m c main_arg2 ((win0_2.blk t).view.emb (ix2 s k)) = _
  refine congrArg _ (Shape.idx_ext₂ ?_ ?_)
  · show win0_2.index t 0 * 2048 + 1 * s.val = 2048 * (t.val / 32) + s.val
    rw [(index_v t).1]
    omega
  · show win0_2.index t 1 * 128 + 1 * k.val = 128 * (t.val / 8 % 4) + k.val
    rw [(index_v t).2]
    omega

theorem blk_c (c : Dev nD) (t : Fin cfg0.N) (h : Fin 2) (s : Fin 2048) :
    iblk m c 3 t (ix4 0 0 h s) = m ((c : Thread nD τ).loc main_arg3)
      (ix3 ⟨t.val / 32, by have := t.isLt; have : cfg0.N = 512 := N_0; omega⟩ ⟨2 * (t.val / 8 % 4) + h.val, by omega⟩ s) := by
  have hN : cfg0.N = 512 := N_0
  have ht := t.isLt
  refine Eq.trans ?_ (V_sums m c ⟨t.val / 32, by omega⟩ ⟨t.val / 8 % 4, by omega⟩ h s)
  show V m c main_v0 ((win0_3.blk t).view.emb (ix4 0 0 h s)) = _
  refine congrArg _ (funext fun a => Fin.ext ?_)
  fin_cases a
  · show win0_3.index t 0 * 1 + 1 * 0 = t.val / 32
    rw [(index_c t).1.1]
    omega
  · show win0_3.index t 1 * 1 + 1 * 0 = t.val / 8 % 4
    rw [(index_c t).1.2]
    omega
  · show win0_3.index t 2 * 2 + 1 * h.val = h.val
    rw [(index_c t).2.1]
    omega
  · show win0_3.index t 3 * 2048 + 1 * s.val = s.val
    rw [(index_c t).2.2]
    omega

/-! ## The result array -/

/-- The logit of key `s` for position `n` of head `e` in sequence `b`, from the arrays of queries `q`, keys `k` and running
sums `c`: the product of the query and the key, plus the running sum at the first position of the query's tile less the
key's; no logit for a later key. -/
def keyLogit (q : FVec Ideal S32768x1024 .bf16) (k : FVec Ideal S32768x512 .bf16) (c : FVec Ideal S16x8x2048 .f32) (b : Fin 16)
    (e : Fin 8) (n s : Fin 2048) : EReal :=
  if s.val ≤ n.val then
    (∑ d : Fin 128, q (ix2 ⟨2048 * b.val + n.val, by omega⟩ ⟨128 * e.val + d.val, by omega⟩)
        * k (ix2 ⟨2048 * b.val + s.val, by omega⟩ ⟨128 * (e.val / 2) + d.val, by omega⟩))
      + (c (ix3 b e ⟨256 * (n.val / 256), by omega⟩) - c (ix3 b e s))
  else ⊥

/-- Every element of the result array. -/
theorem array_apply (c : Dev nD) (b : Fin 16) (n : Fin 2048) (e : Fin 8) (d : Fin 64) :
    (dats m 0 c).arrAt 4 cfg0.N (ix2 ⟨2048 * b.val + n.val, by omega⟩ ⟨64 * e.val + d.val, by omega⟩)
      = Soft.A (keyLogit (m ((c : Thread nD τ).loc main_arg0)) (m ((c : Thread nD τ).loc main_arg1)) (m ((c : Thread nD τ).loc main_arg3)) b e n)
          (fun s => m ((c : Thread nD τ).loc main_arg2) (ix2 ⟨2048 * b.val + s.val, by omega⟩ ⟨64 * e.val + d.val, by omega⟩)) Finset.univ
        * Ideal.div 1 (Soft.L (keyLogit (m ((c : Thread nD τ).loc main_arg0)) (m ((c : Thread nD τ).loc main_arg1))
            (m ((c : Thread nD τ).loc main_arg3)) b e n) Finset.univ) := by
  have hN : cfg0.N = 512 := N_0
  have hb := b.isLt
  have hn := n.isLt
  have he := e.isLt
  let t : Fin cfg0.N := ⟨32 * b.val + 8 * (e.val / 2) + n.val / 256, by omega⟩
  let r : Fin 256 := ⟨n.val % 256, by omega⟩
  let h : Fin 2 := ⟨e.val % 2, by omega⟩
  have t0 : t.val / 32 = b.val := by dsimp only [t]; omega
  have t1 : t.val / 8 % 4 = e.val / 2 := by dsimp only [t]; omega
  have t2 : t.val % 8 = n.val / 256 := by dsimp only [t]; omega
  have hblk := congrFun (block_o m c t) (ix2 r ⟨64 * h.val + d.val, by omega⟩)
  have hidx : (win0_4.blk t).view.emb (ix2 r ⟨64 * h.val + d.val, by omega⟩)
      = ix2 ⟨2048 * b.val + n.val, by omega⟩ ⟨64 * e.val + d.val, by omega⟩ := by
    refine Shape.idx_ext₂ ?_ ?_
    · show win0_4.index t 0 * 256 + 1 * (n.val % 256) = 2048 * b.val + n.val
      rw [(index_o t).1, t0, t2]
      omega
    · show win0_4.index t 1 * 128 + 1 * (64 * (e.val % 2) + d.val) = 64 * e.val + d.val
      rw [(index_o t).2, t1]
      omega
  have hread : (dats m 0 c).arrAt 4 cfg0.N ((win0_4.blk t).view.emb (ix2 r ⟨64 * h.val + d.val, by omega⟩))
      = out0_A_4 c (grid0.coords t) (ms0_0 t) (hs0_0 t) (ms0_1 t) (hs0_1 t) (ms0_2 t) (hs0_2 t) (ms0_3 t) (hs0_3 t) (ms0_4 t) (hs0_4 t)
          (iblk m c 0 t) (iblk m c 1 t) (iblk m c 2 t) (iblk m c 3 t) (ix2 r ⟨64 * h.val + d.val, by omega⟩) := by
    rw [Value.flushed4_A] at hblk
    exact hblk
  rw [hidx] at hread
  have hlog : ∀ s, logit (iblk m c 0 t) (iblk m c 1 t) (iblk m c 3 t) (grid0.coords t 2) h r s
      = keyLogit (m ((c : Thread nD τ).loc main_arg0)) (m ((c : Thread nD τ).loc main_arg1)) (m ((c : Thread nD τ).loc main_arg3)) b e n s := by
    intro s
    have h2 : (grid0.coords t 2).val = n.val / 256 := (coords_2 t).trans t2
    unfold logit keyLogit
    have hc : 256 * (grid0.coords t 2).val + r.val = n.val := by
      rw [h2]
      dsimp only [r]
      omega
    have hh : 2 * (t.val / 8 % 4) + h.val = e.val := by
      rw [t1]
      dsimp only [h]
      omega
    rw [hc]
    refine if_congr Iff.rfl (congrArg₂ (· + ·) (Finset.sum_congr rfl fun d _ => congrArg₂ (· * ·) ?_ ?_) (congrArg₂ (· - ·) ?_ ?_)) rfl
    · rw [blk_q]
      refine congrArg _ (Shape.idx_ext₂ ?_ ?_)
      · show 2048 * (t.val / 32) + 256 * (t.val % 8) + n.val % 256 = 2048 * b.val + n.val
        omega
      · show 256 * (t.val / 8 % 4) + (128 * (e.val % 2) + d.val) = 128 * e.val + d.val
        omega
    · rw [blk_k]
      refine congrArg _ (Shape.idx_ext₂ ?_ ?_)
      · show 2048 * (t.val / 32) + s.val = 2048 * b.val + s.val
        omega
      · show 128 * (t.val / 8 % 4) + d.val = 128 * (e.val / 2) + d.val
        omega
    · rw [blk_c]
      exact congrArg _ (congr (congr (congrArg ix3 (Fin.ext t0)) (Fin.ext hh)) (Fin.ext (by dsimp only; omega)))
    · rw [blk_c]
      exact congrArg _ (congr (congr (congrArg ix3 (Fin.ext t0)) (Fin.ext hh)) rfl)
  have hval : ∀ s, iblk m c 2 t (ix2 s ⟨64 * h.val + d.val, by omega⟩)
      = m ((c : Thread nD τ).loc main_arg2) (ix2 ⟨2048 * b.val + s.val, by omega⟩ ⟨64 * e.val + d.val, by omega⟩) := by
    intro s
    rw [blk_v]
    refine congrArg _ (Shape.idx_ext₂ ?_ ?_)
    · show 2048 * (t.val / 32) + s.val = 2048 * b.val + s.val
      omega
    · show 128 * (t.val / 8 % 4) + (64 * (e.val % 2) + d.val) = 64 * e.val + d.val
      omega
  rw [hread, out_apply, funext hlog, funext hval]

end Cert.KernelIdeal.RefValue

end
-- ==== Proof.FoxReference.lean ====
/- The plain forgetting attention, read at an index: the softmax over the keys not later than the query, of the logits, each
   the product of the query and the key plus the difference of their running sums; and the values summed with its weights. -/
module

public import proofs.«01_k».proof.Proof.Softmax
public import proofs.«01_k».proof.Proof.Gen.ReferenceIdeal
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

/-- The queries of every pair's first head: the first 64 of its 128 lanes. -/
def first (q : FVec Ideal S32768x1024 .bf16) : FVec Ideal S16x2048x4x64 .f32 :=
  shapeCast _ (extractStridedSlice S16x2048x4x1x1x64 ![0, 0, 0, 0, 0, 0] (shapeCast _ (extf (F := Ideal) .f32 q bitsLt_bf16_f32) shapeCasts_S32768x1024_S16x2048x4x2x2x64) slices_S16x2048x4x2x2x64_S16x2048x4x1x1x64_0_0_0_0_0_0) shapeCasts_S16x2048x4x1x1x64_S16x2048x4x64

/-- The queries of every pair's second head: the last 64 of its 128 lanes. -/
def second (q : FVec Ideal S32768x1024 .bf16) : FVec Ideal S16x2048x4x64 .f32 :=
  shapeCast _ (extractStridedSlice S16x2048x4x1x1x64 ![0, 0, 0, 1, 1, 0] (shapeCast _ (extf (F := Ideal) .f32 q bitsLt_bf16_f32) shapeCasts_S32768x1024_S16x2048x4x2x2x64) slices_S16x2048x4x2x2x64_S16x2048x4x1x1x64_0_0_0_1_1_0) shapeCasts_S16x2048x4x1x1x64_S16x2048x4x64

/-- The pairs' two heads in one array. -/
def joined (x y : FVec Ideal S16x2048x4x64 .f32) : FVec Ideal S16x2048x4x2x64 .f32 :=
  concatenate S16x2048x4x2x64 3 [⟨S16x2048x4x1x64, (broadcastInDim S16x2048x4x1x64 ![0, 1, 2, 4] bcast_S16x2048x4x64_S16x2048x4x1x64_0_1_2_4 x)⟩, ⟨S16x2048x4x1x64, (broadcastInDim S16x2048x4x1x64 ![0, 1, 2, 4] bcast_S16x2048x4x64_S16x2048x4x1x64_0_1_2_4 y)⟩] concatenates_S16x2048x4x1x64_S16x2048x4x1x64_S16x2048x4x2x64_d3

/-- The pairs apart, the heads before the positions. -/
def apart (x : FVec Ideal S16x2048x4x2x64 .f32) : FVec Ideal S16x8x2048x64 .f32 :=
  transpose S16x8x2048x64 [0, 2, 1, 3] (shapeCast _ x shapeCasts_S16x2048x4x2x64_S16x2048x8x64) transposes_S16x2048x8x64_S16x8x2048x64_0_2_1_3

/-- The queries by sequence and head: of each head's 128 lanes, the 64 that hold its query. -/
def heads (q : FVec Ideal S32768x1024 .bf16) : FVec Ideal S16x8x2048x64 .f32 := apart (joined (first q) (second q))

/-- Keys or values by sequence and head. -/
def spread (k : FVec Ideal S32768x512 .bf16) : FVec Ideal S16x8x2048x64 .f32 :=
  transpose S16x8x2048x64 [0, 2, 1, 3] (shapeCast _ (extf (F := Ideal) .f32 k bitsLt_bf16_f32) shapeCasts_S32768x512_S16x2048x8x64) transposes_S16x2048x8x64_S16x8x2048x64_0_2_1_3

/-- The causal mask: the key is not later than the query. -/
def causal : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The masked logits. -/
def logits (q k : FVec Ideal S16x8x2048x64 .f32) (c : FVec Ideal S16x8x2048 .f32) : FVec Ideal S16x8x2048x2048 .f32 :=
  select (broadcastInDim S16x8x2048x2048 ![2, 3] bcast_S2048x2048_S16x8x2048x2048_2_3 causal) (subf (addf (Host.dotGeneral (F := Ideal) dot_S16x8x2048x64_S16x8x2048x64_S16x8x2048x2048_3_3_2_2_01_01 none q k) (broadcastInDim S16x8x2048x2048 ![0, 1, 2, 3] bcast_S16x8x2048x1_S16x8x2048x2048_0_1_2_3 (broadcastInDim S16x8x2048x1 ![0, 1, 2] bcast_S16x8x2048_S16x8x2048x1_0_1_2 c))) (broadcastInDim S16x8x2048x2048 ![0, 1, 2, 3] bcast_S16x8x1x2048_S16x8x2048x2048_0_1_2_3 (broadcastInDim S16x8x1x2048 ![0, 1, 3] bcast_S16x8x2048_S16x8x1x2048_0_1_3 c))) (broadcastInDim S16x8x2048x2048 ![] bcast_S_S16x8x2048x2048 (id (constant (F := Ideal) S_ .f32 0xFF800000#32)))

/-- The largest logit of every row. -/
def rowMax (l : FVec Ideal S16x8x2048x2048 .f32) : FVec Ideal S16x8x2048 .f32 :=
  Host.reduce FloatOps.maximumf l (constant (F := Ideal) S_ .f32 0xFF800000#32) reducesTo_S16x8x2048x2048_S16x8x2048_d3 h_S_

/-- The exponentials of the logits less an array of rows' maxima. -/
def less (l : FVec Ideal S16x8x2048x2048 .f32) (x : FVec Ideal S16x8x2048 .f32) : FVec Ideal S16x8x2048x2048 .f32 :=
  Host.exp (F := Ideal) (subf l (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant (F := Ideal) S_ .f32 0xFF800000#32)) x))))

/-- The exponentials of the logits less each row's largest. -/
def weights (l : FVec Ideal S16x8x2048x2048 .f32) : FVec Ideal S16x8x2048x2048 .f32 := less l (rowMax l)

/-- The attention, from the weights and the values. -/
def attend (w : FVec Ideal S16x8x2048x2048 .f32) (v : FVec Ideal S16x8x2048x64 .f32) : FVec Ideal S32768x512 .bf16 :=
  truncf (F := Ideal) .bf16 (shapeCast _ (transpose S16x2048x8x64 [0, 2, 1, 3] (Host.dotGeneral (F := Ideal) dot_S16x8x2048x2048_S16x8x2048x64_S16x8x2048x64_3_2_2_3_01_01 none (select (broadcastInDim S16x8x2048x2048 ![2, 3] bcast_S2048x2048_S16x8x2048x2048_2_3 causal) (Host.divf w (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd w (constant (F := Ideal) S_ .f32 0x00000000#32) reducesTo_S16x8x2048x2048_S16x8x2048_d3 h_S_)))) (broadcastInDim S16x8x2048x2048 ![] bcast_S_S16x8x2048x2048 (id (constant (F := Ideal) S_ .f32 0x00000000#32)))) v) transposes_S16x8x2048x64_S16x2048x8x64_0_2_1_3) shapeCasts_S16x2048x8x64_S32768x512) bitsLt_bf16_f32

theorem res_eq (m : (ℓ : Loc nD τ sig) → Buf (Elt Ideal) ℓ) (c : Dev nD) :
    Value.res_main_v46 m c = attend (weights (logits (heads (m ((c : Thread nD τ).loc main_arg0))) (spread (m ((c : Thread nD τ).loc main_arg1)))
      (m ((c : Thread nD τ).loc main_arg3)))) (spread (m ((c : Thread nD τ).loc main_arg2))) := rfl

theorem first_apply (q : FVec Ideal S32768x1024 .bf16) (b : Fin 16) (n : Fin 2048) (p : Fin 4) (d : Fin 64) :
    first q (ix4 b n p d) = q (ix2 ⟨2048 * b.val + n.val, by omega⟩ ⟨256 * p.val + d.val, by omega⟩) := by
  pointwise [first]
  refine congrArg q (Shape.idx_ext₂ ?_ ?_)
  · show b.val * 2048 + n.val = 2048 * b.val + n.val
    omega
  · show p.val * 256 + d.val = 256 * p.val + d.val
    omega

theorem second_apply (q : FVec Ideal S32768x1024 .bf16) (b : Fin 16) (n : Fin 2048) (p : Fin 4) (d : Fin 64) :
    second q (ix4 b n p d) = q (ix2 ⟨2048 * b.val + n.val, by omega⟩ ⟨256 * p.val + 192 + d.val, by omega⟩) := by
  pointwise [second]
  refine congrArg q (Shape.idx_ext₂ ?_ ?_)
  · show b.val * 2048 + n.val = 2048 * b.val + n.val
    omega
  · show p.val * 256 + 128 + 64 + d.val = 256 * p.val + 192 + d.val
    omega

theorem joined_apply (x y : FVec Ideal S16x2048x4x64 .f32) (b : Fin 16) (n : Fin 2048) (p : Fin 4) (d : Fin 64) :
    joined x y (ix5 b n p 0 d) = x (ix4 b n p d) ∧ joined x y (ix5 b n p 1 d) = y (ix4 b n p d) := by
  constructor
  · pointwise [joined]
  · pointwise [joined]

theorem apart_apply (x : FVec Ideal S16x2048x4x2x64 .f32) (b : Fin 16) (e : Fin 8) (n : Fin 2048) (d : Fin 64) :
    apart x (ix4 b e n d) = x (ix5 b n ⟨e.val / 2, by omega⟩ ⟨e.val % 2, by omega⟩ d) := by
  pointwise [apart]

theorem heads_apply (q : FVec Ideal S32768x1024 .bf16) (b : Fin 16) (e : Fin 8) (n : Fin 2048) (d : Fin 64) :
    heads q (ix4 b e n d) = q (ix2 ⟨2048 * b.val + n.val, by omega⟩ ⟨128 * e.val + 64 * (e.val % 2) + d.val, by omega⟩) := by
  refine (apart_apply _ b e n d).trans ?_
  rcases Nat.mod_two_eq_zero_or_one e.val with h | h
  · rw [show (⟨e.val % 2, by omega⟩ : Fin 2) = 0 from Fin.ext h, (joined_apply _ _ b n ⟨e.val / 2, by omega⟩ d).1, first_apply]
    refine congrArg q (Shape.idx_ext₂ rfl ?_)
    show 256 * (e.val / 2) + d.val = 128 * e.val + 64 * (e.val % 2) + d.val
    omega
  · rw [show (⟨e.val % 2, by omega⟩ : Fin 2) = 1 from Fin.ext h, (joined_apply _ _ b n ⟨e.val / 2, by omega⟩ d).2, second_apply]
    refine congrArg q (Shape.idx_ext₂ rfl ?_)
    show 256 * (e.val / 2) + 192 + d.val = 128 * e.val + 64 * (e.val % 2) + d.val
    omega

theorem spread_apply (k : FVec Ideal S32768x512 .bf16) (b : Fin 16) (e : Fin 8) (s : Fin 2048) (d : Fin 64) :
    spread k (ix4 b e s d) = k (ix2 ⟨2048 * b.val + s.val, by omega⟩ ⟨64 * e.val + d.val, by omega⟩) := by
  pointwise [spread]
  refine congrArg k (Shape.idx_ext₂ ?_ ?_)
  · show b.val * 2048 + s.val = 2048 * b.val + s.val
    omega
  · show e.val * 64 + d.val = 64 * e.val + d.val
    omega

/-- The value the maximum starts from is the least one. -/
theorem neg_inf : Ideal.ofBits FTy.f32 4286578688#32 = ⊥ := by
  simp [Ideal.ofBits, Ideal.ieee]

theorem id_neg_inf : id (constant (F := Ideal) S_ .f32 0xFF800000#32) ix0 = ⊥ := neg_inf

theorem id_zero : id (constant (F := Ideal) S_ .f32 0x00000000#32) ix0 = 0 := Ideal.ofBits_zero_f32

/-- The mask chooses by the order of the positions. -/
theorem select_causal (n s : Fin 2048) (a b : EReal) : Scalar.select (if s.val ≤ n.val then 1#1 else 0#1) a b = if s.val ≤ n.val then a else b := by
  by_cases h : s.val ≤ n.val <;> simp [h, Scalar.select]

theorem causal_apply (n s : Fin 2048) : causal (ix2 n s) = if s.val ≤ n.val then 1#1 else 0#1 := by
  pointwise [causal]
  have hs : (BitVec.ofNat 32 s.val).toNat = s.val := by simp; omega
  have hn : (BitVec.ofNat 32 n.val).toNat = n.val := by simp; omega
  rw [Idealize.ShloMosaic.WordCmp.cmpi_sle_of_lt (by rw [hs]; omega) (by rw [hn]; omega), hs, hn]
  by_cases h : s.val ≤ n.val <;> simp [h]

theorem logits_apply (q k : FVec Ideal S16x8x2048x64 .f32) (c : FVec Ideal S16x8x2048 .f32) (b : Fin 16) (e : Fin 8) (n s : Fin 2048) :
    logits q k c (ix4 b e n s)
      = if s.val ≤ n.val then (∑ d, q (ix4 b e n d) * k (ix4 b e s d)) + c (ix3 b e n) - c (ix3 b e s) else ⊥ := by
  pointwise [logits]
  rw [causal_apply, select_causal, id_neg_inf]

theorem drops : S16x8x2048x2048.Reduces [3] S16x8x2048 := by decide

theorem rowMax_apply (l : FVec Ideal S16x8x2048x2048 .f32) (b : Fin 16) (e : Fin 8) (n : Fin 2048) :
    rowMax l (ix3 b e n) = Finset.univ.sup fun s => l (ix4 b e n s) := by
  refine (Host.reduce_eq_fold_single (max : EReal → EReal → EReal) l _ _ drops _ (ix3 b e n)).trans ?_
  have hl : ∀ s : Fin 2048, drops.lift (ix3 b e n) s = ix4 b e n s := by
    intro s
    funext a
    fin_cases a <;> rfl
  have h0 : constant (F := Ideal) S_ .f32 0xFF800000#32 (Shape.Idx.first h_S_) = ⊥ := neg_inf
  rw [h0]
  exact Finset.fold_congr fun s _ => congrArg l (hl s)

theorem less_apply (l : FVec Ideal S16x8x2048x2048 .f32) (x : FVec Ideal S16x8x2048 .f32) (b : Fin 16) (e : Fin 8) (n s : Fin 2048) :
    less l x (ix4 b e n s) = Soft.wt (l (ix4 b e n s)) (x (ix3 b e n)) := by
  unfold Soft.wt
  pointwise [less]
  rw [neg_inf, max_eq_right bot_le]

theorem weights_apply (l : FVec Ideal S16x8x2048x2048 .f32) (b : Fin 16) (e : Fin 8) (n s : Fin 2048) :
    weights l (ix4 b e n s) = Soft.wt (l (ix4 b e n s)) (Finset.univ.sup fun s => l (ix4 b e n s)) := by
  rw [weights, less_apply, rowMax_apply]

theorem attend_apply (w : FVec Ideal S16x8x2048x2048 .f32) (v : FVec Ideal S16x8x2048x64 .f32) (b : Fin 16) (e : Fin 8) (n : Fin 2048)
    (d : Fin 64) : attend w v (ix2 ⟨2048 * b.val + n.val, by omega⟩ ⟨64 * e.val + d.val, by omega⟩)
      = ∑ s : Fin 2048, (if s.val ≤ n.val then Ideal.div (w (ix4 b e n s)) (∑ s, w (ix4 b e n s)) else 0) * v (ix4 b e s d) := by
  pointwise [attend]
  refine Finset.sum_congr rfl fun s _ => ?_
  rw [causal_apply, select_causal, id_zero]

/-- The logit of query `n` for key `s` in head `e` of sequence `b`: the inner product and the decay, or −∞ of a later key. -/
def logit (q : FVec Ideal S32768x1024 .bf16) (k : FVec Ideal S32768x512 .bf16) (c : FVec Ideal S16x8x2048 .f32) (b : Fin 16) (e : Fin 8)
    (n s : Fin 2048) : EReal :=
  if s.val ≤ n.val then
    (∑ d : Fin 64, q (ix2 ⟨2048 * b.val + n.val, by omega⟩ ⟨128 * e.val + 64 * (e.val % 2) + d.val, by omega⟩)
        * k (ix2 ⟨2048 * b.val + s.val, by omega⟩ ⟨64 * e.val + d.val, by omega⟩))
      + c (ix3 b e n) - c (ix3 b e s)
  else ⊥

/-- The causal softmax of a row of logits, and the mixture of the values it makes. -/
def mix (l : Fin 2048 → EReal) (n : Fin 2048) (v : Fin 2048 → EReal) : EReal :=
  ∑ s, (if s.val ≤ n.val then Ideal.div (Soft.wt (l s) (Finset.univ.sup l)) (∑ s, Soft.wt (l s) (Finset.univ.sup l)) else 0) * v s

theorem whole_apply (q : FVec Ideal S32768x1024 .bf16) (k v : FVec Ideal S32768x512 .bf16) (c : FVec Ideal S16x8x2048 .f32) (b : Fin 16)
    (n : Fin 2048) (e : Fin 8) (d : Fin 64) :
    attend (weights (logits (heads q) (spread k) c)) (spread v) (ix2 ⟨2048 * b.val + n.val, by omega⟩ ⟨64 * e.val + d.val, by omega⟩)
      = mix (logit q k c b e n) n (fun s => v (ix2 ⟨2048 * b.val + s.val, by omega⟩ ⟨64 * e.val + d.val, by omega⟩)) := by
  have hl : (fun s => logits (heads q) (spread k) c (ix4 b e n s)) = logit q k c b e n := by
    funext s
    rw [logits_apply]
    simp only [heads_apply, spread_apply]
    rfl
  have hw : ∀ s, weights (logits (heads q) (spread k) c) (ix4 b e n s)
      = Soft.wt (logit q k c b e n s) (Finset.univ.sup (logit q k c b e n)) := by
    intro s
    rw [weights_apply, hl]
    exact congrArg (fun x => Soft.wt x _) (congrFun hl s)
  rw [attend_apply]
  simp only [hw, spread_apply]
  rfl

theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 16) (n : Fin 2048) (e : Fin 8) (d : Fin 64),
        r.2.mem ((c.tc : Thread nD τ).loc main_v46) (ix2 ⟨2048 * b.val + n.val, by omega⟩ ⟨64 * e.val + d.val, by omega⟩)
        = mix (logit (m ((c : Thread nD τ).loc main_arg0)) (m ((c : Thread nD τ).loc main_arg1)) (m ((c : Thread nD τ).loc main_arg3)) b e n) n
            (fun s => m ((c : Thread nD τ).loc main_arg2) (ix2 ⟨2048 * b.val + s.val, by omega⟩ ⟨64 * e.val + d.val, by omega⟩)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun b n e d => ?_, (h c).2⟩) (Value.run m ρ)
  rw [(h c).1]
  exact (congrFun (res_eq m c) _).trans (whole_apply _ _ _ _ b n e d)

end Cert.ReferenceIdeal.RefValue
end
-- ==== Proof.FoxLogits.lean ====
/- The kernel's logits and the reference's: under the precondition they differ by one real number in every row, and by nothing a
   softmax sees. -/
module

public import proofs.«01_k».proof.Proof.Softmax
public import proofs.«01_k».proof.Proof.FoxArray
public import proofs.«01_k».proof.Proof.FoxReference
public import proofs.«01_k».proof.Proof.FoxInputs

@[expose] public section

set_option maxRecDepth 16384

noncomputable section

namespace Cert.FoxLogits

open Cert.Pre_fox_inputs Cert.Pre_fox_inputs.Gen Idealize.ShloMosaic
open Cert.KernelIdeal.RefValue (keyLogit)
open Cert.ReferenceIdeal.RefValue (logit mix)

variable (q : FVec Ideal S32768x1024 .bf16) (k v : FVec Ideal S32768x512 .bf16) (c : FVec Ideal S16x8x2048 .f32)

/-- An extended real that is neither infinity is a real. -/
theorem real_of {x : EReal} (h : x ≠ ⊤ ∧ x ≠ ⊥) : ∃ r : ℝ, x = r := ⟨x.toReal, (EReal.coe_toReal h.1 h.2).symm⟩

theorem zero_of {x y : EReal} (h : x = 0) : x * y = 0 := by rw [h, zero_mul]

/-- The zero lanes of a query add nothing: the inner product over a pair's lanes is the one over the head's own. -/
theorem dot_eq (h : fn q k v c = fun _ => 1#1) (b : Fin 16) (e : Fin 8) (n s : Fin 2048) :
    (∑ d : Fin 128, q (ix2 ⟨2048 * b.val + n.val, by omega⟩ ⟨128 * e.val + d.val, by omega⟩)
        * k (ix2 ⟨2048 * b.val + s.val, by omega⟩ ⟨128 * (e.val / 2) + d.val, by omega⟩) : EReal)
      = ∑ d : Fin 64, q (ix2 ⟨2048 * b.val + n.val, by omega⟩ ⟨128 * e.val + 64 * (e.val % 2) + d.val, by omega⟩)
        * k (ix2 ⟨2048 * b.val + s.val, by omega⟩ ⟨64 * e.val + d.val, by omega⟩) := by
  have hp : ∀ (d : Fin 64) (j : Fin 1024), j.val = 128 * e.val + 64 * (1 - e.val % 2) + d.val →
      q (ix2 ⟨2048 * b.val + n.val, by omega⟩ j) = (0 : EReal) := by
    intro d j hj
    have hlt : 128 * e.val + 64 * (1 - e.val % 2) + d.val < 1024 := by omega
    rw [show j = ⟨128 * e.val + 64 * (1 - e.val % 2) + d.val, hlt⟩ from Fin.ext hj]
    exact (Cert.FoxInputs.fn_spec q k v c h b n e d).1
  refine (Fin.sum_univ_add (a := 64) (b := 64) fun d : Fin 128 =>
    (q (ix2 ⟨2048 * b.val + n.val, by omega⟩ ⟨128 * e.val + d.val, by omega⟩)
        * k (ix2 ⟨2048 * b.val + s.val, by omega⟩ ⟨128 * (e.val / 2) + d.val, by omega⟩) : EReal)).trans ?_
  rcases Nat.mod_two_eq_zero_or_one e.val with he | he
  · refine (congrArg₂ (· + ·) (Finset.sum_congr rfl fun d _ => ?_) (Finset.sum_eq_zero fun d _ => ?_)).trans (add_zero _)
    · refine congrArg₂ (fun x y : EReal => x * y) (congrArg q (Shape.idx_ext₂ rfl ?_)) (congrArg k (Shape.idx_ext₂ rfl ?_))
      · show 128 * e.val + d.val = 128 * e.val + 64 * (e.val % 2) + d.val
        omega
      · show 128 * (e.val / 2) + d.val = 64 * e.val + d.val
        omega
    · refine zero_of (hp d _ ?_)
      show 128 * e.val + (64 + d.val) = 128 * e.val + 64 * (1 - e.val % 2) + d.val
      omega
  · refine (congrArg₂ (· + ·) (Finset.sum_eq_zero fun d _ => ?_) (Finset.sum_congr rfl fun d _ => ?_)).trans (zero_add _)
    · refine zero_of (hp d _ ?_)
      show 128 * e.val + d.val = 128 * e.val + 64 * (1 - e.val % 2) + d.val
      omega
    · refine congrArg₂ (fun x y : EReal => x * y) (congrArg q (Shape.idx_ext₂ rfl ?_)) (congrArg k (Shape.idx_ext₂ rfl ?_))
      · show 128 * e.val + (64 + d.val) = 128 * e.val + 64 * (e.val % 2) + d.val
        omega
      · show 128 * (e.val / 2) + (64 + d.val) = 64 * e.val + d.val
        omega

/-- The inner product of a query and a key is a real. -/
theorem dot_real (h : fn q k v c = fun _ => 1#1) (b : Fin 16) (e : Fin 8) (n s : Fin 2048) :
    ∃ r : ℝ, (∑ d : Fin 64, q (ix2 ⟨2048 * b.val + n.val, by omega⟩ ⟨128 * e.val + 64 * (e.val % 2) + d.val, by omega⟩)
        * k (ix2 ⟨2048 * b.val + s.val, by omega⟩ ⟨64 * e.val + d.val, by omega⟩) : EReal) = r := by
  choose x hx using fun d : Fin 64 => real_of (Cert.FoxInputs.fn_spec q k v c h b n e d).2.1
  choose y hy using fun d : Fin 64 => real_of (Cert.FoxInputs.fn_spec q k v c h b s e d).2.2.1
  refine ⟨∑ d, x d * y d, ?_⟩
  rw [Soft.coe_sum]
  refine Finset.sum_congr rfl fun d _ => ?_
  rw [EReal.coe_mul, ← hx, ← hy]

/-- One row of the attention: the kernel's running softmax and the reference's plain one give the same mixture of the values. -/
theorem row_eq (h : fn q k v c = fun _ => 1#1) (b : Fin 16) (e : Fin 8) (n : Fin 2048) (w : Fin 2048 → EReal) :
    Soft.A (keyLogit q k c b e n) w Finset.univ * Ideal.div 1 (Soft.L (keyLogit q k c b e n) Finset.univ)
      = mix (logit q k c b e n) n w := by
  choose C hC using fun s : Fin 2048 => real_of (Cert.FoxInputs.fn_spec q k v c h b s e 0).2.2.2
  choose D hD using dot_real q k v c h b e n
  have hk : ∀ s, keyLogit q k c b e n s
      = if s.val ≤ n.val then ((D s + (C ⟨256 * (n.val / 256), by omega⟩ - C s) : ℝ) : EReal) else ⊥ := by
    intro s
    rw [keyLogit, dot_eq q k v c h, hD, hC, hC, EReal.coe_add, EReal.coe_sub]
  have hl : ∀ s, logit q k c b e n s = keyLogit q k c b e n s + ((C n - C ⟨256 * (n.val / 256), by omega⟩ : ℝ) : EReal) := by
    intro s
    rw [hk, logit, hD, hC, hC]
    split
    · rw [← EReal.coe_add, ← EReal.coe_add, ← EReal.coe_sub]
      exact congrArg _ (by ring)
    · rw [EReal.bot_add]
  have hs := Soft.softmax_eq (fun s : Fin 2048 => s.val ≤ n.val) (keyLogit q k c b e n) w
    (fun s hs => by rw [hk, if_neg hs])
    (fun s => by
      rw [hk]
      split
      · exact EReal.coe_ne_top _
      · exact bot_ne_top)
    n (by rw [hk, if_pos le_rfl]; exact EReal.coe_ne_bot _)
    (C n - C ⟨256 * (n.val / 256), by omega⟩)
  rw [hs]
  have hl' : (fun s => keyLogit q k c b e n s + ((C n - C ⟨256 * (n.val / 256), by omega⟩ : ℝ) : EReal)) = logit q k c b e n :=
    funext fun s => (hl s).symm
  rw [hl']
  simp only [← hl]
  rfl

end Cert.FoxLogits

end
-- ==== Proof.FoxClaim.lean ====
/- The forgetting attention: the kernel and the plain reference end with the same array. -/
module

public import proofs.«01_k».proof.Defs
public import proofs.«01_k».proof.Proof.FoxArray
public import proofs.«01_k».proof.Proof.FoxReference
public import proofs.«01_k».proof.Proof.FoxLogits
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_fox_inputs

@[expose] public section

noncomputable section

namespace Cert.Proof

open Idealize.ShloMosaic Idealize.ShloMosaic.TcCoe Idealize.SL.Sem

theorem fox_algebraic : Cert.algebraic_KernelIdeal_ReferenceIdeal_pre_fox_inputs := by
  intro m g m' g' hpre hag
  refine ⟨fun c => (Cert.KernelIdeal.Gen.dats m 0 c).arrAt 4 Cert.KernelIdeal.cfg0.N, Cert.KernelIdeal.Value.run_blocks m g,
    (θ_run Cert.ReferenceIdeal.defs _ _).mono (fun r h c => ⟨?_, (h c).2⟩) (Cert.ReferenceIdeal.RefValue.run_rows m' g')⟩
  obtain ⟨h0, h1, h2, h3⟩ := hag c
  funext i
  obtain ⟨a, j, rfl⟩ : ∃ (a : Fin 32768) (j : Fin 512), i = ix2 a j := ⟨i 0, i 1, eq_ix2 i⟩
  obtain ⟨b, n, rfl⟩ : ∃ (b : Fin 16) (n : Fin 2048), a = ⟨2048 * b.val + n.val, by omega⟩ :=
    ⟨⟨a.val / 2048, by omega⟩, ⟨a.val % 2048, by omega⟩, Fin.ext (by dsimp only; omega)⟩
  obtain ⟨e, d, rfl⟩ : ∃ (e : Fin 8) (d : Fin 64), j = ⟨64 * e.val + d.val, by omega⟩ :=
    ⟨⟨j.val / 64, by omega⟩, ⟨j.val % 64, by omega⟩, Fin.ext (by dsimp only; omega)⟩
  refine ((h c).1 b n e d).trans (Eq.trans ?_ (Cert.KernelIdeal.RefValue.array_apply m c b n e d).symm)
  rw [h0, h1, h2, h3]
  exact (Cert.FoxLogits.row_eq _ _ _ _ (hpre c) b e n _).symm

end Cert.Proof

end
-- ==== Proof.MergeRows.lean ====
/- The arithmetic of one row of the gated merge of the two mixers, over the extended reals. -/
module

public import proofs.«01_k».proof.Proof.Rows

@[expose] public section

noncomputable section

namespace Cert.Rows

open Idealize.ShloMosaic

/-- Column `i` of the merged mixers: each mixer's output projection times its gate, a sigmoid of a column of the
    normalized row's projection. -/
def mixed (n : Fin 1024 → EReal) (w : Fin 1024 → Fin 2048 → EReal) (a b : Fin 512 → EReal)
    (wa wb : Fin 512 → Fin 1024 → EReal) (i : Fin 1024) : EReal :=
  Ideal.logistic (∑ k, n k * w k ⟨i.val, by omega⟩) * (∑ k, a k * wa k i)
    + Ideal.logistic (∑ k, n k * w k ⟨1024 + i.val, by omega⟩) * (∑ k, b k * wb k i)

/-- A row with the projected merge added. -/
def merged (x g : Fin 1024 → EReal) (w : Fin 1024 → Fin 2048 → EReal) (a b : Fin 512 → EReal)
    (wa wb : Fin 512 → Fin 1024 → EReal) (wo : Fin 1024 → Fin 1024 → EReal) (j : Fin 1024) : EReal :=
  x j + ∑ i, mixed (rms x g) w a b wa wb i * wo i j

/-- Where the order «query in the group, group, lane» of the attention columns finds column `k` in the order «group, query
    in the group, lane». -/
def column : Fin 512 → Fin 512 := fun k => ⟨k.val / 64 % 2 * 256 + k.val / 128 * 64 + k.val % 64, by omega⟩

/-- The way back. -/
def columnInv : Fin 512 → Fin 512 := fun k => ⟨k.val / 64 % 4 * 128 + k.val / 256 * 64 + k.val % 64, by omega⟩

def columns : Fin 512 ≃ Fin 512 where
  toFun := column
  invFun := columnInv
  left_inv := by decide +kernel
  right_inv := by decide +kernel

/-- The same product in either order of the columns. -/
theorem sum_columns (a : Fin 512 → EReal) (w : Fin 512 → EReal) : ∑ k, a (columnInv k) * w k = ∑ k, a k * w (column k) :=
  (Equiv.sum_comp columns fun k => a (columnInv k) * w k).symm.trans
    (Finset.sum_congr rfl fun k _ => congrArg (a · * w (column k)) (columns.left_inv k))

/-- So the merged row is the same, whether the attention's columns or the weights' rows are put in the other's order. -/
theorem merged_columns (x g : Fin 1024 → EReal) (w : Fin 1024 → Fin 2048 → EReal) (a b : Fin 512 → EReal)
    (wa wb : Fin 512 → Fin 1024 → EReal) (wo : Fin 1024 → Fin 1024 → EReal) :
    merged x g w (fun k => a (columnInv k)) b wa wb wo = merged x g w a b (fun k => wa (column k)) wb wo := by
  funext j
  unfold merged mixed
  simp only [sum_columns]

/-- Element `(s, j)` of the layer's result, from the eleven arguments of the merge. -/
def value (a0 : (⟨2, ![32768, 1024]⟩ : Shape).Idx → EReal) (a1 a2 : (⟨2, ![32768, 512]⟩ : Shape).Idx → EReal)
    (a3 : (⟨1, ![1024]⟩ : Shape).Idx → EReal) (a4 : (⟨2, ![1024, 4896]⟩ : Shape).Idx → EReal)
    (a5 a6 : (⟨2, ![512, 1024]⟩ : Shape).Idx → EReal) (a7 : (⟨2, ![1024, 1024]⟩ : Shape).Idx → EReal)
    (a8 : (⟨1, ![1024]⟩ : Shape).Idx → EReal) (a9 : (⟨2, ![1024, 5632]⟩ : Shape).Idx → EReal)
    (a10 : (⟨2, ![2816, 1024]⟩ : Shape).Idx → EReal) (s : Fin 32768) (j : Fin 1024) : EReal :=
  ffn (merged (fun k => a0 (ix2 s k)) (fun k => a3 (ix1 k)) (fun k f => a4 (ix2 k ⟨2848 + f.val, by omega⟩))
      (fun k => a1 (ix2 s k)) (fun k => a2 (ix2 s k)) (fun k f => a5 (ix2 (column k) f)) (fun k f => a6 (ix2 k f))
      (fun i j => a7 (ix2 i j)))
    (fun k => a8 (ix1 k)) (fun k f => a9 (ix2 k f)) (fun f j => a10 (ix2 f j)) j

/-- The same with the attention's columns put in the weights' order. -/
theorem value_columns (a0 : (⟨2, ![32768, 1024]⟩ : Shape).Idx → EReal) (a1 a2 : (⟨2, ![32768, 512]⟩ : Shape).Idx → EReal)
    (a3 : (⟨1, ![1024]⟩ : Shape).Idx → EReal) (a4 : (⟨2, ![1024, 4896]⟩ : Shape).Idx → EReal)
    (a5 a6 : (⟨2, ![512, 1024]⟩ : Shape).Idx → EReal) (a7 : (⟨2, ![1024, 1024]⟩ : Shape).Idx → EReal)
    (a8 : (⟨1, ![1024]⟩ : Shape).Idx → EReal) (a9 : (⟨2, ![1024, 5632]⟩ : Shape).Idx → EReal)
    (a10 : (⟨2, ![2816, 1024]⟩ : Shape).Idx → EReal) (s : Fin 32768) (j : Fin 1024) :
    ffn (merged (fun k => a0 (ix2 s k)) (fun k => a3 (ix1 k)) (fun k f => a4 (ix2 k ⟨2848 + f.val, by omega⟩))
        (fun k => a1 (ix2 s (columnInv k))) (fun k => a2 (ix2 s k)) (fun k f => a5 (ix2 k f)) (fun k f => a6 (ix2 k f))
        (fun i j => a7 (ix2 i j)))
      (fun k => a8 (ix1 k)) (fun k f => a9 (ix2 k f)) (fun f j => a10 (ix2 f j)) j = value a0 a1 a2 a3 a4 a5 a6 a7 a8 a9 a10 s j :=
  congrArg (fun x => ffn x _ _ _ j) (merged_columns _ _ _ (fun k => a1 (ix2 s k)) _ (fun k f => a5 (ix2 k f)) _ _)

end Cert.Rows

end
-- ==== Proof.MergeBlock.lean ====
/- What one grid point of the merge kernel leaves in its output block: row `r` of the block is the residual feed-forward of
   row `r` of the input block with the merged mixers added. -/
module

public import proofs.«01_k».proof.Proof.MergeRows
public import proofs.«01_k».proof.Proof.Gen.MergeIdeal.Value
public import Idealize.ShloMosaic.Lib.Pipeline.Value

@[expose] public section

set_option maxRecDepth 16384

noncomputable section

namespace Cert.MergeIdeal.RefValue

open Cert.MergeIdeal Cert.MergeIdeal.Gen Idealize.ShloMosaic Idealize.ShloMosaic.TcCoe

theorem hz : (![0, 0] : Fin 2 → Nat) = fun _ => 0 := funext fun a => by fin_cases a <;> rfl

/-- The two gated mixers of the block, element by element. -/
theorem mixed_apply (x0 : Vec Ideal S256x1024 .f32) (x3 : Vec Ideal S1x1024 .f32) (x4 : Vec Ideal S1024x2048 .bf16)
    (x1 : Vec Ideal S256x512 .bf16) (x5 : Vec Ideal S512x1024 .bf16) (x2 : Vec Ideal S256x512 .bf16)
    (x6 : Vec Ideal S512x1024 .bf16) (r : Fin 256) (i : Fin 1024) :
    k0_pay2 x0 x3 x4 x1 x5 x2 x6 (ix2 r i) = Rows.mixed (Rows.rms (fun k => x0 (ix2 r k)) (fun k => x3 (ix2 0 k)))
      (fun k f => x4 (ix2 k f)) (fun k => x1 (ix2 r k)) (fun k => x2 (ix2 r k)) (fun k f => x5 (ix2 k f))
      (fun k f => x6 (ix2 k f)) i := by
  unfold Rows.mixed Rows.rms
  pointwise [k0_pay2]

/-- The block with the projected merge added, element by element, from the merged mixers `y`. -/
theorem added_apply (x0 : Vec Ideal S256x1024 .f32) (y : FVec Ideal S256x1024 .bf16) (w : FVec Ideal S1024x1024 .bf16)
    (r : Fin 256) (j : Fin 1024) :
    k0_pay4 x0 y w (constant S256x1024 .f32 0x00000000#32) (ix2 r j) = x0 (ix2 r j) + ∑ i : Fin 1024, y (ix2 r i) * w (ix2 i j) := by
  pointwise [k0_pay4]

/-- The normalization of that block, element by element. -/
theorem norm_apply (x0 : Vec Ideal S256x1024 .f32) (y : FVec Ideal S256x1024 .bf16) (w : FVec Ideal S1024x1024 .bf16)
    (x8 : Vec Ideal S1x1024 .f32) (r : Fin 256) (k : Fin 1024) :
    k0_pay5 x0 y w (constant S256x1024 .f32 0x00000000#32) x8 (ix2 r k)
      = Rows.rms (fun k => x0 (ix2 r k) + ∑ i : Fin 1024, y (ix2 r i) * w (ix2 i k)) (fun k => x8 (ix2 0 k)) k := by
  unfold Rows.rms
  pointwise [k0_pay5]
  simp only [added_apply]

/-- The output block, element by element, from the merged mixers `y` and their projection `w`. -/
theorem tail_apply (x0 : Vec Ideal S256x1024 .f32) (y : FVec Ideal S256x1024 .bf16) (w : FVec Ideal S1024x1024 .bf16)
    (x8 : Vec Ideal S1x1024 .f32) (x9 : Vec Ideal S1024x5632 .bf16) (x10 : Vec Ideal S2816x1024 .bf16) (r : Fin 256) (j : Fin 1024) :
    k0_pay1 (k0_pay4 x0 y w (constant S256x1024 .f32 0x00000000#32))
      (k0_pay6 x0 y w (constant S256x1024 .f32 0x00000000#32) x8 (View.ld x9 r0_6) (View.ld x9 r0_7) (View.ld x10 r0_8))
      (k0_pay7 x0 y w (constant S256x1024 .f32 0x00000000#32) x8 (View.ld x9 r0_9))
      (k0_pay8 x0 y w (constant S256x1024 .f32 0x00000000#32) x8 (View.ld x9 r0_10))
      (k0_pay9 x0 y w (constant S256x1024 .f32 0x00000000#32) x8 (View.ld x9 r0_9)) (View.ld x10 r0_11) (ix2 r j)
      = Rows.ffn (fun k => x0 (ix2 r k) + ∑ i : Fin 1024, y (ix2 r i) * w (ix2 i k)) (fun k => x8 (ix2 0 k))
          (fun k f => x9 (ix2 k f)) (fun f j => x10 (ix2 f j)) j := by
  rw [Rows.ffn_halves]
  unfold Rows.hidden Rows.gate
  pointwise [k0_pay1, k0_pay6, k0_pay7, k0_pay8, k0_pay9]
  simp only [norm_apply, added_apply, show ∀ f : Fin 1408, 4224 + f.val = 2816 + (1408 + f.val) from fun f => by omega]

/-- The output block, element by element. -/
theorem out_apply (x0 : Vec Ideal S256x1024 .f32) (x1 : Vec Ideal S256x512 .bf16) (x2 : Vec Ideal S256x512 .bf16)
    (x3 : Vec Ideal S1x1024 .f32) (x4 : Vec Ideal S1024x2048 .bf16) (x5 : Vec Ideal S512x1024 .bf16)
    (x6 : Vec Ideal S512x1024 .bf16) (x7 : Vec Ideal S1024x1024 .bf16) (x8 : Vec Ideal S1x1024 .f32)
    (x9 : Vec Ideal S1024x5632 .bf16) (x10 : Vec Ideal S2816x1024 .bf16) (r : Fin 256) (j : Fin 1024) :
    out0_11 x0 x1 x2 x3 x4 x5 x6 x7 x8 x9 x10 (ix2 r j)
      = Rows.ffn (Rows.merged (fun k => x0 (ix2 r k)) (fun k => x3 (ix2 0 k)) (fun k f => x4 (ix2 k f))
            (fun k => x1 (ix2 r k)) (fun k => x2 (ix2 r k)) (fun k f => x5 (ix2 k f)) (fun k f => x6 (ix2 k f))
            (fun i j => x7 (ix2 i j)))
          (fun k => x8 (ix2 0 k)) (fun k f => x9 (ix2 k f)) (fun f j => x10 (ix2 f j)) j := by
  unfold out0_11
  rw [View.canon_unit_zero hz]
  unfold k0_pay10
  rw [View.ld_unit_zero (S := S256x1024) hz, View.ld_unit_zero (S := S1x1024) hz, tail_apply]
  unfold k0_pay11 k0_pay12 k0_pay3
  simp only [View.ld_unit_zero (S := S256x1024) hz, View.ld_unit_zero (S := S1x1024) hz, View.ld_unit_zero (S := S1024x2048) hz,
    View.ld_unit_zero (S := S256x512) hz, View.ld_unit_zero (S := S512x1024) hz, View.ld_unit_zero (S := S1024x1024) hz,
    shapeCast_self, mixed_apply]
  rfl

end Cert.MergeIdeal.RefValue

end
-- ==== Proof.MergeArray.lean ====
/- The merge kernel's result array: every element is the residual feed-forward of its row of the input with the merged
   mixers added, over the weights as launched. -/
module

public import proofs.«01_k».proof.Proof.MergeBlock
public import Idealize.ShloMosaic.Lib.StableHlo.Run

@[expose] public section

set_option maxRecDepth 16384

noncomputable section

namespace Cert.MergeIdeal.RefValue

open Cert.MergeIdeal Cert.MergeIdeal.Gen Idealize.ShloMosaic Idealize.ShloMosaic.TcCoe Idealize.SL.Sem

variable (m : (ℓ : Loc nD τ sig) → Buf (Elt Ideal) ℓ) (ρ : Dev nD → PrngReg)

/-! ## The arrays when the kernel is entered -/

/-- A vector as one row. -/
theorem row_apply {α : Type} (g : S1024.Idx → α) (k : Fin 1024) : shapeCast S1x1024 g shapeCasts_S1024_S1x1024 (ix2 0 k) = g (ix1 k) := by
  pointwise

/-- The output projection of the sparse attention with its rows put in the order of the attention's columns. -/
theorem rows_apply (w : FVec Ideal S512x1024 .f32) (k : Fin 512) (j : Fin 1024) :
    truncf (F := Ideal) .bf16 (shapeCast S512x1024 (transpose S4x2x64x1024 [1, 0, 2, 3] (shapeCast S2x4x64x1024 w shapeCasts_S512x1024_S2x4x64x1024)
      transposes_S2x4x64x1024_S4x2x64x1024_1_0_2_3) shapeCasts_S4x2x64x1024_S512x1024) bitsLt_bf16_f32 (ix2 k j) = w (ix2 (Rows.column k) j) := by
  unfold Rows.column
  pointwise

/-- The last 2048 columns of the input projection. -/
theorem last_apply {α : Type} (w : S1024x4896.Idx → α) (k : Fin 1024) (f : Fin 2048) :
    extractStridedSlice S1024x2048 ![0, 2848] w slices_S1024x4896_S1024x2048_0_2848 (ix2 k f) = w (ix2 k ⟨2848 + f.val, by omega⟩) := by
  pointwise

theorem V_gain (c : Dev nD) (k : Fin 1024) : V m c main_v17 (ix2 0 k) = m ((c : Thread nD τ).loc main_arg3) (ix1 k) := by
  have h : V m c main_v17 = shapeCast S1x1024 (m ((c : Thread nD τ).loc main_arg3)) shapeCasts_S1024_S1x1024 := by
    show StableHlo.after hostOps0 _ (Proc.devRef .tc main_v17) = _
    after_results
    rfl
  exact (congrFun h _).trans (row_apply _ k)

theorem V_gate (c : Dev nD) (k : Fin 1024) (f : Fin 2048) :
    V m c main_v13 (ix2 k f) = m ((c : Thread nD τ).loc main_arg4) (ix2 k ⟨2848 + f.val, by omega⟩) := by
  have h : V m c main_v13 = truncf (F := Ideal) .bf16 (extractStridedSlice S1024x2048 ![0, 2848] (m ((c : Thread nD τ).loc main_arg4))
      slices_S1024x4896_S1024x2048_0_2848) bitsLt_bf16_f32 := by
    show StableHlo.after hostOps0 _ (Proc.devRef .tc main_v13) = _
    after_results
  exact (congrFun h _).trans (last_apply _ k f)

theorem V_wa (c : Dev nD) (k : Fin 512) (j : Fin 1024) :
    V m c main_v18 (ix2 k j) = m ((c : Thread nD τ).loc main_arg5) (ix2 (Rows.column k) j) := by
  have h : V m c main_v18 = truncf (F := Ideal) .bf16 (shapeCast S512x1024 (transpose S4x2x64x1024 [1, 0, 2, 3]
      (shapeCast S2x4x64x1024 (m ((c : Thread nD τ).loc main_arg5)) shapeCasts_S512x1024_S2x4x64x1024)
      transposes_S2x4x64x1024_S4x2x64x1024_1_0_2_3) shapeCasts_S4x2x64x1024_S512x1024) bitsLt_bf16_f32 := by
    show StableHlo.after hostOps0 _ (Proc.devRef .tc main_v18) = _
    after_results
    rfl
  exact (congrFun h _).trans (rows_apply _ k j)

theorem V_wb (c : Dev nD) (k : Fin 512) (j : Fin 1024) : V m c main_v19 (ix2 k j) = m ((c : Thread nD τ).loc main_arg6) (ix2 k j) := by
  have h : V m c main_v19 = truncf (F := Ideal) .bf16 (m ((c : Thread nD τ).loc main_arg6)) bitsLt_bf16_f32 := by
    show StableHlo.after hostOps0 _ (Proc.devRef .tc main_v19) = _
    after_results
  exact congrFun h _

theorem V_wo (c : Dev nD) (k : Fin 1024) (j : Fin 1024) : V m c main_v20 (ix2 k j) = m ((c : Thread nD τ).loc main_arg7) (ix2 k j) := by
  have h : V m c main_v20 = truncf (F := Ideal) .bf16 (m ((c : Thread nD τ).loc main_arg7)) bitsLt_bf16_f32 := by
    show StableHlo.after hostOps0 _ (Proc.devRef .tc main_v20) = _
    after_results
  exact congrFun h _

theorem V_gain2 (c : Dev nD) (k : Fin 1024) : V m c main_v21 (ix2 0 k) = m ((c : Thread nD τ).loc main_arg8) (ix1 k) := by
  have h : V m c main_v21 = shapeCast S1x1024 (m ((c : Thread nD τ).loc main_arg8)) shapeCasts_S1024_S1x1024 := by
    show StableHlo.after hostOps0 _ (Proc.devRef .tc main_v21) = _
    after_results
    rfl
  exact (congrFun h _).trans (row_apply _ k)

theorem V_up (c : Dev nD) (k : Fin 1024) (f : Fin 5632) : V m c main_v22 (ix2 k f) = m ((c : Thread nD τ).loc main_arg9) (ix2 k f) := by
  have h : V m c main_v22 = truncf (F := Ideal) .bf16 (m ((c : Thread nD τ).loc main_arg9)) bitsLt_bf16_f32 := by
    show StableHlo.after hostOps0 _ (Proc.devRef .tc main_v22) = _
    after_results
  exact congrFun h _

theorem V_down (c : Dev nD) (f : Fin 2816) (j : Fin 1024) : V m c main_v23 (ix2 f j) = m ((c : Thread nD τ).loc main_arg10) (ix2 f j) := by
  have h : V m c main_v23 = truncf (F := Ideal) .bf16 (m ((c : Thread nD τ).loc main_arg10)) bitsLt_bf16_f32 := by
    show StableHlo.after hostOps0 _ (Proc.devRef .tc main_v23) = _
    after_results
  exact congrFun h _

/-! ## The blocks of a grid point -/

theorem index_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ win0_11.index t 0 = t.val ∧ win0_11.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ win0_11.index t 0 = t.val ∧ win0_11.index t 1 = 0)

/-- Row `r` of point `t`'s block. -/
abbrev row (t : Fin cfg0.N) (r : Fin 256) : Fin 32768 := ⟨256 * t.val + r.val, by have := t.isLt; have : cfg0.N = 128 := N_0; omega⟩

theorem blk_x (c : Dev nD) (t : Fin cfg0.N) (r : Fin 256) (k : Fin 1024) :
    iblk m c 0 t (ix2 r k) = m ((c : Thread nD τ).loc main_arg0) (ix2 (row t r) k) := by
  refine Eq.trans ?_ (congrFun (V_main_arg0 m c) _)
  show V m c main_arg0 ((win0_0.blk t).view.emb (ix2 r k)) = _
  refine congrArg _ (Shape.idx_ext₂ ?_ ?_)
  · show win0_0.index t 0 * 256 + 1 * r.val = 256 * t.val + r.val
    have := (index_rows t).1.1
    omega
  · show win0_0.index t 1 * 1024 + 1 * k.val = k.val
    have := (index_rows t).1.2
    omega

theorem blk_a (c : Dev nD) (t : Fin cfg0.N) (r : Fin 256) (k : Fin 512) :
    iblk m c 1 t (ix2 r k) = m ((c : Thread nD τ).loc main_arg1) (ix2 (row t r) k) := by
  refine Eq.trans ?_ (congrFun (V_main_arg1 m c) _)
  show V m c main_arg1 ((win0_1.blk t).view.emb (ix2 r k)) = _
  refine congrArg _ (Shape.idx_ext₂ ?_ ?_)
  · show win0_1.index t 0 * 256 + 1 * r.val = 256 * t.val + r.val
    have := (index_rows t).2.1.1
    omega
  · show win0_1.index t 1 * 512 + 1 * k.val = k.val
    have := (index_rows t).2.1.2
    omega

theorem blk_b (c : Dev nD) (t : Fin cfg0.N) (r : Fin 256) (k : Fin 512) :
    iblk m c 2 t (ix2 r k) = m ((c : Thread nD τ).loc main_arg2) (ix2 (row t r) k) := by
  refine Eq.trans ?_ (congrFun (V_main_arg2 m c) _)
  show V m c main_arg2 ((win0_2.blk t).view.emb (ix2 r k)) = _
  refine congrArg _ (Shape.idx_ext₂ ?_ ?_)
  · show win0_2.index t 0 * 256 + 1 * r.val = 256 * t.val + r.val
    have := (index_rows t).2.2.1.1
    omega
  · show win0_2.index t 1 * 512 + 1 * k.val = k.val
    have := (index_rows t).2.2.1.2
    omega

theorem blk_gain (c : Dev nD) (t : Fin cfg0.N) (k : Fin 1024) : iblk m c 3 t (ix2 0 k) = V m c main_v17 (ix2 0 k) := by
  show V m c main_v17 ((win0_3.blk t).view.emb (ix2 0 k)) = _
  refine congrArg _ (Shape.idx_ext₂ ?_ ?_)
  · show 0 * 1 + 1 * 0 = 0
    rfl
  · show 0 * 1024 + 1 * k.val = k.val
    omega

theorem blk_gate (c : Dev nD) (t : Fin cfg0.N) (k : Fin 1024) (f : Fin 2048) : iblk m c 4 t (ix2 k f) = V m c main_v13 (ix2 k f) := by
  show V m c main_v13 ((win0_4.blk t).view.emb (ix2 k f)) = _
  refine congrArg _ (Shape.idx_ext₂ ?_ ?_)
  · show 0 * 1024 + 1 * k.val = k.val
    omega
  · show 0 * 2048 + 1 * f.val = f.val
    omega

theorem blk_wa (c : Dev nD) (t : Fin cfg0.N) (k : Fin 512) (j : Fin 1024) : iblk m c 5 t (ix2 k j) = V m c main_v18 (ix2 k j) := by
  show V m c main_v18 ((win0_5.blk t).view.emb (ix2 k j)) = _
  refine congrArg _ (Shape.idx_ext₂ ?_ ?_)
  · show 0 * 512 + 1 * k.val = k.val
    omega
  · show 0 * 1024 + 1 * j.val = j.val
    omega

theorem blk_wb (c : Dev nD) (t : Fin cfg0.N) (k : Fin 512) (j : Fin 1024) : iblk m c 6 t (ix2 k j) = V m c main_v19 (ix2 k j) := by
  show V m c main_v19 ((win0_6.blk t).view.emb (ix2 k j)) = _
  refine congrArg _ (Shape.idx_ext₂ ?_ ?_)
  · show 0 * 512 + 1 * k.val = k.val
    omega
  · show 0 * 1024 + 1 * j.val = j.val
    omega

theorem blk_wo (c : Dev nD) (t : Fin cfg0.N) (k : Fin 1024) (j : Fin 1024) : iblk m c 7 t (ix2 k j) = V m c main_v20 (ix2 k j) := by
  show V m c main_v20 ((win0_7.blk t).view.emb (ix2 k j)) = _
  refine congrArg _ (Shape.idx_ext₂ ?_ ?_)
  · show 0 * 1024 + 1 * k.val = k.val
    omega
  · show 0 * 1024 + 1 * j.val = j.val
    omega

theorem blk_gain2 (c : Dev nD) (t : Fin cfg0.N) (k : Fin 1024) : iblk m c 8 t (ix2 0 k) = V m c main_v21 (ix2 0 k) := by
  show V m c main_v21 ((win0_8.blk t).view.emb (ix2 0 k)) = _
  refine congrArg _ (Shape.idx_ext₂ ?_ ?_)
  · show 0 * 1 + 1 * 0 = 0
    rfl
  · show 0 * 1024 + 1 * k.val = k.val
    omega

theorem blk_up (c : Dev nD) (t : Fin cfg0.N) (k : Fin 1024) (f : Fin 5632) : iblk m c 9 t (ix2 k f) = V m c main_v22 (ix2 k f) := by
  show V m c main_v22 ((win0_9.blk t).view.emb (ix2 k f)) = _
  refine congrArg _ (Shape.idx_ext₂ ?_ ?_)
  · show 0 * 1024 + 1 * k.val = k.val
    omega
  · show 0 * 5632 + 1 * f.val = f.val
    omega

theorem blk_down (c : Dev nD) (t : Fin cfg0.N) (f : Fin 2816) (j : Fin 1024) : iblk m c 10 t (ix2 f j) = V m c main_v23 (ix2 f j) := by
  show V m c main_v23 ((win0_10.blk t).view.emb (ix2 f j)) = _
  refine congrArg _ (Shape.idx_ext₂ ?_ ?_)
  · show 0 * 2816 + 1 * f.val = f.val
    omega
  · show 0 * 1024 + 1 * j.val = j.val
    omega

/-! ## The result array -/

/-- Every element of the result array: its row of the input with the merged mixers, through the residual feed-forward. -/
theorem array_apply (c : Dev nD) (s : Fin 32768) (j : Fin 1024) :
    (dats m 0 c).arrAt 11 cfg0.N (ix2 s j)
      = Rows.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) s j := by
  have hN : cfg0.N = 128 := N_0
  have hs := s.isLt
  let t : Fin cfg0.N := ⟨s.val / 256, by omega⟩
  let r : Fin 256 := ⟨s.val % 256, by omega⟩
  have hrow : row t r = s := Fin.ext (by dsimp only [row, t, r]; omega)
  have hblk := congrFun (Value.blocks11 m c t (flush0_11 t)) (ix2 r j)
  have hidx : (win0_11.blk t).view.emb (ix2 r j) = ix2 s j := by
    refine Shape.idx_ext₂ ?_ ?_
    · show win0_11.index t 0 * 256 + 1 * (s.val % 256) = s.val
      have h : win0_11.index t 0 = s.val / 256 := (index_rows t).2.2.2.1
      omega
    · show win0_11.index t 1 * 1024 + 1 * j.val = j.val
      have := (index_rows t).2.2.2.2
      omega
  have hread : (dats m 0 c).arrAt 11 cfg0.N ((win0_11.blk t).view.emb (ix2 r j))
      = out0_11 (iblk m c 0 t) (iblk m c 1 t) (iblk m c 2 t) (iblk m c 3 t) (iblk m c 4 t) (iblk m c 5 t) (iblk m c 6 t)
          (iblk m c 7 t) (iblk m c 8 t) (iblk m c 9 t) (iblk m c 10 t) (ix2 r j) := by
    rw [Value.flushed11] at hblk
    exact hblk
  rw [hidx] at hread
  have h0 : ∀ k, iblk m c 0 t (ix2 r k) = m ((c : Thread nD τ).loc main_arg0) (ix2 s k) := fun k => hrow ▸ blk_x m c t r k
  have h1 : ∀ k, iblk m c 1 t (ix2 r k) = m ((c : Thread nD τ).loc main_arg1) (ix2 s k) := fun k => hrow ▸ blk_a m c t r k
  have h2 : ∀ k, iblk m c 2 t (ix2 r k) = m ((c : Thread nD τ).loc main_arg2) (ix2 s k) := fun k => hrow ▸ blk_b m c t r k
  have h3 : ∀ k, iblk m c 3 t (ix2 0 k) = m ((c : Thread nD τ).loc main_arg3) (ix1 k) := fun k => (blk_gain m c t k).trans (V_gain m c k)
  have h4 : ∀ k f, iblk m c 4 t (ix2 k f) = m ((c : Thread nD τ).loc main_arg4) (ix2 k ⟨2848 + f.val, by omega⟩) := fun k f =>
    (blk_gate m c t k f).trans (V_gate m c k f)
  have h5 : ∀ k f, iblk m c 5 t (ix2 k f) = m ((c : Thread nD τ).loc main_arg5) (ix2 (Rows.column k) f) := fun k f =>
    (blk_wa m c t k f).trans (V_wa m c k f)
  have h6 : ∀ k f, iblk m c 6 t (ix2 k f) = m ((c : Thread nD τ).loc main_arg6) (ix2 k f) := fun k f => (blk_wb m c t k f).trans (V_wb m c k f)
  have h7 : ∀ k f, iblk m c 7 t (ix2 k f) = m ((c : Thread nD τ).loc main_arg7) (ix2 k f) := fun k f => (blk_wo m c t k f).trans (V_wo m c k f)
  have h8 : ∀ k, iblk m c 8 t (ix2 0 k) = m ((c : Thread nD τ).loc main_arg8) (ix1 k) := fun k => (blk_gain2 m c t k).trans (V_gain2 m c k)
  have h9 : ∀ k f, iblk m c 9 t (ix2 k f) = m ((c : Thread nD τ).loc main_arg9) (ix2 k f) := fun k f => (blk_up m c t k f).trans (V_up m c k f)
  have h10 : ∀ f j, iblk m c 10 t (ix2 f j) = m ((c : Thread nD τ).loc main_arg10) (ix2 f j) := fun f j =>
    (blk_down m c t f j).trans (V_down m c f j)
  rw [hread, out_apply]
  simp only [h0, h1, h2, h3, h4, h5, h6, h7, h8, h9, h10]
  rfl

end Cert.MergeIdeal.RefValue

end
-- ==== Proof.MergeReference.lean ====
/- The plain merge reference, read at an index. -/
module

public import proofs.«01_k».proof.Proof.MergeRows
public import proofs.«01_k».proof.Proof.Gen.MergeReferenceIdeal.Run

@[expose] public section

set_option maxRecDepth 16384

noncomputable section

namespace Cert.MergeReferenceIdeal.RefValue

open Cert.MergeReferenceIdeal Cert.MergeReferenceIdeal.Gen Idealize.ShloMosaic Idealize.ShloMosaic.TcCoe Idealize.SL.Sem

/-- Every element of the reference's result. -/
theorem result_apply (m : (ℓ : Loc nD τ sig) → Buf (Elt Ideal) ℓ) (c : Dev nD) (s : Fin 32768) (j : Fin 1024) :
    Value.res_main_v68 m c (ix2 s j)
      = Rows.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) s j := by
  unfold Value.res_main_v68
  generalize m ((c : Thread nD τ).loc main_arg0) = a0
  generalize m ((c : Thread nD τ).loc main_arg1) = a1
  generalize m ((c : Thread nD τ).loc main_arg2) = a2
  generalize m ((c : Thread nD τ).loc main_arg3) = a3
  generalize m ((c : Thread nD τ).loc main_arg4) = a4
  generalize m ((c : Thread nD τ).loc main_arg5) = a5
  generalize m ((c : Thread nD τ).loc main_arg6) = a6
  generalize m ((c : Thread nD τ).loc main_arg7) = a7
  generalize m ((c : Thread nD τ).loc main_arg8) = a8
  generalize m ((c : Thread nD τ).loc main_arg9) = a9
  generalize m ((c : Thread nD τ).loc main_arg10) = a10
  revert a0 a1 a2 a3 a4 a5 a6 a7 a8 a9 a10
  show ∀ (a0 : FVec Ideal S32768x1024 .f32) (a1 : FVec Ideal S32768x512 .bf16) (a2 : FVec Ideal S32768x512 .bf16)
    (a3 : FVec Ideal S1024 .f32) (a4 : FVec Ideal S1024x4896 .f32) (a5 : FVec Ideal S512x1024 .f32) (a6 : FVec Ideal S512x1024 .f32)
    (a7 : FVec Ideal S1024x1024 .f32) (a8 : FVec Ideal S1024 .f32) (a9 : FVec Ideal S1024x5632 .f32) (a10 : FVec Ideal S2816x1024 .f32), _
  intro a0 a1 a2 a3 a4 a5 a6 a7 a8 a9 a10
  refine Eq.trans ?_ (Rows.value_columns a0 a1 a2 a3 a4 a5 a6 a7 a8 a9 a10 s j)
  unfold Rows.ffn Rows.hidden Rows.gate Rows.rms Rows.merged Rows.mixed Rows.rms Ideal.logistic
  pointwise
  simp only [show ∀ f : ℕ, 2848 + (1024 + f) = 3872 + f from fun f => by omega]
  unfold Rows.columnInv

  rfl

end Cert.MergeReferenceIdeal.RefValue

end
-- ==== Proof.MergeClaim.lean ====
/- The merge and the second feed-forward: the kernel and the plain reference end with the same array. -/
module

public import proofs.«01_k».proof.Defs
public import proofs.«01_k».proof.Proof.MergeArray
public import proofs.«01_k».proof.Proof.MergeReference

@[expose] public section

noncomputable section

namespace Cert.Proof

open Idealize.ShloMosaic Idealize.ShloMosaic.TcCoe Idealize.SL.Sem

theorem merge_algebraic : Cert.algebraic_MergeIdeal_MergeReferenceIdeal := by
  intro m g m' g' _ hag
  refine ⟨fun c => (Cert.MergeIdeal.Gen.dats m 0 c).arrAt 11 Cert.MergeIdeal.cfg0.N, Cert.MergeIdeal.Value.run_blocks m g,
    (θ_run Cert.MergeReferenceIdeal.defs _ _).mono (fun r h c => ⟨(h c).1.trans ?_, (h c).2⟩) (Cert.MergeReferenceIdeal.Value.run m' g')⟩
  obtain ⟨h0, h1, h2, h3, h4, h5, h6, h7, h8, h9, h10⟩ := hag c
  funext i
  obtain ⟨s, j, rfl⟩ : ∃ (s : Fin 32768) (j : Fin 1024), i = ix2 s j := ⟨i 0, i 1, eq_ix2 i⟩
  refine (Cert.MergeReferenceIdeal.RefValue.result_apply m' c s j).trans (Eq.trans ?_ (Cert.MergeIdeal.RefValue.array_apply m c s j).symm)
  rw [h0, h1, h2, h3, h4, h5, h6, h7, h8, h9, h10]

end Cert.Proof

end
-- ==== Proof.lean ====
module

public import proofs.«01_k».proof.Defs
public import proofs.«01_k».proof.Proof.FoxFrames
public import proofs.«01_k».proof.Proof.MergeFrames
public import proofs.«01_k».proof.Proof.FfnFrames
public import proofs.«01_k».proof.Proof.ProjFrames
public import proofs.«01_k».proof.Proof.ProjClaim
public import proofs.«01_k».proof.Proof.FfnClaim
public import proofs.«01_k».proof.Proof.FoxClaim
public import proofs.«01_k».proof.Proof.MergeClaim
public import Idealize.ShloMosaic.Lib.Claim

@[expose] public section

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Ffn.Gen.facts, Cert.FfnIdeal.Gen.facts, Cert.FfnReferenceIdeal.Gen.facts,
    Cert.Proj.Gen.facts, Cert.ProjIdeal.Gen.facts, Cert.ProjReferenceIdeal.Gen.facts, Cert.Pre_fox_inputs.Gen.facts,
    Cert.Pre_proj_inputs.Gen.facts,
    frame_Kernel, frame_KernelIdeal, frame_KernelIdeal_pre, frame_ReferenceIdeal, frame_ReferenceIdeal_pre,
    frame_Merge, frame_MergeIdeal, frame_MergeReferenceIdeal, frame_Ffn, frame_FfnIdeal, frame_FfnReferenceIdeal,
    frame_Proj, frame_ProjIdeal, frame_ProjIdeal_pre, frame_ProjReferenceIdeal, frame_ProjReferenceIdeal_pre,
    preserves_mask, fox_algebraic, trivial, merge_algebraic, trivial, ffn_algebraic, trivial, proj_algebraic⟩

end Cert.Proof

end
